-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_ctx [hPre_finite_ctx : Cert.Pre_finite_ctx.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_ctx.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_ctx [hPre_finite_ctx : Cert.Pre_finite_ctx.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_ctx.fn (F := Ideal) (m ((c.tc : Thread Cert.Reference6Ideal.nD Cert.Reference6Ideal.τ).loc Cert.Reference6Ideal.main_arg0))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_finite_ctx [hKernel6Ideal : Cert.Kernel6Ideal.Facts] [hPre_finite_ctx : Cert.Pre_finite_ctx.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_ctx m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_finite_ctx [hReference6Ideal : Cert.Reference6Ideal.Facts] [hPre_finite_ctx : Cert.Pre_finite_ctx.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_ctx m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_ctx [hKernel6Ideal : Cert.Kernel6Ideal.Facts] [hReference6Ideal : Cert.Reference6Ideal.Facts] [hPre_finite_ctx : Cert.Pre_finite_ctx.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_ctx m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v22)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v54)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v54) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_ctx (hKernel6Ideal := hKernel6Ideal) (hPre_finite_ctx := hPre_finite_ctx)
    ∧ quiescent_Reference6Ideal (hReference6Ideal := hReference6Ideal)
    ∧ quiescent_Reference6Ideal_pre_finite_ctx (hReference6Ideal := hReference6Ideal) (hPre_finite_ctx := hPre_finite_ctx)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_ctx (hKernel6Ideal := hKernel6Ideal) (hReference6Ideal := hReference6Ideal) (hPre_finite_ctx := hPre_finite_ctx)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8x4096x2048 : Shape := ⟨3, ![8, 4096, 2048]⟩
abbrev S8x256x2048 : Shape := ⟨3, ![8, 256, 2048]⟩
abbrev S4x15x31 : Shape := ⟨3, ![4, 15, 31]⟩
abbrev S8x4096x512 : Shape := ⟨3, ![8, 4096, 512]⟩
abbrev S_ : Shape := ⟨0, ![]⟩
abbrev S8x256x256 : Shape := ⟨3, ![8, 256, 256]⟩

class Facts : Prop where
  slices_S8x4096x2048_S8x4096x512_0_0_0 : S8x4096x2048.Slices ![0, 0, 0] S8x4096x512
  bcast_S_S8x4096x512 : S_.BroadcastsInDim S8x4096x512 (![] : Fin 0 → Fin S8x4096x512.rank)
  slices_S8x256x2048_S8x256x256_0_0_256 : S8x256x2048.Slices ![0, 0, 256] S8x256x256
  bcast_S_S8x256x256 : S_.BroadcastsInDim S8x256x256 (![] : Fin 0 → Fin S8x256x256.rank)
  bcast_S_S4x15x31 : S_.BroadcastsInDim S4x15x31 (![] : Fin 0 → Fin S4x15x31.rank)

variable [Facts]

def fn {F : FTy → Type} [FloatOps F] (main_arg0 : FVec F S8x4096x2048 .bf16) (main_arg1 : FVec F S8x256x2048 .bf16) (main_arg2 : FVec F S4x15x31 .f32) : IVec S8x4096x512 1 × IVec S8x256x256 1 × IVec S4x15x31 1 :=
  let main_v0 : FVec F S8x4096x512 .bf16 := (extractStridedSlice S8x4096x512 ![0, 0, 0] · slices_S8x4096x2048_S8x4096x512_0_0_0) main_arg0
  let main_v1 : FVec F S8x4096x512 .bf16 := Host.absf main_v0
  let main_cst : FVec F S_ .bf16 := constant S_ .bf16 0x7F80#16
  let main_v2 : FVec F S8x4096x512 .bf16 := broadcastInDim S8x4096x512 ![] bcast_S_S8x4096x512 main_cst
  let main_v3 : IVec S8x4096x512 1 := cmpf .olt main_v1 main_v2
  let main_v4 : FVec F S8x256x256 .bf16 := (extractStridedSlice S8x256x256 ![0, 0, 256] · slices_S8x256x2048_S8x256x256_0_0_256) main_arg1
  let main_v5 : FVec F S8x256x256 .bf16 := Host.absf main_v4
  let main_cst_0 : FVec F S_ .bf16 := constant S_ .bf16 0x7F80#16
  let main_v6 : FVec F S8x256x256 .bf16 := broadcastInDim S8x256x256 ![] bcast_S_S8x256x256 main_cst_0
  let main_v7 : IVec S8x256x256 1 := cmpf .olt main_v5 main_v6
  let main_v8 : FVec F S4x15x31 .f32 := Host.absf main_arg2
  let main_cst_1 : FVec F S_ .f32 := constant S_ .f32 0x7F800000#32
  let main_v9 : FVec F S4x15x31 .f32 := broadcastInDim S4x15x31 ![] bcast_S_S4x15x31 main_cst_1
  let main_v10 : IVec S4x15x31 1 := cmpf .olt main_v8 main_v9
  (main_v3, main_v7, main_v10)
-- ==== Pre_finite_ctx.lean ====
abbrev S8x256x2048 : Shape := ⟨3, ![8, 256, 2048]⟩
abbrev S8x256x512 : Shape := ⟨3, ![8, 256, 512]⟩
abbrev S_ : Shape := ⟨0, ![]⟩

class Facts : Prop where
  slices_S8x256x2048_S8x256x512_0_0_0 : S8x256x2048.Slices ![0, 0, 0] S8x256x512
  bcast_S_S8x256x512 : S_.BroadcastsInDim S8x256x512 (![] : Fin 0 → Fin S8x256x512.rank)

variable [Facts]

def fn {F : FTy → Type} [FloatOps F] (main_arg0 : FVec F S8x256x2048 .bf16) : IVec S8x256x512 1 :=
  let main_v0 : FVec F S8x256x512 .bf16 := (extractStridedSlice S8x256x512 ![0, 0, 0] · slices_S8x256x2048_S8x256x512_0_0_0) main_arg0
  let main_v1 : FVec F S8x256x512 .bf16 := Host.absf main_v0
  let main_cst : FVec F S_ .bf16 := constant S_ .bf16 0x7F80#16
  let main_v2 : FVec F S8x256x512 .bf16 := broadcastInDim S8x256x512 ![] bcast_S_S8x256x512 main_cst
  let main_v3 : IVec S8x256x512 1 := cmpf .olt main_v1 main_v2
  main_v3
-- ==== Kernel.lean ====
abbrev S8x4096x2048 : Shape := ⟨3, ![8, 4096, 2048]⟩
abbrev S8x256x2048 : Shape := ⟨3, ![8, 256, 2048]⟩
abbrev S4x15x31 : Shape := ⟨3, ![4, 15, 31]⟩
abbrev S4 : Shape := ⟨1, ![4]⟩
abbrev S12 : Shape := ⟨1, ![12]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x12 : Shape := ⟨2, ![1, 12]⟩
abbrev S4x1 : Shape := ⟨2, ![4, 1]⟩
abbrev S4x12 : Shape := ⟨2, ![4, 12]⟩
abbrev S4x1x12x1 : Shape := ⟨4, ![4, 1, 12, 1]⟩
abbrev S1x64x1x64 : Shape := ⟨4, ![1, 64, 1, 64]⟩
abbrev S4x64x12x64 : Shape := ⟨4, ![4, 64, 12, 64]⟩
abbrev S4x64x12x64x1 : Shape := ⟨5, ![4, 64, 12, 64, 1]⟩
abbrev S4x64x12x64x2 : Shape := ⟨5, ![4, 64, 12, 64, 2]⟩
abbrev S4x4x64x12x64 : Shape := ⟨5, ![4, 4, 64, 12, 64]⟩
abbrev S1x4x64x12x64 : Shape := ⟨5, ![1, 4, 64, 12, 64]⟩
abbrev S4x256x768 : Shape := ⟨3, ![4, 256, 768]⟩
abbrev S1x4x256x768 : Shape := ⟨4, ![1, 4, 256, 768]⟩
abbrev S3x4x256x768 : Shape := ⟨4, ![3, 4, 256, 768]⟩
abbrev S8x4096x256 : Shape := ⟨3, ![8, 4096, 256]⟩
abbrev S1x256x256 : Shape := ⟨3, ![1, 256, 256]⟩
abbrev S1x4096x256 : Shape := ⟨3, ![1, 4096, 256]⟩
abbrev S256x256 : Shape := ⟨2, ![256, 256]⟩
abbrev S1x768x256 : Shape := ⟨3, ![1, 768, 256]⟩
abbrev S768x256 : Shape := ⟨2, ![768, 256]⟩
abbrev S1x256 : Shape := ⟨2, ![1, 256]⟩
abbrev S1x1x256x768 : Shape := ⟨4, ![1, 1, 256, 768]⟩
abbrev S256x768 : Shape := ⟨2, ![256, 768]⟩
abbrev S256 : Shape := ⟨1, ![256]⟩
abbrev S256x1 : Shape := ⟨2, ![256, 1]⟩

abbrev nBuf : Space → Nat
  | .hbm => 312
  | .vmem => 13
  | .smem => 0
  | _ => 0

abbrev hbmTy0_0 (i : Nat) : BufTy := match i % 128 with
  | 0 => ⟨S8x4096x2048, .bf16⟩
  | 1 => ⟨S8x256x2048, .bf16⟩
  | 2 => ⟨S4x15x31, .f32⟩
  | 3 => ⟨S4, .i32⟩
  | 4 => ⟨S12, .i32⟩
  | 5 => ⟨S64, .i32⟩
  | 6 => ⟨S_, .i32⟩
  | 7 => ⟨S64, .i32⟩
  | 8 => ⟨S64, .i32⟩
  | 9 => ⟨S_, .i32⟩
  | 10 => ⟨S_, .i32⟩
  | 11 => ⟨S_, .i32⟩
  | 12 => ⟨S64, .i32⟩
  | 13 => ⟨S64, .i32⟩
  | 14 => ⟨S_, .i32⟩
  | 15 => ⟨S64, .i32⟩
  | 16 => ⟨S64, .i32⟩
  | 17 => ⟨S1x64, .i32⟩
  | 18 => ⟨S64x1, .i32⟩
  | 19 => ⟨S64x64, .i32⟩
  | 20 => ⟨S64x64, .i32⟩
  | 21 => ⟨S64x64, .i1⟩
  | 22 => ⟨S1x64, .i32⟩
  | 23 => ⟨S64x1, .i32⟩
  | 24 => ⟨S_, .i32⟩
  | 25 => ⟨S64x1, .i32⟩
  | 26 => ⟨S64x1, .i32⟩
  | 27 => ⟨S64x64, .i32⟩
  | 28 => ⟨S64x64, .i32⟩
  | 29 => ⟨S64x64, .i1⟩
  | 30 => ⟨S64x64, .i1⟩
  | 31 => ⟨S1x64, .i32⟩
  | 32 => ⟨S64x1, .i32⟩
  | 33 => ⟨S64x64, .i32⟩
  | 34 => ⟨S64x64, .i32⟩
  | 35 => ⟨S64x64, .i32⟩
  | 36 => ⟨S_, .i32⟩
  | 37 => ⟨S_, .i32⟩
  | 38 => ⟨S_, .i32⟩
  | 39 => ⟨S64x64, .i32⟩
  | 40 => ⟨S64x64, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i32⟩
  | 47 => ⟨S_, .i32⟩
  | 48 => ⟨S64x64, .i32⟩
  | 49 => ⟨S64x64, .i32⟩
  | 50 => ⟨S4x15x31, .bf16⟩
  | 51 => ⟨S4x15x31, .f32⟩
  | 52 => ⟨S_, .i32⟩
  | 53 => ⟨S4, .i32⟩
  | 54 => ⟨S4, .i32⟩
  | 55 => ⟨S_, .i32⟩
  | 56 => ⟨S12, .i32⟩
  | 57 => ⟨S12, .i32⟩
  | 58 => ⟨S_, .i32⟩
  | 59 => ⟨S4, .i32⟩
  | 60 => ⟨S4, .i32⟩
  | 61 => ⟨S_, .i32⟩
  | 62 => ⟨S_, .i32⟩
  | 63 => ⟨S_, .i32⟩
  | 64 => ⟨S4, .i32⟩
  | 65 => ⟨S4, .i32⟩
  | 66 => ⟨S_, .i32⟩
  | 67 => ⟨S4, .i32⟩
  | 68 => ⟨S4, .i32⟩
  | 69 => ⟨S1x12, .i32⟩
  | 70 => ⟨S4x1, .i32⟩
  | 71 => ⟨S4x12, .i32⟩
  | 72 => ⟨S4x12, .i32⟩
  | 73 => ⟨S4x12, .i1⟩
  | 74 => ⟨S1x12, .i32⟩
  | 75 => ⟨S4x1, .i32⟩
  | 76 => ⟨S_, .i32⟩
  | 77 => ⟨S4x1, .i32⟩
  | 78 => ⟨S4x1, .i32⟩
  | 79 => ⟨S4x12, .i32⟩
  | 80 => ⟨S4x12, .i32⟩
  | 81 => ⟨S4x12, .i1⟩
  | 82 => ⟨S4x12, .i1⟩
  | 83 => ⟨S1x12, .i32⟩
  | 84 => ⟨S4x1, .i32⟩
  | 85 => ⟨S4x12, .i32⟩
  | 86 => ⟨S4x12, .i32⟩
  | 87 => ⟨S4x12, .i32⟩
  | 88 => ⟨S_, .i32⟩
  | 89 => ⟨S4x12, .i32⟩
  | 90 => ⟨S4x12, .i32⟩
  | 91 => ⟨S_, .i32⟩
  | 92 => ⟨S4x12, .i32⟩
  | 93 => ⟨S4x12, .i32⟩
  | 94 => ⟨S_, .i32⟩
  | 95 => ⟨S_, .i32⟩
  | 96 => ⟨S_, .i32⟩
  | 97 => ⟨S4x12, .i32⟩
  | 98 => ⟨S4x12, .i32⟩
  | 99 => ⟨S_, .i32⟩
  | 100 => ⟨S4x12, .i32⟩
  | 101 => ⟨S4x12, .i32⟩
  | 102 => ⟨S4x1x12x1, .i32⟩
  | 103 => ⟨S1x64x1x64, .i32⟩
  | 104 => ⟨S_, .i32⟩
  | 105 => ⟨S4x1x12x1, .i32⟩
  | 106 => ⟨S4x1x12x1, .i1⟩
  | 107 => ⟨S_, .i32⟩
  | 108 => ⟨S4x1x12x1, .i32⟩
  | 109 => ⟨S4x1x12x1, .i32⟩
  | 110 => ⟨S4x1x12x1, .i32⟩
  | 111 => ⟨S_, .i32⟩
  | 112 => ⟨S1x64x1x64, .i32⟩
  | 113 => ⟨S1x64x1x64, .i1⟩
  | 114 => ⟨S_, .i32⟩
  | 115 => ⟨S1x64x1x64, .i32⟩
  | 116 => ⟨S1x64x1x64, .i32⟩
  | 117 => ⟨S1x64x1x64, .i32⟩
  | 118 => ⟨S4x64x12x64, .i32⟩
  | 119 => ⟨S4x64x12x64, .i32⟩
  | 120 => ⟨S4x64x12x64x1, .i32⟩
  | 121 => ⟨S4x64x12x64x1, .i32⟩
  | 122 => ⟨S4x64x12x64x2, .i32⟩
  | 123 => ⟨S4x4x64x12x64, .f32⟩
  | 124 => ⟨S4x1x12x1, .i1⟩
  | 125 => ⟨S1x64x1x64, .i1⟩
  | 126 => ⟨S4x64x12x64, .i1⟩
  | 127 => ⟨S4x64x12x64, .i1⟩
  | _ => ⟨S8x4096x2048, .bf16⟩

abbrev hbmTy0_1 (i : Nat) : BufTy := match i % 128 with
  | 0 => ⟨S4x64x12x64, .i1⟩
  | 1 => ⟨S1x4x64x12x64, .i1⟩
  | 2 => ⟨S_, .f32⟩
  | 3 => ⟨S_, .f32⟩
  | 4 => ⟨S4x4x64x12x64, .i1⟩
  | 5 => ⟨S4x4x64x12x64, .f32⟩
  | 6 => ⟨S4x4x64x12x64, .f32⟩
  | 7 => ⟨S4x256x768, .f32⟩
  | 8 => ⟨S4x256x768, .bf16⟩
  | 9 => ⟨S_, .i32⟩
  | 10 => ⟨S4, .i32⟩
  | 11 => ⟨S4, .i32⟩
  | 12 => ⟨S_, .i32⟩
  | 13 => ⟨S12, .i32⟩
  | 14 => ⟨S12, .i32⟩
  | 15 => ⟨S_, .i32⟩
  | 16 => ⟨S4, .i32⟩
  | 17 => ⟨S4, .i32⟩
  | 18 => ⟨S_, .i32⟩
  | 19 => ⟨S_, .i32⟩
  | 20 => ⟨S_, .i32⟩
  | 21 => ⟨S4, .i32⟩
  | 22 => ⟨S4, .i32⟩
  | 23 => ⟨S_, .i32⟩
  | 24 => ⟨S4, .i32⟩
  | 25 => ⟨S4, .i32⟩
  | 26 => ⟨S1x12, .i32⟩
  | 27 => ⟨S4x1, .i32⟩
  | 28 => ⟨S4x12, .i32⟩
  | 29 => ⟨S4x12, .i32⟩
  | 30 => ⟨S4x12, .i1⟩
  | 31 => ⟨S1x12, .i32⟩
  | 32 => ⟨S4x1, .i32⟩
  | 33 => ⟨S_, .i32⟩
  | 34 => ⟨S4x1, .i32⟩
  | 35 => ⟨S4x1, .i32⟩
  | 36 => ⟨S4x12, .i32⟩
  | 37 => ⟨S4x12, .i32⟩
  | 38 => ⟨S4x12, .i1⟩
  | 39 => ⟨S4x12, .i1⟩
  | 40 => ⟨S1x12, .i32⟩
  | 41 => ⟨S4x1, .i32⟩
  | 42 => ⟨S4x12, .i32⟩
  | 43 => ⟨S4x12, .i32⟩
  | 44 => ⟨S4x12, .i32⟩
  | 45 => ⟨S_, .i32⟩
  | 46 => ⟨S4x12, .i32⟩
  | 47 => ⟨S4x12, .i32⟩
  | 48 => ⟨S_, .i32⟩
  | 49 => ⟨S4x12, .i32⟩
  | 50 => ⟨S4x12, .i32⟩
  | 51 => ⟨S_, .i32⟩
  | 52 => ⟨S_, .i32⟩
  | 53 => ⟨S_, .i32⟩
  | 54 => ⟨S4x12, .i32⟩
  | 55 => ⟨S4x12, .i32⟩
  | 56 => ⟨S_, .i32⟩
  | 57 => ⟨S4x12, .i32⟩
  | 58 => ⟨S4x12, .i32⟩
  | 59 => ⟨S4x1x12x1, .i32⟩
  | 60 => ⟨S1x64x1x64, .i32⟩
  | 61 => ⟨S_, .i32⟩
  | 62 => ⟨S4x1x12x1, .i32⟩
  | 63 => ⟨S4x1x12x1, .i1⟩
  | 64 => ⟨S_, .i32⟩
  | 65 => ⟨S4x1x12x1, .i32⟩
  | 66 => ⟨S4x1x12x1, .i32⟩
  | 67 => ⟨S4x1x12x1, .i32⟩
  | 68 => ⟨S_, .i32⟩
  | 69 => ⟨S1x64x1x64, .i32⟩
  | 70 => ⟨S1x64x1x64, .i1⟩
  | 71 => ⟨S_, .i32⟩
  | 72 => ⟨S1x64x1x64, .i32⟩
  | 73 => ⟨S1x64x1x64, .i32⟩
  | 74 => ⟨S1x64x1x64, .i32⟩
  | 75 => ⟨S4x64x12x64, .i32⟩
  | 76 => ⟨S4x64x12x64, .i32⟩
  | 77 => ⟨S4x64x12x64x1, .i32⟩
  | 78 => ⟨S4x64x12x64x1, .i32⟩
  | 79 => ⟨S4x64x12x64x2, .i32⟩
  | 80 => ⟨S4x4x64x12x64, .f32⟩
  | 81 => ⟨S4x1x12x1, .i1⟩
  | 82 => ⟨S1x64x1x64, .i1⟩
  | 83 => ⟨S4x64x12x64, .i1⟩
  | 84 => ⟨S4x64x12x64, .i1⟩
  | 85 => ⟨S4x64x12x64, .i1⟩
  | 86 => ⟨S1x4x64x12x64, .i1⟩
  | 87 => ⟨S_, .f32⟩
  | 88 => ⟨S_, .f32⟩
  | 89 => ⟨S4x4x64x12x64, .i1⟩
  | 90 => ⟨S4x4x64x12x64, .f32⟩
  | 91 => ⟨S4x4x64x12x64, .f32⟩
  | 92 => ⟨S4x256x768, .f32⟩
  | 93 => ⟨S4x256x768, .bf16⟩
  | 94 => ⟨S_, .i32⟩
  | 95 => ⟨S4, .i32⟩
  | 96 => ⟨S4, .i32⟩
  | 97 => ⟨S_, .i32⟩
  | 98 => ⟨S12, .i32⟩
  | 99 => ⟨S12, .i32⟩
  | 100 => ⟨S_, .i32⟩
  | 101 => ⟨S4, .i32⟩
  | 102 => ⟨S4, .i32⟩
  | 103 => ⟨S_, .i32⟩
  | 104 => ⟨S_, .i32⟩
  | 105 => ⟨S_, .i32⟩
  | 106 => ⟨S4, .i32⟩
  | 107 => ⟨S4, .i32⟩
  | 108 => ⟨S_, .i32⟩
  | 109 => ⟨S4, .i32⟩
  | 110 => ⟨S4, .i32⟩
  | 111 => ⟨S1x12, .i32⟩
  | 112 => ⟨S4x1, .i32⟩
  | 113 => ⟨S4x12, .i32⟩
  | 114 => ⟨S4x12, .i32⟩
  | 115 => ⟨S4x12, .i1⟩
  | 116 => ⟨S1x12, .i32⟩
  | 117 => ⟨S4x1, .i32⟩
  | 118 => ⟨S_, .i32⟩
  | 119 => ⟨S4x1, .i32⟩
  | 120 => ⟨S4x1, .i32⟩
  | 121 => ⟨S4x12, .i32⟩
  | 122 => ⟨S4x12, .i32⟩
  | 123 => ⟨S4x12, .i1⟩
  | 124 => ⟨S4x12, .i1⟩
  | 125 => ⟨S1x12, .i32⟩
  | 126 => ⟨S4x1, .i32⟩
  | 127 => ⟨S4x12, .i32⟩
  | _ => ⟨S8x4096x2048, .bf16⟩

abbrev hbmTy0_2 (i : Nat) : BufTy := match i % 128 with
  | 0 => ⟨S4x12, .i32⟩
  | 1 => ⟨S4x12, .i32⟩
  | 2 => ⟨S_, .i32⟩
  | 3 => ⟨S4x12, .i32⟩
  | 4 => ⟨S4x12, .i32⟩
  | 5 => ⟨S_, .i32⟩
  | 6 => ⟨S4x12, .i32⟩
  | 7 => ⟨S4x12, .i32⟩
  | 8 => ⟨S_, .i32⟩
  | 9 => ⟨S_, .i32⟩
  | 10 => ⟨S_, .i32⟩
  | 11 => ⟨S4x12, .i32⟩
  | 12 => ⟨S4x12, .i32⟩
  | 13 => ⟨S_, .i32⟩
  | 14 => ⟨S4x12, .i32⟩
  | 15 => ⟨S4x12, .i32⟩
  | 16 => ⟨S4x1x12x1, .i32⟩
  | 17 => ⟨S1x64x1x64, .i32⟩
  | 18 => ⟨S_, .i32⟩
  | 19 => ⟨S4x1x12x1, .i32⟩
  | 20 => ⟨S4x1x12x1, .i1⟩
  | 21 => ⟨S_, .i32⟩
  | 22 => ⟨S4x1x12x1, .i32⟩
  | 23 => ⟨S4x1x12x1, .i32⟩
  | 24 => ⟨S4x1x12x1, .i32⟩
  | 25 => ⟨S_, .i32⟩
  | 26 => ⟨S1x64x1x64, .i32⟩
  | 27 => ⟨S1x64x1x64, .i1⟩
  | 28 => ⟨S_, .i32⟩
  | 29 => ⟨S1x64x1x64, .i32⟩
  | 30 => ⟨S1x64x1x64, .i32⟩
  | 31 => ⟨S1x64x1x64, .i32⟩
  | 32 => ⟨S4x64x12x64, .i32⟩
  | 33 => ⟨S4x64x12x64, .i32⟩
  | 34 => ⟨S4x64x12x64x1, .i32⟩
  | 35 => ⟨S4x64x12x64x1, .i32⟩
  | 36 => ⟨S4x64x12x64x2, .i32⟩
  | 37 => ⟨S4x4x64x12x64, .f32⟩
  | 38 => ⟨S4x1x12x1, .i1⟩
  | 39 => ⟨S1x64x1x64, .i1⟩
  | 40 => ⟨S4x64x12x64, .i1⟩
  | 41 => ⟨S4x64x12x64, .i1⟩
  | 42 => ⟨S4x64x12x64, .i1⟩
  | 43 => ⟨S1x4x64x12x64, .i1⟩
  | 44 => ⟨S_, .f32⟩
  | 45 => ⟨S_, .f32⟩
  | 46 => ⟨S4x4x64x12x64, .i1⟩
  | 47 => ⟨S4x4x64x12x64, .f32⟩
  | 48 => ⟨S4x4x64x12x64, .f32⟩
  | 49 => ⟨S4x256x768, .f32⟩
  | 50 => ⟨S4x256x768, .bf16⟩
  | 51 => ⟨S1x4x256x768, .bf16⟩
  | 52 => ⟨S1x4x256x768, .bf16⟩
  | 53 => ⟨S1x4x256x768, .bf16⟩
  | 54 => ⟨S3x4x256x768, .bf16⟩
  | 55 => ⟨S8x4096x256, .bf16⟩
  | _ => ⟨S8x4096x2048, .bf16⟩

abbrev hbmTy (i : Nat) : BufTy := match i / 128 with
  | 0 => hbmTy0_0 i
  | 1 => hbmTy0_1 i
  | 2 => hbmTy0_2 i
  | _ => ⟨S8x4096x2048, .bf16⟩

abbrev bufTy : (tb : Table) → Fin (tcTables nBuf tb) → BufTy
  | .hbm, ⟨i, _⟩ => hbmTy i
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S3x4x256x768, .bf16⟩
  | .local _ .vmem, ⟨11, _⟩ => ⟨S1x256x256, .bf16⟩
  | .local _ .vmem, ⟨12, _⟩ => ⟨S1x256x256, .bf16⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_c_11 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_c_14 : Ref sig .tc := ⟨.hbm, 91, rfl⟩
abbrev main_v58 : Ref sig .tc := ⟨.hbm, 92, rfl⟩
abbrev main_v59 : Ref sig .tc := ⟨.hbm, 93, rfl⟩
abbrev main_c_15 : Ref sig .tc := ⟨.hbm, 94, rfl⟩
abbrev main_c_16 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_17 : Ref sig .tc := ⟨.hbm, 104, rfl⟩
abbrev main_v63 : Ref sig .tc := ⟨.hbm, 105, rfl⟩
abbrev main_v64 : Ref sig .tc := ⟨.hbm, 106, rfl⟩
abbrev main_c_18 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_19 : Ref sig .tc := ⟨.hbm, 111, rfl⟩
abbrev main_v68 : Ref sig .tc := ⟨.hbm, 112, rfl⟩
abbrev main_v69 : Ref sig .tc := ⟨.hbm, 113, rfl⟩
abbrev main_c_20 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_21 : Ref sig .tc := ⟨.hbm, 137, rfl⟩
abbrev main_v88 : Ref sig .tc := ⟨.hbm, 138, rfl⟩
abbrev main_v89 : Ref sig .tc := ⟨.hbm, 139, rfl⟩
abbrev main_c_22 : Ref sig .tc := ⟨.hbm, 140, rfl⟩
abbrev main_v90 : Ref sig .tc := ⟨.hbm, 141, rfl⟩
abbrev main_v91 : Ref sig .tc := ⟨.hbm, 142, rfl⟩
abbrev main_c_23 : Ref sig .tc := ⟨.hbm, 143, rfl⟩
abbrev main_v92 : Ref sig .tc := ⟨.hbm, 144, rfl⟩
abbrev main_v93 : Ref sig .tc := ⟨.hbm, 145, rfl⟩
abbrev main_c_24 : Ref sig .tc := ⟨.hbm, 146, rfl⟩
abbrev main_c_25 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_c_26 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_c_27 : Ref sig .tc := ⟨.hbm, 173, rfl⟩
abbrev main_v113 : Ref sig .tc := ⟨.hbm, 174, rfl⟩
abbrev main_v114 : Ref sig .tc := ⟨.hbm, 175, rfl⟩
abbrev main_c_28 : Ref sig .tc := ⟨.hbm, 176, rfl⟩
abbrev main_v115 : Ref sig .tc := ⟨.hbm, 177, rfl⟩
abbrev main_v116 : Ref sig .tc := ⟨.hbm, 178, rfl⟩
abbrev main_c_29 : Ref sig .tc := ⟨.hbm, 179, rfl⟩
abbrev main_c_30 : Ref sig .tc := ⟨.hbm, 180, rfl⟩
abbrev main_call6_v0 : Ref sig .tc := ⟨.hbm, 181, rfl⟩
abbrev main_call6_v1 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_c_31 : Ref sig .tc := ⟨.hbm, 189, rfl⟩
abbrev main_v120 : Ref sig .tc := ⟨.hbm, 190, rfl⟩
abbrev main_v121 : Ref sig .tc := ⟨.hbm, 191, rfl⟩
abbrev main_c_32 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_c_33 : Ref sig .tc := ⟨.hbm, 196, rfl⟩
abbrev main_v125 : Ref sig .tc := ⟨.hbm, 197, rfl⟩
abbrev main_v126 : Ref sig .tc := ⟨.hbm, 198, rfl⟩
abbrev main_c_34 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_cst_35 : Ref sig .tc := ⟨.hbm, 215, rfl⟩
abbrev main_call7_v0 : Ref sig .tc := ⟨.hbm, 216, rfl⟩
abbrev main_call7_v1 : Ref sig .tc := ⟨.hbm, 217, rfl⟩
abbrev main_call7_v2 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_c_36 : Ref sig .tc := ⟨.hbm, 222, rfl⟩
abbrev main_v145 : Ref sig .tc := ⟨.hbm, 223, rfl⟩
abbrev main_v146 : Ref sig .tc := ⟨.hbm, 224, rfl⟩
abbrev main_c_37 : Ref sig .tc := ⟨.hbm, 225, rfl⟩
abbrev main_v147 : Ref sig .tc := ⟨.hbm, 226, rfl⟩
abbrev main_v148 : Ref sig .tc := ⟨.hbm, 227, rfl⟩
abbrev main_c_38 : Ref sig .tc := ⟨.hbm, 228, rfl⟩
abbrev main_v149 : Ref sig .tc := ⟨.hbm, 229, rfl⟩
abbrev main_v150 : Ref sig .tc := ⟨.hbm, 230, rfl⟩
abbrev main_c_39 : Ref sig .tc := ⟨.hbm, 231, rfl⟩
abbrev main_c_40 : Ref sig .tc := ⟨.hbm, 232, rfl⟩
abbrev main_call8_v0 : Ref sig .tc := ⟨.hbm, 233, rfl⟩
abbrev main_call8_v1 : Ref sig .tc := ⟨.hbm, 234, rfl⟩
abbrev main_call8_v2 : Ref sig .tc := ⟨.hbm, 235, rfl⟩
abbrev main_call8_v3 : Ref sig .tc := ⟨.hbm, 236, rfl⟩
abbrev main_call8_v4 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_c_41 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_c_42 : Ref sig .tc := ⟨.hbm, 258, rfl⟩
abbrev main_v170 : Ref sig .tc := ⟨.hbm, 259, rfl⟩
abbrev main_v171 : Ref sig .tc := ⟨.hbm, 260, rfl⟩
abbrev main_c_43 : Ref sig .tc := ⟨.hbm, 261, rfl⟩
abbrev main_v172 : Ref sig .tc := ⟨.hbm, 262, rfl⟩
abbrev main_v173 : Ref sig .tc := ⟨.hbm, 263, rfl⟩
abbrev main_c_44 : Ref sig .tc := ⟨.hbm, 264, rfl⟩
abbrev main_c_45 : Ref sig .tc := ⟨.hbm, 265, rfl⟩
abbrev main_call9_v0 : Ref sig .tc := ⟨.hbm, 266, rfl⟩
abbrev main_call9_v1 : Ref sig .tc := ⟨.hbm, 267, rfl⟩
abbrev main_call9_v2 : Ref sig .tc := ⟨.hbm, 268, rfl⟩
abbrev main_call9_v3 : Ref sig .tc := ⟨.hbm, 269, rfl⟩
abbrev main_call9_v4 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_c_46 : Ref sig .tc := ⟨.hbm, 274, rfl⟩
abbrev main_v177 : Ref sig .tc := ⟨.hbm, 275, rfl⟩
abbrev main_v178 : Ref sig .tc := ⟨.hbm, 276, rfl⟩
abbrev main_c_47 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_c_48 : Ref sig .tc := ⟨.hbm, 281, rfl⟩
abbrev main_v182 : Ref sig .tc := ⟨.hbm, 282, rfl⟩
abbrev main_v183 : Ref sig .tc := ⟨.hbm, 283, rfl⟩
abbrev main_c_49 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_cst_50 : Ref sig .tc := ⟨.hbm, 300, rfl⟩
abbrev main_call10_v0 : Ref sig .tc := ⟨.hbm, 301, rfl⟩
abbrev main_call10_v1 : Ref sig .tc := ⟨.hbm, 302, rfl⟩
abbrev main_call10_v2 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c52_i32 : BitVec 32 := 52#32
  let c0_i32_2 : BitVec 32 := 0#32
  let c4_i32 : BitVec 32 := 4#32
  let arg1 : BitVec 32 := BitVec.ofNat 32 (i 1).val
  let v4 : BitVec 32 := Scalar.muli c4_i32 arg1
  let c4_i32_1 : BitVec 32 := 4#32
  let v5 : BitVec 32 := Scalar.subi v4 c4_i32_1
  let v6 : BitVec 32 := Scalar.maxsi c0_i32_2 v5
  let v7 : BitVec 32 := Scalar.minsi c52_i32 v6
  let c64_i32 : BitVec 32 := 64#32
  let v8 : BitVec 32 := Scalar.muli v7 c64_i32
  v8
def k0_off1 (i : grid0.Coords) : Fin 3 → Nat :=
  let c0_5 : Index := 0#32
  let c52_i32 : BitVec 32 := 52#32
  let c0_i32_2 : BitVec 32 := 0#32
  let c4_i32 : BitVec 32 := 4#32
  let arg1 : BitVec 32 := BitVec.ofNat 32 (i 1).val
  let v4 : BitVec 32 := Scalar.muli c4_i32 arg1
  let c4_i32_1 : BitVec 32 := 4#32
  let v5 : BitVec 32 := Scalar.subi v4 c4_i32_1
  let v6 : BitVec 32 := Scalar.maxsi c0_i32_2 v5
  let v7 : BitVec 32 := Scalar.minsi c52_i32 v6
  let c64_i32 : BitVec 32 := 64#32
  let v8 : BitVec 32 := Scalar.muli v7 c64_i32
  let v9 : BitVec 32 := v8
  let v12 : Index := Scalar.indexCast v9
  let c0_6 : Index := 0#32
  ![0, v12.toNat, 0]
def k0_off2 (i : grid0.Coords) : Fin 4 → Nat :=
  let arg1 : BitVec 32 := BitVec.ofNat 32 (i 1).val
  let c0_i32 : BitVec 32 := 0#32
  let v0 : BitVec 1 := Scalar.cmpi .eq arg1 c0_i32
  let c0_i32_0 : BitVec 32 := 0#32
  let c15_i32 : BitVec 32 := 15#32
  let v1 : BitVec 1 := Scalar.cmpi .eq arg1 c15_i32
  let c2_i32 : BitVec 32 := 2#32
  let c1_i32 : BitVec 32 := 1#32
  let v2 : BitVec 32 := Scalar.select v1 c2_i32 c1_i32
  let v3 : BitVec 32 := Scalar.select v0 c0_i32_0 v2
  let v33 : Index := Scalar.indexCast v3
  let c0_18 : Index := 0#32
  let c0_19 : Index := 0#32
  let c0_20 : Index := 0#32
  ![v33.toNat, 0, 0, 0]
def k0_off3 (i : grid0.Coords) : Fin 4 → Nat :=
  let arg1 : BitVec 32 := BitVec.ofNat 32 (i 1).val
  let c0_i32 : BitVec 32 := 0#32
  let v0 : BitVec 1 := Scalar.cmpi .eq arg1 c0_i32
  let c0_i32_0 : BitVec 32 := 0#32
  let c15_i32 : BitVec 32 := 15#32
  let v1 : BitVec 1 := Scalar.cmpi .eq arg1 c15_i32
  let c2_i32 : BitVec 32 := 2#32
  let c1_i32 : BitVec 32 := 1#32
  let v2 : BitVec 32 := Scalar.select v1 c2_i32 c1_i32
  let v3 : BitVec 32 := Scalar.select v0 c0_i32_0 v2
  let v81 : Index := Scalar.indexCast v3
  let c1 : Index := 1#32
  let c0_34 : Index := 0#32
  let c0_35 : Index := 0#32
  ![v81.toNat, 1, 0, 0]
def k0_off4 (i : grid0.Coords) : Fin 4 → Nat :=
  let arg1 : BitVec 32 := BitVec.ofNat 32 (i 1).val
  let c0_i32 : BitVec 32 := 0#32
  let v0 : BitVec 1 := Scalar.cmpi .eq arg1 c0_i32
  let c0_i32_0 : BitVec 32 := 0#32
  let c15_i32 : BitVec 32 := 15#32
  let v1 : BitVec 1 := Scalar.cmpi .eq arg1 c15_i32
  let c2_i32 : BitVec 32 := 2#32
  let c1_i32 : BitVec 32 := 1#32
  let v2 : BitVec 32 := Scalar.select v1 c2_i32 c1_i32
  let v3 : BitVec 32 := Scalar.select v0 c0_i32_0 v2
  let v129 : Index := Scalar.indexCast v3
  let c2 : Index := 2#32
  let c0_49 : Index := 0#32
  let c0_50 : Index := 0#32
  ![v129.toNat, 2, 0, 0]
def k0_off5 (i : grid0.Coords) : Fin 4 → Nat :=
  let arg1 : BitVec 32 := BitVec.ofNat 32 (i 1).val
  let c0_i32 : BitVec 32 := 0#32
  let v0 : BitVec 1 := Scalar.cmpi .eq arg1 c0_i32
  let c0_i32_0 : BitVec 32 := 0#32
  let c15_i32 : BitVec 32 := 15#32
  let v1 : BitVec 1 := Scalar.cmpi .eq arg1 c15_i32
  let c2_i32 : BitVec 32 := 2#32
  let c1_i32 : BitVec 32 := 1#32
  let v2 : BitVec 32 := Scalar.select v1 c2_i32 c1_i32
  let v3 : BitVec 32 := Scalar.select v0 c0_i32_0 v2
  let v177 : Index := Scalar.indexCast v3
  let c3 : Index := 3#32
  let c0_64 : Index := 0#32
  let c0_65 : Index := 0#32
  ![v177.toNat, 3, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x4x256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x2048 : Shape := ⟨3, ![8, 4096, 2048]⟩
abbrev S8x256x2048 : Shape := ⟨3, ![8, 256, 2048]⟩
abbrev S4x15x31 : Shape := ⟨3, ![4, 15, 31]⟩
abbrev S8x4096x256 : Shape := ⟨3, ![8, 4096, 256]⟩
abbrev S8x256x256 : Shape := ⟨3, ![8, 256, 256]⟩
abbrev S8x4096x4x64 : Shape := ⟨4, ![8, 4096, 4, 64]⟩
abbrev S8x4x4096x64 : Shape := ⟨4, ![8, 4, 4096, 64]⟩
abbrev S8x4x64x64x64 : Shape := ⟨5, ![8, 4, 64, 64, 64]⟩
abbrev S8x256x4x64 : Shape := ⟨4, ![8, 256, 4, 64]⟩
abbrev S8x4x256x64 : Shape := ⟨4, ![8, 4, 256, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S8x4x64x8x64x64 : Shape := ⟨6, ![8, 4, 64, 8, 64, 64]⟩
abbrev S8x4x64x512x64 : Shape := ⟨5, ![8, 4, 64, 512, 64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S64x512 : Shape := ⟨2, ![64, 512]⟩
abbrev S64x8x64 : Shape := ⟨3, ![64, 8, 64]⟩
abbrev S64x1x512 : Shape := ⟨3, ![64, 1, 512]⟩
abbrev S1x64x512 : Shape := ⟨3, ![1, 64, 512]⟩
abbrev S64x64x512 : Shape := ⟨3, ![64, 64, 512]⟩
abbrev S64x64x512x1 : Shape := ⟨4, ![64, 64, 512, 1]⟩
abbrev S64x64x512x2 : Shape := ⟨4, ![64, 64, 512, 2]⟩
abbrev S4x64x64x512 : Shape := ⟨4, ![4, 64, 64, 512]⟩
abbrev S8x4x64x64x512 : Shape := ⟨5, ![8, 4, 64, 64, 512]⟩
abbrev S1x4x64x64x512 : Shape := ⟨5, ![1, 4, 64, 64, 512]⟩
abbrev S8x4x64x64x256 : Shape := ⟨5, ![8, 4, 64, 64, 256]⟩
abbrev S8x4x64x64x768 : Shape := ⟨5, ![8, 4, 64, 64, 768]⟩
abbrev S8x4x64x64 : Shape := ⟨4, ![8, 4, 64, 64]⟩
abbrev S8x4x64x64x1 : Shape := ⟨5, ![8, 4, 64, 64, 1]⟩
abbrev S8x64x64x4x64 : Shape := ⟨5, ![8, 64, 64, 4, 64]⟩

abbrev nBuf : Space → Nat
  | .hbm => 181
  | .vmem => 0
  | .smem => 0
  | _ => 0

abbrev hbmTy0_0 (i : Nat) : BufTy := match i % 128 with
  | 0 => ⟨S8x4096x2048, .bf16⟩
  | 1 => ⟨S8x256x2048, .bf16⟩
  | 2 => ⟨S4x15x31, .f32⟩
  | 3 => ⟨S8x4096x2048, .f32⟩
  | 4 => ⟨S8x256x2048, .f32⟩
  | 5 => ⟨S8x4096x256, .f32⟩
  | 6 => ⟨S8x4096x256, .f32⟩
  | 7 => ⟨S8x4096x256, .f32⟩
  | 8 => ⟨S8x256x256, .f32⟩
  | 9 => ⟨S8x256x256, .f32⟩
  | 10 => ⟨S8x4096x4x64, .f32⟩
  | 11 => ⟨S8x4x4096x64, .f32⟩
  | 12 => ⟨S8x4x64x64x64, .f32⟩
  | 13 => ⟨S8x4096x4x64, .f32⟩
  | 14 => ⟨S8x4x4096x64, .f32⟩
  | 15 => ⟨S8x4x64x64x64, .f32⟩
  | 16 => ⟨S8x4096x4x64, .f32⟩
  | 17 => ⟨S8x4x4096x64, .f32⟩
  | 18 => ⟨S8x4x64x64x64, .f32⟩
  | 19 => ⟨S8x256x4x64, .f32⟩
  | 20 => ⟨S8x4x256x64, .f32⟩
  | 21 => ⟨S8x256x4x64, .f32⟩
  | 22 => ⟨S8x4x256x64, .f32⟩
  | 23 => ⟨S64, .i32⟩
  | 24 => ⟨S64, .i32⟩
  | 25 => ⟨S_, .i32⟩
  | 26 => ⟨S64, .i32⟩
  | 27 => ⟨S64, .i32⟩
  | 28 => ⟨S_, .i32⟩
  | 29 => ⟨S_, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S64x1, .i32⟩
  | 37 => ⟨S8, .i32⟩
  | 38 => ⟨S1x8, .i32⟩
  | 39 => ⟨S64x8, .i32⟩
  | 40 => ⟨S64x8, .i32⟩
  | 41 => ⟨S64x8, .i32⟩
  | 42 => ⟨S_, .i32⟩
  | 43 => ⟨S64, .i32⟩
  | 44 => ⟨S64, .i32⟩
  | 45 => ⟨S_, .i32⟩
  | 46 => ⟨S_, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S_, .i32⟩
  | 54 => ⟨S64x8, .i32⟩
  | 55 => ⟨S64x8, .i1⟩
  | 56 => ⟨S_, .i32⟩
  | 57 => ⟨S64x8, .i32⟩
  | 58 => ⟨S64x8, .i32⟩
  | 59 => ⟨S64x8, .i32⟩
  | 60 => ⟨S64x8x1, .i32⟩
  | 61 => ⟨S8x4x64x8x64x64, .f32⟩
  | 62 => ⟨S8x4x64x512x64, .f32⟩
  | 63 => ⟨S_, .i32⟩
  | 64 => ⟨S64x8, .i32⟩
  | 65 => ⟨S64x8, .i1⟩
  | 66 => ⟨S_, .i32⟩
  | 67 => ⟨S64x8, .i32⟩
  | 68 => ⟨S64x8, .i32⟩
  | 69 => ⟨S64x8, .i32⟩
  | 70 => ⟨S64x8x1, .i32⟩
  | 71 => ⟨S8x4x64x8x64x64, .f32⟩
  | 72 => ⟨S8x4x64x512x64, .f32⟩
  | 73 => ⟨S1x64, .i32⟩
  | 74 => ⟨S8x64, .i32⟩
  | 75 => ⟨S512, .i32⟩
  | 76 => ⟨S1x512, .i32⟩
  | 77 => ⟨S64x1, .i32⟩
  | 78 => ⟨S64x512, .i32⟩
  | 79 => ⟨S64x512, .i32⟩
  | 80 => ⟨S64x512, .i1⟩
  | 81 => ⟨S1x512, .i32⟩
  | 82 => ⟨S64x1, .i32⟩
  | 83 => ⟨S_, .i32⟩
  | 84 => ⟨S64x1, .i32⟩
  | 85 => ⟨S64x1, .i32⟩
  | 86 => ⟨S64x512, .i32⟩
  | 87 => ⟨S64x512, .i32⟩
  | 88 => ⟨S64x512, .i1⟩
  | 89 => ⟨S64x512, .i1⟩
  | 90 => ⟨S64x8x64, .i32⟩
  | 91 => ⟨S64x512, .i32⟩
  | 92 => ⟨S64x1, .i32⟩
  | 93 => ⟨S64x512, .i32⟩
  | 94 => ⟨S64x512, .i32⟩
  | 95 => ⟨S1x512, .i32⟩
  | 96 => ⟨S64x1, .i32⟩
  | 97 => ⟨S64x512, .i32⟩
  | 98 => ⟨S64x512, .i32⟩
  | 99 => ⟨S64x512, .i32⟩
  | 100 => ⟨S_, .i32⟩
  | 101 => ⟨S_, .i32⟩
  | 102 => ⟨S_, .i32⟩
  | 103 => ⟨S64x512, .i32⟩
  | 104 => ⟨S64x512, .i32⟩
  | 105 => ⟨S_, .i32⟩
  | 106 => ⟨S64x512, .i32⟩
  | 107 => ⟨S64x512, .i32⟩
  | 108 => ⟨S_, .i32⟩
  | 109 => ⟨S64x512, .i32⟩
  | 110 => ⟨S64x512, .i32⟩
  | 111 => ⟨S_, .i32⟩
  | 112 => ⟨S64x512, .i32⟩
  | 113 => ⟨S64x512, .i32⟩
  | 114 => ⟨S64x1x512, .i32⟩
  | 115 => ⟨S_, .i32⟩
  | 116 => ⟨S64x512, .i32⟩
  | 117 => ⟨S64x512, .i32⟩
  | 118 => ⟨S_, .i32⟩
  | 119 => ⟨S64x512, .i32⟩
  | 120 => ⟨S64x512, .i32⟩
  | 121 => ⟨S1x64x512, .i32⟩
  | 122 => ⟨S_, .i32⟩
  | 123 => ⟨S64x1x512, .i32⟩
  | 124 => ⟨S64x1x512, .i1⟩
  | 125 => ⟨S_, .i32⟩
  | 126 => ⟨S64x1x512, .i32⟩
  | 127 => ⟨S64x1x512, .i32⟩
  | _ => ⟨S8x4096x2048, .bf16⟩

abbrev hbmTy0_1 (i : Nat) : BufTy := match i % 128 with
  | 0 => ⟨S64x1x512, .i32⟩
  | 1 => ⟨S_, .i32⟩
  | 2 => ⟨S1x64x512, .i32⟩
  | 3 => ⟨S1x64x512, .i1⟩
  | 4 => ⟨S_, .i32⟩
  | 5 => ⟨S1x64x512, .i32⟩
  | 6 => ⟨S1x64x512, .i32⟩
  | 7 => ⟨S1x64x512, .i32⟩
  | 8 => ⟨S64x64x512, .i32⟩
  | 9 => ⟨S64x64x512, .i32⟩
  | 10 => ⟨S64x64x512x1, .i32⟩
  | 11 => ⟨S64x64x512x1, .i32⟩
  | 12 => ⟨S64x64x512x2, .i32⟩
  | 13 => ⟨S4x64x64x512, .f32⟩
  | 14 => ⟨S8x4x64x64x512, .f32⟩
  | 15 => ⟨S_, .f32⟩
  | 16 => ⟨S8x4x64x64x512, .f32⟩
  | 17 => ⟨S8x4x64x64x512, .f32⟩
  | 18 => ⟨S1x4x64x64x512, .f32⟩
  | 19 => ⟨S8x4x64x64x512, .f32⟩
  | 20 => ⟨S8x4x64x64x512, .f32⟩
  | 21 => ⟨S_, .f32⟩
  | 22 => ⟨S_, .f32⟩
  | 23 => ⟨S8x4x64x64x512, .i1⟩
  | 24 => ⟨S8x4x64x64x512, .f32⟩
  | 25 => ⟨S8x4x64x64x512, .f32⟩
  | 26 => ⟨S8x4x64x64x256, .f32⟩
  | 27 => ⟨S_, .f32⟩
  | 28 => ⟨S8x4x64x64x256, .f32⟩
  | 29 => ⟨S8x4x64x64x256, .f32⟩
  | 30 => ⟨S8x4x64x64x768, .f32⟩
  | 31 => ⟨S_, .f32⟩
  | 32 => ⟨S8x4x64x64, .f32⟩
  | 33 => ⟨S_, .f32⟩
  | 34 => ⟨S8x4x64x64, .f32⟩
  | 35 => ⟨S8x4x64x64, .f32⟩
  | 36 => ⟨S8x4x64x64x1, .f32⟩
  | 37 => ⟨S8x4x64x64x768, .f32⟩
  | 38 => ⟨S8x4x64x64x768, .f32⟩
  | 39 => ⟨S8x4x64x64x768, .f32⟩
  | 40 => ⟨S_, .f32⟩
  | 41 => ⟨S8x4x64x64, .f32⟩
  | 42 => ⟨S8x4x64x64x1, .f32⟩
  | 43 => ⟨S8x4x64x64x768, .f32⟩
  | 44 => ⟨S8x4x64x64x768, .f32⟩
  | 45 => ⟨S8x4x64x64x512, .f32⟩
  | 46 => ⟨S8x4x64x64x64, .f32⟩
  | 47 => ⟨S8x4x64x64x256, .f32⟩
  | 48 => ⟨S8x4x64x64x64, .f32⟩
  | 49 => ⟨S8x4x64x64x64, .f32⟩
  | 50 => ⟨S8x64x64x4x64, .f32⟩
  | 51 => ⟨S8x4096x256, .f32⟩
  | 52 => ⟨S8x4096x256, .bf16⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_c_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_c_11 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v76 : Ref sig .tc := ⟨.hbm, 107, rfl⟩
abbrev main_c_12 : Ref sig .tc := ⟨.hbm, 108, rfl⟩
abbrev main_v77 : Ref sig .tc := ⟨.hbm, 109, rfl⟩
abbrev main_v78 : Ref sig .tc := ⟨.hbm, 110, rfl⟩
abbrev main_c_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_14 : Ref sig .tc := ⟨.hbm, 115, rfl⟩
abbrev main_v82 : Ref sig .tc := ⟨.hbm, 116, rfl⟩
abbrev main_v83 : Ref sig .tc := ⟨.hbm, 117, rfl⟩
abbrev main_c_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_16 : Ref sig .tc := ⟨.hbm, 122, rfl⟩
abbrev main_v87 : Ref sig .tc := ⟨.hbm, 123, rfl⟩
abbrev main_v88 : Ref sig .tc := ⟨.hbm, 124, rfl⟩
abbrev main_c_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_18 : Ref sig .tc := ⟨.hbm, 129, rfl⟩
abbrev main_v92 : Ref sig .tc := ⟨.hbm, 130, rfl⟩
abbrev main_v93 : Ref sig .tc := ⟨.hbm, 131, rfl⟩
abbrev main_c_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_20 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_v109 : Ref sig .tc := ⟨.hbm, 153, rfl⟩
abbrev main_v110 : Ref sig .tc := ⟨.hbm, 154, rfl⟩
abbrev main_cst_21 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_22 : Ref sig .tc := ⟨.hbm, 159, rfl⟩
abbrev main_v114 : Ref sig .tc := ⟨.hbm, 160, rfl⟩
abbrev main_cst_23 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_24 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S8x1024 : Shape := ⟨2, ![8, 1024]⟩
abbrev S1024x2048 : Shape := ⟨2, ![1024, 2048]⟩
abbrev S1x1024 : Shape := ⟨2, ![1, 1024]⟩
abbrev S8x1x1024 : Shape := ⟨3, ![8, 1, 1024]⟩
abbrev S8x4096x2048 : Shape := ⟨3, ![8, 4096, 2048]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2048, .f32⟩
  | .hbm, ⟨5, _⟩ => ⟨S1024x2048, .bf16⟩
  | .hbm, ⟨6, _⟩ => ⟨S1x1024, .f32⟩
  | .hbm, ⟨7, _⟩ => ⟨S8x1x1024, .f32⟩
  | .hbm, ⟨8, _⟩ => ⟨S8x1x1024, .f32⟩
  | .hbm, ⟨9, _⟩ => ⟨S8x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1x512x2048, .bf16⟩
  | .local _ .vmem, ⟨9, _⟩ => ⟨S1x512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x1024 : Shape := ⟨3, ![8, 4096, 1024]⟩
abbrev S1024 : Shape := ⟨1, ![1024]⟩
abbrev S8x1024 : Shape := ⟨2, ![8, 1024]⟩
abbrev S1024x2048 : Shape := ⟨2, ![1024, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2048 : Shape := ⟨3, ![8, 4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2048, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x2048, .f32⟩
  | .hbm, ⟨31, _⟩ => ⟨S8x4096x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S8x1024 : Shape := ⟨2, ![8, 1024]⟩
abbrev S1024x2048 : Shape := ⟨2, ![1024, 2048]⟩
abbrev S8x2x128x128 : Shape := ⟨4, ![8, 2, 128, 128]⟩
abbrev S2048x1024 : Shape := ⟨2, ![2048, 1024]⟩
abbrev S16x128x128 : Shape := ⟨3, ![16, 128, 128]⟩
abbrev S1x1024 : Shape := ⟨2, ![1, 1024]⟩
abbrev S8x1x1024 : Shape := ⟨3, ![8, 1, 1024]⟩
abbrev S1024x32768 : Shape := ⟨2, ![1024, 32768]⟩
abbrev S2048x32768 : Shape := ⟨2, ![2048, 32768]⟩
abbrev S1x512x1024 : Shape := ⟨3, ![1, 512, 1024]⟩
abbrev S1x1x1024 : Shape := ⟨3, ![1, 1, 1024]⟩
abbrev S1024x512 : Shape := ⟨2, ![1024, 512]⟩
abbrev S2048x512 : Shape := ⟨2, ![2048, 512]⟩
abbrev S512x1024 : Shape := ⟨2, ![512, 1024]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x512 : Shape := ⟨2, ![128, 512]⟩

abbrev nBuf : Space → Nat
  | .hbm => 15
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2048, .f32⟩
  | .hbm, ⟨5, _⟩ => ⟨S8x2x128x128, .f32⟩
  | .hbm, ⟨6, _⟩ => ⟨S2048x1024, .f32⟩
  | .hbm, ⟨7, _⟩ => ⟨S2048x1024, .bf16⟩
  | .hbm, ⟨8, _⟩ => ⟨S16x128x128, .f32⟩
  | .hbm, ⟨9, _⟩ => ⟨S16x128x128, .bf16⟩
  | .hbm, ⟨10, _⟩ => ⟨S1x1024, .f32⟩
  | .hbm, ⟨11, _⟩ => ⟨S8x1x1024, .f32⟩
  | .hbm, ⟨12, _⟩ => ⟨S8x1x1024, .f32⟩
  | .hbm, ⟨13, _⟩ => ⟨S1024x32768, .fp8e4m3⟩
  | .hbm, ⟨14, _⟩ => ⟨S2048x32768, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S2048x1024, .bf16⟩
  | .local _ .vmem, ⟨8, _⟩ => ⟨S16x128x128, .bf16⟩
  | .local _ .vmem, ⟨9, _⟩ => ⟨S1024x512, .fp8e4m3⟩
  | .local _ .vmem, ⟨10, _⟩ => ⟨S1024x512, .fp8e4m3⟩
  | .local _ .vmem, ⟨11, _⟩ => ⟨S2048x512, .f32⟩
  | .local _ .vmem, ⟨12, _⟩ => ⟨S2048x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S1024 : Shape := ⟨1, ![1024]⟩
abbrev S8x1024 : Shape := ⟨2, ![8, 1024]⟩
abbrev S1024x2048 : Shape := ⟨2, ![1024, 2048]⟩
abbrev S8x2x128x128 : Shape := ⟨4, ![8, 2, 128, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S32768x1024 : Shape := ⟨2, ![32768, 1024]⟩
abbrev S32768x2048 : Shape := ⟨2, ![32768, 2048]⟩
abbrev S32768x8x2x128 : Shape := ⟨4, ![32768, 8, 2, 128]⟩
abbrev S8x2x128x32768 : Shape := ⟨4, ![8, 2, 128, 32768]⟩
abbrev S1024x32768 : Shape := ⟨2, ![1024, 32768]⟩
abbrev S2048x32768 : Shape := ⟨2, ![2048, 32768]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2048, .f32⟩
  | .hbm, ⟨5, _⟩ => ⟨S8x2x128x128, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S32768x1024, .f32⟩
  | .hbm, ⟨32, _⟩ => ⟨S32768x2048, .f32⟩
  | .hbm, ⟨33, _⟩ => ⟨S32768x8x2x128, .f32⟩
  | .hbm, ⟨34, _⟩ => ⟨S8x2x128x32768, .f32⟩
  | .hbm, ⟨35, _⟩ => ⟨S32768x8x2x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .fp8e4m3⟩
  | .hbm, ⟨45, _⟩ => ⟨S1024x32768, .fp8e4m3⟩
  | .hbm, ⟨46, _⟩ => ⟨S32768x2048, .f32⟩
  | .hbm, ⟨47, _⟩ => ⟨S2048x32768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel4.lean ====
abbrev S8x4096x256 : Shape := ⟨3, ![8, 4096, 256]⟩
abbrev S4352x2048 : Shape := ⟨2, ![4352, 2048]⟩
abbrev S8x4096x2048 : Shape := ⟨3, ![8, 4096, 2048]⟩
abbrev S8x4096x1024 : Shape := ⟨3, ![8, 4096, 1024]⟩
abbrev S8x1024 : Shape := ⟨2, ![8, 1024]⟩
abbrev S3x256 : Shape := ⟨2, ![3, 256]⟩
abbrev S256 : Shape := ⟨1, ![256]⟩
abbrev S256x256 : Shape := ⟨2, ![256, 256]⟩
abbrev S4x256 : Shape := ⟨2, ![4, 256]⟩
abbrev S1024x1024 : Shape := ⟨2, ![1024, 1024]⟩
abbrev S8x1x1024 : Shape := ⟨3, ![8, 1, 1024]⟩
abbrev S1x256 : Shape := ⟨2, ![1, 256]⟩
abbrev S1x512x256 : Shape := ⟨3, ![1, 512, 256]⟩
abbrev S1x8x256 : Shape := ⟨3, ![1, 8, 256]⟩
abbrev S512x256 : Shape := ⟨2, ![512, 256]⟩
abbrev S1x512x1024 : Shape := ⟨3, ![1, 512, 1024]⟩
abbrev S1x1x1024 : Shape := ⟨3, ![1, 1, 1024]⟩
abbrev S1x1x256 : Shape := ⟨3, ![1, 1, 256]⟩
abbrev S512 : Shape := ⟨1, ![512]⟩
abbrev S512x1 : Shape := ⟨2, ![512, 1]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 17
  | .vmem => 35
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S4352x2048, .f32⟩
  | .hbm, ⟨3, _⟩ => ⟨S4352x2048, .f32⟩
  | .hbm, ⟨4, _⟩ => ⟨S8x4096x2048, .bf16⟩
  | .hbm, ⟨5, _⟩ => ⟨S8x4096x1024, .f32⟩
  | .hbm, ⟨6, _⟩ => ⟨S8x1024, .f32⟩
  | .hbm, ⟨7, _⟩ => ⟨S3x256, .f32⟩
  | .hbm, ⟨8, _⟩ => ⟨S256, .f32⟩
  | .hbm, ⟨9, _⟩ => ⟨S256x256, .f32⟩
  | .hbm, ⟨10, _⟩ => ⟨S4x256, .f32⟩
  | .hbm, ⟨11, _⟩ => ⟨S1024x1024, .f32⟩
  | .hbm, ⟨12, _⟩ => ⟨S256x256, .bf16⟩
  | .hbm, ⟨13, _⟩ => ⟨S1024x1024, .bf16⟩
  | .hbm, ⟨14, _⟩ => ⟨S8x1x1024, .f32⟩
  | .hbm, ⟨15, _⟩ => ⟨S1x256, .f32⟩
  | .hbm, ⟨16, _⟩ => ⟨S8x4096x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x8x256, .bf16⟩
  | .local _ .vmem, ⟨9, _⟩ => ⟨S1x8x256, .bf16⟩
  | .local _ .vmem, ⟨10, _⟩ => ⟨S1x8x256, .bf16⟩
  | .local _ .vmem, ⟨11, _⟩ => ⟨S1x8x256, .bf16⟩
  | .local _ .vmem, ⟨12, _⟩ => ⟨S1x8x256, .bf16⟩
  | .local _ .vmem, ⟨13, _⟩ => ⟨S1x8x256, .bf16⟩
  | .local _ .vmem, ⟨14, _⟩ => ⟨S1x8x256, .bf16⟩
  | .local _ .vmem, ⟨15, _⟩ => ⟨S1x8x256, .bf16⟩
  | .local _ .vmem, ⟨16, _⟩ => ⟨S1x512x256, .bf16⟩
  | .local _ .vmem, ⟨17, _⟩ => ⟨S1x512x256, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S1x512x256, .bf16⟩
  | .local _ .vmem, ⟨23, _⟩ => ⟨S1x512x256, .bf16⟩
  | .local _ .vmem, ⟨24, _⟩ => ⟨S1x512x1024, .f32⟩
  | .local _ .vmem, ⟨25, _⟩ => ⟨S1x512x1024, .f32⟩
  | .local _ .vmem, ⟨26, _⟩ => ⟨S1x1x1024, .f32⟩
  | .local _ .vmem, ⟨27, _⟩ => ⟨S1x1x1024, .f32⟩
  | .local _ .vmem, ⟨28, _⟩ => ⟨S3x256, .f32⟩
  | .local _ .vmem, ⟨29, _⟩ => ⟨S1x256, .f32⟩
  | .local _ .vmem, ⟨30, _⟩ => ⟨S256x256, .bf16⟩
  | .local _ .vmem, ⟨31, _⟩ => ⟨S4x256, .f32⟩
  | .local _ .vmem, ⟨32, _⟩ => ⟨S1024x1024, .bf16⟩
  | .local _ .vmem, ⟨33, _⟩ => ⟨S1x512x1024, .f32⟩
  | .local _ .vmem, ⟨34, _⟩ => ⟨S1x512x1024, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c4_i32 : BitVec 32 := 4#32
  let c0_i32 : BitVec 32 := 0#32
  ![arg0.toNat, v2.toNat, c4_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c5_i32 : BitVec 32 := 5#32
  let c0_i32 : BitVec 32 := 0#32
  ![arg0.toNat, v2.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S8x4096x256 : Shape := ⟨3, ![8, 4096, 256]⟩
abbrev S4352x2048 : Shape := ⟨2, ![4352, 2048]⟩
abbrev S8x4096x2048 : Shape := ⟨3, ![8, 4096, 2048]⟩
abbrev S8x4096x1024 : Shape := ⟨3, ![8, 4096, 1024]⟩
abbrev S8x1024 : Shape := ⟨2, ![8, 1024]⟩
abbrev S3x256 : Shape := ⟨2, ![3, 256]⟩
abbrev S256 : Shape := ⟨1, ![256]⟩
abbrev S256x256 : Shape := ⟨2, ![256, 256]⟩
abbrev S4x256 : Shape := ⟨2, ![4, 256]⟩
abbrev S1024x1024 : Shape := ⟨2, ![1024, 1024]⟩
abbrev S_ : Shape := ⟨0, ![]⟩
abbrev S8x4098x256 : Shape := ⟨3, ![8, 4098, 256]⟩
abbrev S1x256 : Shape := ⟨2, ![1, 256]⟩
abbrev S1x1x256 : Shape := ⟨3, ![1, 1, 256]⟩
abbrev S4096x2048 : Shape := ⟨2, ![4096, 2048]⟩
abbrev S4096x8x256 : Shape := ⟨3, ![4096, 8, 256]⟩
abbrev S8x1x1024 : Shape := ⟨3, ![8, 1, 1024]⟩
abbrev S8x4096x1x256 : Shape := ⟨4, ![8, 4096, 1, 256]⟩
abbrev S8x4096x4x256 : Shape := ⟨4, ![8, 4096, 4, 256]⟩
abbrev S8x4096x4 : Shape := ⟨3, ![8, 4096, 4]⟩
abbrev S8x4096x4x1 : Shape := ⟨4, ![8, 4096, 4, 1]⟩
abbrev S1x1x4x256 : Shape := ⟨4, ![1, 1, 4, 256]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S4352x2048, .f32⟩
  | .hbm, ⟨3, _⟩ => ⟨S4352x2048, .f32⟩
  | .hbm, ⟨4, _⟩ => ⟨S8x4096x2048, .bf16⟩
  | .hbm, ⟨5, _⟩ => ⟨S8x4096x1024, .f32⟩
  | .hbm, ⟨6, _⟩ => ⟨S8x1024, .f32⟩
  | .hbm, ⟨7, _⟩ => ⟨S3x256, .f32⟩
  | .hbm, ⟨8, _⟩ => ⟨S256, .f32⟩
  | .hbm, ⟨9, _⟩ => ⟨S256x256, .f32⟩
  | .hbm, ⟨10, _⟩ => ⟨S4x256, .f32⟩
  | .hbm, ⟨11, _⟩ => ⟨S1024x1024, .f32⟩
  | .hbm, ⟨12, _⟩ => ⟨S8x4096x2048, .f32⟩
  | .hbm, ⟨13, _⟩ => ⟨S8x4096x256, .f32⟩
  | .hbm, ⟨14, _⟩ => ⟨S8x4096x256, .f32⟩
  | .hbm, ⟨15, _⟩ => ⟨S8x4096x256, .f32⟩
  | .hbm, ⟨16, _⟩ => ⟨S8x4096x256, .f32⟩
  | .hbm, ⟨17, _⟩ => ⟨S8x4096x256, .f32⟩
  | .hbm, ⟨18, _⟩ => ⟨S_, .i32⟩
  | .hbm, ⟨19, _⟩ => ⟨S_, .f32⟩
  | .hbm, ⟨20, _⟩ => ⟨S8x4098x256, .f32⟩
  | .hbm, ⟨21, _⟩ => ⟨S8x4096x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S8x4096x256, .f32⟩
  | .hbm, ⟨26, _⟩ => ⟨S8x4096x256, .f32⟩
  | .hbm, ⟨27, _⟩ => ⟨S8x4096x256, .f32⟩
  | .hbm, ⟨28, _⟩ => ⟨S1x256, .f32⟩
  | .hbm, ⟨29, _⟩ => ⟨S256, .f32⟩
  | .hbm, ⟨30, _⟩ => ⟨S1x1x256, .f32⟩
  | .hbm, ⟨31, _⟩ => ⟨S8x4096x256, .f32⟩
  | .hbm, ⟨32, _⟩ => ⟨S8x4096x256, .f32⟩
  | .hbm, ⟨33, _⟩ => ⟨S8x4096x256, .f32⟩
  | .hbm, ⟨34, _⟩ => ⟨S8x4096x256, .f32⟩
  | .hbm, ⟨35, _⟩ => ⟨S1x256, .f32⟩
  | .hbm, ⟨36, _⟩ => ⟨S256, .f32⟩
  | .hbm, ⟨37, _⟩ => ⟨S1x1x256, .f32⟩
  | .hbm, ⟨38, _⟩ => ⟨S8x4096x256, .f32⟩
  | .hbm, ⟨39, _⟩ => ⟨S8x4096x256, .f32⟩
  | .hbm, ⟨40, _⟩ => ⟨S8x4096x256, .f32⟩
  | .hbm, ⟨41, _⟩ => ⟨S8x4096x256, .f32⟩
  | .hbm, ⟨42, _⟩ => ⟨S4096x2048, .f32⟩
  | .hbm, ⟨43, _⟩ => ⟨S4096x8x256, .f32⟩
  | .hbm, ⟨44, _⟩ => ⟨S8x4096x256, .f32⟩
  | .hbm, ⟨45, _⟩ => ⟨S4096x2048, .f32⟩
  | .hbm, ⟨46, _⟩ => ⟨S4096x8x256, .f32⟩
  | .hbm, ⟨47, _⟩ => ⟨S8x4096x256, .f32⟩
  | .hbm, ⟨48, _⟩ => ⟨S8x4096x256, .f32⟩
  | .hbm, ⟨49, _⟩ => ⟨S1x1x256, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S8x4096x256, .f32⟩
  | .hbm, ⟨54, _⟩ => ⟨S8x4096x256, .f32⟩
  | .hbm, ⟨55, _⟩ => ⟨S_, .f32⟩
  | .hbm, ⟨56, _⟩ => ⟨S8x4096x256, .f32⟩
  | .hbm, ⟨57, _⟩ => ⟨S8x4096x256, .f32⟩
  | .hbm, ⟨58, _⟩ => ⟨S8x4096x256, .f32⟩
  | .hbm, ⟨59, _⟩ => ⟨S_, .f32⟩
  | .hbm, ⟨60, _⟩ => ⟨S8x4096x256, .f32⟩
  | .hbm, ⟨61, _⟩ => ⟨S8x4096x256, .f32⟩
  | .hbm, ⟨62, _⟩ => ⟨S8x4096x256, .f32⟩
  | .hbm, ⟨63, _⟩ => ⟨S_, .f32⟩
  | .hbm, ⟨64, _⟩ => ⟨S8x4096x256, .f32⟩
  | .hbm, ⟨65, _⟩ => ⟨S8x4096x256, .f32⟩
  | .hbm, ⟨66, _⟩ => ⟨S_, .f32⟩
  | .hbm, ⟨67, _⟩ => ⟨S8x4096x256, .f32⟩
  | .hbm, ⟨68, _⟩ => ⟨S8x4096x256, .f32⟩
  | .hbm, ⟨69, _⟩ => ⟨S8x4096x256, .f32⟩
  | .hbm, ⟨70, _⟩ => ⟨S8x4096x256, .f32⟩
  | .hbm, ⟨71, _⟩ => ⟨S8x4096x256, .f32⟩
  | .hbm, ⟨72, _⟩ => ⟨S8x4096x256, .f32⟩
  | .hbm, ⟨73, _⟩ => ⟨S_, .f32⟩
  | .hbm, ⟨74, _⟩ => ⟨S8x4096x256, .f32⟩
  | .hbm, ⟨75, _⟩ => ⟨S8x4096x256, .f32⟩
  | .hbm, ⟨76, _⟩ => ⟨S_, .f32⟩
  | .hbm, ⟨77, _⟩ => ⟨S8x4096x256, .f32⟩
  | .hbm, ⟨78, _⟩ => ⟨S8x4096x256, .f32⟩
  | .hbm, ⟨79, _⟩ => ⟨S8x4096x256, .f32⟩
  | .hbm, ⟨80, _⟩ => ⟨S8x4096x256, .f32⟩
  | .hbm, ⟨81, _⟩ => ⟨S8x4096x256, .f32⟩
  | .hbm, ⟨82, _⟩ => ⟨S8x1x1024, .f32⟩
  | .hbm, ⟨83, _⟩ => ⟨S8x4096x1x256, .f32⟩
  | .hbm, ⟨84, _⟩ => ⟨S8x4096x1x256, .f32⟩
  | .hbm, ⟨85, _⟩ => ⟨S8x4096x1x256, .f32⟩
  | .hbm, ⟨86, _⟩ => ⟨S8x4096x1x256, .f32⟩
  | .hbm, ⟨87, _⟩ => ⟨S8x4096x4x256, .f32⟩
  | .hbm, ⟨88, _⟩ => ⟨S8x4096x4x256, .f32⟩
  | .hbm, ⟨89, _⟩ => ⟨S_, .f32⟩
  | .hbm, ⟨90, _⟩ => ⟨S8x4096x4, .f32⟩
  | .hbm, ⟨91, _⟩ => ⟨S8x4096x4x1, .f32⟩
  | .hbm, ⟨92, _⟩ => ⟨S_, .f32⟩
  | .hbm, ⟨93, _⟩ => ⟨S8x4096x4x1, .f32⟩
  | .hbm, ⟨94, _⟩ => ⟨S8x4096x4x1, .f32⟩
  | .hbm, ⟨95, _⟩ => ⟨S_, .f32⟩
  | .hbm, ⟨96, _⟩ => ⟨S8x4096x4x1, .f32⟩
  | .hbm, ⟨97, _⟩ => ⟨S8x4096x4x1, .f32⟩
  | .hbm, ⟨98, _⟩ => ⟨S8x4096x4x1, .f32⟩
  | .hbm, ⟨99, _⟩ => ⟨S8x4096x4x256, .f32⟩
  | .hbm, ⟨100, _⟩ => ⟨S8x4096x4x256, .f32⟩
  | .hbm, ⟨101, _⟩ => ⟨S1x1x4x256, .f32⟩
  | .hbm, ⟨102, _⟩ => ⟨S8x4096x4x256, .f32⟩
  | .hbm, ⟨103, _⟩ => ⟨S8x4096x4x256, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | .hbm, ⟨108, _⟩ => ⟨S8x4096x1024, .f32⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_0 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_1 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_5 : Ref sig .tc := ⟨.hbm, 89, rfl⟩
abbrev main_v69 : Ref sig .tc := ⟨.hbm, 90, rfl⟩
abbrev main_v70 : Ref sig .tc := ⟨.hbm, 91, rfl⟩
abbrev main_cst_6 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== Kernel5.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S16x1024 : Shape := ⟨2, ![16, 1024]⟩
abbrev S1 : Shape := ⟨1, ![1]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S2x1x6144, .f32⟩
  | .hbm, ⟨13, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x6144, .f32⟩
  | .hbm, ⟨18, _⟩ => ⟨S1024x6144, .f32⟩
  | .hbm, ⟨19, _⟩ => ⟨S16x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S16x6144, .f32⟩
  | .hbm, ⟨24, _⟩ => ⟨S16x6144, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x1024x6144, .f32⟩
  | .hbm, ⟨35, _⟩ => ⟨S1024x6144, .f32⟩
  | .hbm, ⟨36, _⟩ => ⟨S16x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S16x6144, .f32⟩
  | .hbm, ⟨41, _⟩ => ⟨S16x6144, .f32⟩
  | .hbm, ⟨42, _⟩ => ⟨S1x16x6144, .f32⟩
  | .hbm, ⟨43, _⟩ => ⟨S1x16x6144, .f32⟩
  | .hbm, ⟨44, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel6.lean ====
abbrev S8x256x2048 : Shape := ⟨3, ![8, 256, 2048]⟩
abbrev S8x256x256 : Shape := ⟨3, ![8, 256, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S8x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x256x2048 : Shape := ⟨3, ![8, 256, 2048]⟩
abbrev S8x256x256 : Shape := ⟨3, ![8, 256, 256]⟩
abbrev S8x256x4x64 : Shape := ⟨4, ![8, 256, 4, 64]⟩
abbrev S8x4x256x64 : Shape := ⟨4, ![8, 4, 256, 64]⟩
abbrev S8x4x256x256 : Shape := ⟨4, ![8, 4, 256, 256]⟩
abbrev S_ : Shape := ⟨0, ![]⟩
abbrev S8x4x256 : Shape := ⟨3, ![8, 4, 256]⟩
abbrev S8x4x256x1 : Shape := ⟨4, ![8, 4, 256, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .f32⟩
  | .hbm, ⟨2, _⟩ => ⟨S8x256x256, .f32⟩
  | .hbm, ⟨3, _⟩ => ⟨S8x256x256, .f32⟩
  | .hbm, ⟨4, _⟩ => ⟨S8x256x256, .f32⟩
  | .hbm, ⟨5, _⟩ => ⟨S8x256x4x64, .f32⟩
  | .hbm, ⟨6, _⟩ => ⟨S8x4x256x64, .f32⟩
  | .hbm, ⟨7, _⟩ => ⟨S8x256x4x64, .f32⟩
  | .hbm, ⟨8, _⟩ => ⟨S8x4x256x64, .f32⟩
  | .hbm, ⟨9, _⟩ => ⟨S8x256x4x64, .f32⟩
  | .hbm, ⟨10, _⟩ => ⟨S8x4x256x64, .f32⟩
  | .hbm, ⟨11, _⟩ => ⟨S8x4x256x256, .f32⟩
  | .hbm, ⟨12, _⟩ => ⟨S_, .f32⟩
  | .hbm, ⟨13, _⟩ => ⟨S8x4x256x256, .f32⟩
  | .hbm, ⟨14, _⟩ => ⟨S8x4x256x256, .f32⟩
  | .hbm, ⟨15, _⟩ => ⟨S_, .f32⟩
  | .hbm, ⟨16, _⟩ => ⟨S8x4x256, .f32⟩
  | .hbm, ⟨17, _⟩ => ⟨S_, .f32⟩
  | .hbm, ⟨18, _⟩ => ⟨S8x4x256, .f32⟩
  | .hbm, ⟨19, _⟩ => ⟨S8x4x256, .f32⟩
  | .hbm, ⟨20, _⟩ => ⟨S8x4x256x1, .f32⟩
  | .hbm, ⟨21, _⟩ => ⟨S8x4x256x256, .f32⟩
  | .hbm, ⟨22, _⟩ => ⟨S8x4x256x256, .f32⟩
  | .hbm, ⟨23, _⟩ => ⟨S8x4x256x256, .f32⟩
  | .hbm, ⟨24, _⟩ => ⟨S_, .f32⟩
  | .hbm, ⟨25, _⟩ => ⟨S8x4x256, .f32⟩
  | .hbm, ⟨26, _⟩ => ⟨S8x4x256x1, .f32⟩
  | .hbm, ⟨27, _⟩ => ⟨S8x4x256x256, .f32⟩
  | .hbm, ⟨28, _⟩ => ⟨S8x4x256x256, .f32⟩
  | .hbm, ⟨29, _⟩ => ⟨S8x4x256x64, .f32⟩
  | .hbm, ⟨30, _⟩ => ⟨S8x256x4x64, .f32⟩
  | .hbm, ⟨31, _⟩ => ⟨S8x256x256, .f32⟩
  | .hbm, ⟨32, _⟩ => ⟨S8x256x256, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel7.lean ====
abbrev S8x4096x2048 : Shape := ⟨3, ![8, 4096, 2048]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8x8192x256 : Shape := ⟨3, ![8, 8192, 256]⟩
abbrev S1x4096x256 : Shape := ⟨3, ![1, 4096, 256]⟩
abbrev S1x8192x256 : Shape := ⟨3, ![1, 8192, 256]⟩
abbrev S4096x256 : Shape := ⟨2, ![4096, 256]⟩

abbrev nBuf : Space → Nat
  | .hbm => 57
  | .vmem => 6
  | .smem => 0
  | _ => 0

abbrev bufTy : (tb : Table) → Fin (tcTables nBuf tb) → BufTy
  | .hbm, ⟨0, _⟩ => ⟨S8x4096x2048, .bf16⟩
  | .hbm, ⟨1, _⟩ => ⟨S64, .i32⟩
  | .hbm, ⟨2, _⟩ => ⟨S64x1, .i32⟩
  | .hbm, ⟨3, _⟩ => ⟨S1x64, .i32⟩
  | .hbm, ⟨4, _⟩ => ⟨S64x64, .i32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i1⟩
  | .hbm, ⟨18, _⟩ => ⟨S_, .i32⟩
  | .hbm, ⟨19, _⟩ => ⟨S64x64, .i32⟩
  | .hbm, ⟨20, _⟩ => ⟨S64x64, .i1⟩
  | .hbm, ⟨21, _⟩ => ⟨S_, .i32⟩
  | .hbm, ⟨22, _⟩ => ⟨S_, .i1⟩
  | .hbm, ⟨23, _⟩ => ⟨S64x64, .i1⟩
  | .hbm, ⟨24, _⟩ => ⟨S64x64, .i1⟩
  | .hbm, ⟨25, _⟩ => ⟨S64x64, .i1⟩
  | .hbm, ⟨26, _⟩ => ⟨S64x64, .i32⟩
  | .hbm, ⟨27, _⟩ => ⟨S64x64, .i32⟩
  | .hbm, ⟨28, _⟩ => ⟨S64x64, .i32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S4x4, .i32⟩
  | .hbm, ⟨34, _⟩ => ⟨S4x4, .i32⟩
  | .hbm, ⟨35, _⟩ => ⟨S_, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S4x4, .f32⟩
  | .hbm, ⟨40, _⟩ => ⟨S64x64, .f32⟩
  | .hbm, ⟨41, _⟩ => ⟨S4x1x4x1, .f32⟩
  | .hbm, ⟨42, _⟩ => ⟨S1x64x1x64, .f32⟩
  | .hbm, ⟨43, _⟩ => ⟨S4x64x4x64, .f32⟩
  | .hbm, ⟨44, _⟩ => ⟨S4x64x4x64, .f32⟩
  | .hbm, ⟨45, _⟩ => ⟨S4x64x4x64, .f32⟩
  | .hbm, ⟨46, _⟩ => ⟨S256x256, .f32⟩
  | .hbm, ⟨47, _⟩ => ⟨S256x256, .bf16⟩
  | .hbm, ⟨48, _⟩ => ⟨S64x64, .f32⟩
  | .hbm, ⟨49, _⟩ => ⟨S4x1x4x1, .f32⟩
  | .hbm, ⟨50, _⟩ => ⟨S1x64x1x64, .f32⟩
  | .hbm, ⟨51, _⟩ => ⟨S4x64x4x64, .f32⟩
  | .hbm, ⟨52, _⟩ => ⟨S4x64x4x64, .f32⟩
  | .hbm, ⟨53, _⟩ => ⟨S4x64x4x64, .f32⟩
  | .hbm, ⟨54, _⟩ => ⟨S256x256, .f32⟩
  | .hbm, ⟨55, _⟩ => ⟨S256x256, .bf16⟩
  | .hbm, ⟨56, _⟩ => ⟨S8x8192x256, .fp8e4m3⟩
  | .local _ .vmem, ⟨0, _⟩ => ⟨S1x4096x256, .bf16⟩
  | .local _ .vmem, ⟨1, _⟩ => ⟨S1x4096x256, .bf16⟩
  | .local _ .vmem, ⟨2, _⟩ => ⟨S256x256, .bf16⟩
  | .local _ .vmem, ⟨3, _⟩ => ⟨S256x256, .bf16⟩
  | .local _ .vmem, ⟨4, _⟩ => ⟨S1x8192x256, .fp8e4m3⟩
  | .local _ .vmem, ⟨5, _⟩ => ⟨S1x8192x256, .fp8e4m3⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x4096x2048 : Shape := ⟨3, ![8, 4096, 2048]⟩
abbrev S8x4096x256 : Shape := ⟨3, ![8, 4096, 256]⟩
abbrev S8x4096x4x64 : Shape := ⟨4, ![8, 4096, 4, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S8x8192x256 : Shape := ⟨3, ![8, 8192, 256]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x256, .bf16⟩
  | .hbm, ⟨2, _⟩ => ⟨S8x4096x256, .f32⟩
  | .hbm, ⟨3, _⟩ => ⟨S8x4096x4x64, .f32⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S_, .i32⟩
  | .hbm, ⟨19, _⟩ => ⟨S64x64, .i32⟩
  | .hbm, ⟨20, _⟩ => ⟨S64x64, .i1⟩
  | .hbm, ⟨21, _⟩ => ⟨S_, .i32⟩
  | .hbm, ⟨22, _⟩ => ⟨S64x64, .i32⟩
  | .hbm, ⟨23, _⟩ => ⟨S64x64, .i1⟩
  | .hbm, ⟨24, _⟩ => ⟨S_, .i32⟩
  | .hbm, ⟨25, _⟩ => ⟨S_, .i1⟩
  | .hbm, ⟨26, _⟩ => ⟨S64x64, .i1⟩
  | .hbm, ⟨27, _⟩ => ⟨S64x64, .i1⟩
  | .hbm, ⟨28, _⟩ => ⟨S64x64, .i1⟩
  | .hbm, ⟨29, _⟩ => ⟨S64x64, .i32⟩
  | .hbm, ⟨30, _⟩ => ⟨S64x64, .i32⟩
  | .hbm, ⟨31, _⟩ => ⟨S64x64, .i32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S8x4096x4x64, .f32⟩
  | .hbm, ⟨38, _⟩ => ⟨S8x4096x256, .f32⟩
  | .hbm, ⟨39, _⟩ => ⟨S64x64, .f32⟩
  | .hbm, ⟨40, _⟩ => ⟨S8x4096x4x64, .f32⟩
  | .hbm, ⟨41, _⟩ => ⟨S8x4096x256, .f32⟩
  | .hbm, ⟨42, _⟩ => ⟨S8x4096x256, .f32⟩
  | .hbm, ⟨43, _⟩ => ⟨S8x8192x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x8192x256, .f32⟩
  | .hbm, ⟨48, _⟩ => ⟨S8x8192x256, .f32⟩
  | .hbm, ⟨49, _⟩ => ⟨S_, .f32⟩
  | .hbm, ⟨50, _⟩ => ⟨S8x8192x256, .f32⟩
  | .hbm, ⟨51, _⟩ => ⟨S8x8192x256, .f32⟩
  | .hbm, ⟨52, _⟩ => ⟨S8x8192x256, .fp8e4m3⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v21 : Ref sig .tc := ⟨.hbm, 51, rfl⟩
abbrev main_v22 : Ref sig .tc := ⟨.hbm, 52, rfl⟩

abbrev nD : Nat := 1
abbrev τ : Topo := Topo.v7x

variable {F : FTy → Type} [FloatOps F]
-- ==== Kernel8.lean ====
abbrev S8x8192x256 : Shape := ⟨3, ![8, 8192, 256]⟩
abbrev S_ : Shape := ⟨0, ![]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x64x1 : Shape := ⟨3, ![4096, 64, 1]⟩
abbrev S4096x1x64 : Shape := ⟨3, ![4096, 1, 64]⟩
abbrev S4096x64x64 : Shape := ⟨3, ![4096, 64, 64]⟩
abbrev S4096x4096 : Shape := ⟨2, ![4096, 4096]⟩
abbrev S8x4096x256 : Shape := ⟨3, ![8, 4096, 256]⟩
abbrev S512x4096 : Shape := ⟨2, ![512, 4096]⟩
abbrev S1x8192x256 : Shape := ⟨3, ![1, 8192, 256]⟩
abbrev S1x512x256 : Shape := ⟨3, ![1, 512, 256]⟩
abbrev S1x4096x256 : Shape := ⟨3, ![1, 4096, 256]⟩
abbrev S4096x256 : Shape := ⟨2, ![4096, 256]⟩
abbrev S512x256 : Shape := ⟨2, ![512, 256]⟩

abbrev nBuf : Space → Nat
  | .hbm => 103
  | .vmem => 8
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .fp8e4m3⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S_, .f32⟩
  | .hbm, ⟨13, _⟩ => ⟨S_, .f32⟩
  | .hbm, ⟨14, _⟩ => ⟨S4096x1, .i32⟩
  | .hbm, ⟨15, _⟩ => ⟨S1x64, .i32⟩
  | .hbm, ⟨16, _⟩ => ⟨S4096x64, .i32⟩
  | .hbm, ⟨17, _⟩ => ⟨S4096x64, .i32⟩
  | .hbm, ⟨18, _⟩ => ⟨S4096x64, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S4096x64, .i32⟩
  | .hbm, ⟨26, _⟩ => ⟨S4096x64, .i32⟩
  | .hbm, ⟨27, _⟩ => ⟨S_, .i32⟩
  | .hbm, ⟨28, _⟩ => ⟨S4096x64, .i32⟩
  | .hbm, ⟨29, _⟩ => ⟨S4096x64, .i1⟩
  | .hbm, ⟨30, _⟩ => ⟨S_, .i32⟩
  | .hbm, ⟨31, _⟩ => ⟨S4096x64, .i32⟩
  | .hbm, ⟨32, _⟩ => ⟨S4096x64, .i1⟩
  | .hbm, ⟨33, _⟩ => ⟨S_, .i32⟩
  | .hbm, ⟨34, _⟩ => ⟨S_, .i1⟩
  | .hbm, ⟨35, _⟩ => ⟨S4096x64, .i1⟩
  | .hbm, ⟨36, _⟩ => ⟨S4096x64, .i1⟩
  | .hbm, ⟨37, _⟩ => ⟨S4096x64, .i1⟩
  | .hbm, ⟨38, _⟩ => ⟨S4096x64, .i32⟩
  | .hbm, ⟨39, _⟩ => ⟨S4096x64, .i32⟩
  | .hbm, ⟨40, _⟩ => ⟨S4096x64, .i32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S_, .f32⟩
  | .hbm, ⟨45, _⟩ => ⟨S_, .f32⟩
  | .hbm, ⟨46, _⟩ => ⟨S4096x1, .i32⟩
  | .hbm, ⟨47, _⟩ => ⟨S1x64, .i32⟩
  | .hbm, ⟨48, _⟩ => ⟨S4096x64, .i32⟩
  | .hbm, ⟨49, _⟩ => ⟨S4096x64, .i32⟩
  | .hbm, ⟨50, _⟩ => ⟨S4096x64, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S4096x64, .i32⟩
  | .hbm, ⟨58, _⟩ => ⟨S4096x64, .i32⟩
  | .hbm, ⟨59, _⟩ => ⟨S_, .i32⟩
  | .hbm, ⟨60, _⟩ => ⟨S4096x64, .i32⟩
  | .hbm, ⟨61, _⟩ => ⟨S4096x64, .i1⟩
  | .hbm, ⟨62, _⟩ => ⟨S_, .i32⟩
  | .hbm, ⟨63, _⟩ => ⟨S4096x64, .i32⟩
  | .hbm, ⟨64, _⟩ => ⟨S4096x64, .i1⟩
  | .hbm, ⟨65, _⟩ => ⟨S_, .i32⟩
  | .hbm, ⟨66, _⟩ => ⟨S_, .i1⟩
  | .hbm, ⟨67, _⟩ => ⟨S4096x64, .i1⟩
  | .hbm, ⟨68, _⟩ => ⟨S4096x64, .i1⟩
  | .hbm, ⟨69, _⟩ => ⟨S4096x64, .i1⟩
  | .hbm, ⟨70, _⟩ => ⟨S4096x64, .i32⟩
  | .hbm, ⟨71, _⟩ => ⟨S4096x64, .i32⟩
  | .hbm, ⟨72, _⟩ => ⟨S4096x64, .i32⟩
  | .hbm, ⟨73, _⟩ => ⟨S4096x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x64x1, .f32⟩
  | .hbm, ⟨78, _⟩ => ⟨S4096x64, .f32⟩
  | .hbm, ⟨79, _⟩ => ⟨S4096x64x1, .f32⟩
  | .hbm, ⟨80, _⟩ => ⟨S4096x64, .f32⟩
  | .hbm, ⟨81, _⟩ => ⟨S4096x1x64, .f32⟩
  | .hbm, ⟨82, _⟩ => ⟨S4096x64, .f32⟩
  | .hbm, ⟨83, _⟩ => ⟨S4096x1x64, .f32⟩
  | .hbm, ⟨84, _⟩ => ⟨S4096x64x64, .f32⟩
  | .hbm, ⟨85, _⟩ => ⟨S4096x64x64, .f32⟩
  | .hbm, ⟨86, _⟩ => ⟨S4096x64x64, .f32⟩
  | .hbm, ⟨87, _⟩ => ⟨S4096x64x64, .f32⟩
  | .hbm, ⟨88, _⟩ => ⟨S4096x64x64, .f32⟩
  | .hbm, ⟨89, _⟩ => ⟨S4096x64x64, .f32⟩
  | .hbm, ⟨90, _⟩ => ⟨S4096x64x64, .f32⟩
  | .hbm, ⟨91, _⟩ => ⟨S4096x64x64, .fp8e4m3⟩
  | .hbm, ⟨92, _⟩ => ⟨S4096x4096, .fp8e4m3⟩
  | .hbm, ⟨93, _⟩ => ⟨S4096x64x64, .f32⟩
  | .hbm, ⟨94, _⟩ => ⟨S4096x64x64, .f32⟩
  | .hbm, ⟨95, _⟩ => ⟨S4096x64x64, .f32⟩
  | .hbm, ⟨96, _⟩ => ⟨S4096x64x64, .f32⟩
  | .hbm, ⟨97, _⟩ => ⟨S4096x64x64, .f32⟩
  | .hbm, ⟨98, _⟩ => ⟨S4096x64x64, .f32⟩
  | .hbm, ⟨99, _⟩ => ⟨S4096x64x64, .f32⟩
  | .hbm, ⟨100, _⟩ => ⟨S4096x64x64, .fp8e4m3⟩
  | .hbm, ⟨101, _⟩ => ⟨S4096x4096, .fp8e4m3⟩
  | .hbm, ⟨102, _⟩ => ⟨S8x4096x256, .bf16⟩
  | .local _ .vmem, ⟨0, _⟩ => ⟨S512x4096, .fp8e4m3⟩
  | .local _ .vmem, ⟨1, _⟩ => ⟨S512x4096, .fp8e4m3⟩
  | .local _ .vmem, ⟨2, _⟩ => ⟨S512x4096, .fp8e4m3⟩
  | .local _ .vmem, ⟨3, _⟩ => ⟨S512x4096, .fp8e4m3⟩
  | .local _ .vmem, ⟨4, _⟩ => ⟨S1x8192x256, .fp8e4m3⟩
  | .local _ .vmem, ⟨5, _⟩ => ⟨S1x8192x256, .fp8e4m3⟩
  | .local _ .vmem, ⟨6, _⟩ => ⟨S1x512x256, .bf16⟩
  | .local _ .vmem, ⟨7, _⟩ => ⟨S1x512x256, .bf16⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x8192x256 : Shape := ⟨3, ![8, 8192, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x256 : Shape := ⟨3, ![8, 4096, 256]⟩
abbrev S8x256x4096 : Shape := ⟨3, ![8, 256, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096, .i32⟩
  | .hbm, ⟨6, _⟩ => ⟨S_, .f32⟩
  | .hbm, ⟨7, _⟩ => ⟨S_, .f32⟩
  | .hbm, ⟨8, _⟩ => ⟨S4096x1, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S_, .i32⟩
  | .hbm, ⟨25, _⟩ => ⟨S4096x4096, .i32⟩
  | .hbm, ⟨26, _⟩ => ⟨S4096x4096, .i1⟩
  | .hbm, ⟨27, _⟩ => ⟨S_, .i32⟩
  | .hbm, ⟨28, _⟩ => ⟨S_, .i1⟩
  | .hbm, ⟨29, _⟩ => ⟨S4096x4096, .i1⟩
  | .hbm, ⟨30, _⟩ => ⟨S4096x4096, .i1⟩
  | .hbm, ⟨31, _⟩ => ⟨S4096x4096, .i1⟩
  | .hbm, ⟨32, _⟩ => ⟨S4096x4096, .i32⟩
  | .hbm, ⟨33, _⟩ => ⟨S4096x4096, .i32⟩
  | .hbm, ⟨34, _⟩ => ⟨S4096x4096, .i32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S8x4096x256, .f32⟩
  | .hbm, ⟨40, _⟩ => ⟨S8x256x4096, .f32⟩
  | .hbm, ⟨41, _⟩ => ⟨S8x4096x256, .f32⟩
  | .hbm, ⟨42, _⟩ => ⟨S4096x4096, .f32⟩
  | .hbm, ⟨43, _⟩ => ⟨S8x4096x256, .f32⟩
  | .hbm, ⟨44, _⟩ => ⟨S8x256x4096, .f32⟩
  | .hbm, ⟨45, _⟩ => ⟨S8x4096x256, .f32⟩
  | .hbm, ⟨46, _⟩ => ⟨S8x4096x256, .f32⟩
  | .hbm, ⟨47, _⟩ => ⟨S_, .f32⟩
  | .hbm, ⟨48, _⟩ => ⟨S8x4096x256, .f32⟩
  | .hbm, ⟨49, _⟩ => ⟨S8x4096x256, .f32⟩
  | .hbm, ⟨50, _⟩ => ⟨S8x4096x256, .bf16⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩

abbrev nD : Nat := 1
abbrev τ : Topo := Topo.v7x

variable {F : FTy → Type} [FloatOps F]
-- ==== Proof.Head.lean ====
/- The attention call's payloads read at an index: one head's softmax-weighted sum. -/
module
public import proofs.«01_k».proof.Proof.Gen.KernelIdeal.Skeleton
public import Idealize.ShloMosaic.Lib.Pointwise
@[expose] public section
set_option maxRecDepth 16384
noncomputable section
namespace Cert.NA
open Idealize.ShloMosaic Cert.KernelIdeal Cert.KernelIdeal.Gen

/-- The bit that lane `x` lies in the lanes from `lo` up to `hi`. -/
def lanes (lo hi : BitVec 32) (x : Fin 256) : BitVec 1 :=
  IntOp.andi (IntOp.cmpi CmpIPredicate.sge (BitVec.ofNat 32 x.val) lo) (IntOp.cmpi CmpIPredicate.slt (BitVec.ofNat 32 x.val) hi)

/-- The scaled inner product of a query and a key over the lanes from `lo` up to `hi`. -/
def score (lo hi : BitVec 32) (q k : Fin 256 → EReal) : EReal :=
  ∑ x, Scalar.select (lanes lo hi x) (q x * Ideal.ofBits FTy.bf16 15872#16 * k x) 0

/-- The greatest of the window's scores `S` and the context's scores `T`. -/
def top {n : ℕ} (S : Fin n → EReal) (T : Fin 256 → EReal) : EReal :=
  max (Finset.fold max (Ideal.ofBits FTy.f32 4286578688#32) S Finset.univ)
    (Finset.fold max (Ideal.ofBits FTy.f32 4286578688#32) T Finset.univ)

/-- The sum of the values weighted by the exponentials of the scores, times one over the weights' sum. -/
def att {n : ℕ} (S : Fin n → EReal) (T : Fin 256 → EReal) (V : Fin n → EReal) (W : Fin 256 → EReal) : EReal :=
  ((∑ x, Ideal.exp (S x - top S T) * V x) + ∑ x, Ideal.exp (T x - top S T) * W x)
    * Ideal.div 1 ((∑ x, Ideal.exp (S x - top S T)) + ∑ x, Ideal.exp (T x - top S T))

/-- One head at one query row: scores over the window with the bias, scores over the context, and their attention. -/
def head (lo hi : BitVec 32) (q : Fin 256 → EReal) (kw : Fin 768 → Fin 256 → EReal) (kc : Fin 256 → Fin 256 → EReal)
    (b : Fin 768 → EReal) (V : Fin 768 → EReal) (W : Fin 256 → EReal) : EReal :=
  att (fun k => score lo hi q (kw k) + b k) (fun k => score lo hi q (kc k)) V W

section
variable [Cert.KernelIdeal.Facts]
variable (v11 : FVec Ideal S256x256 .bf16) (v14 v17 : FVec Ideal S768x256 .bf16) (v19 v21 : FVec Ideal S256x256 .bf16)
  (b : Vec Ideal S1x1x256x768 .bf16) (r : Fin 256) (c : Fin 256)

/-- The first head's payload at an index. -/
theorem pay11_apply : k0_pay11 v11 v14 v17 v19 v21 k0_pay7 k0_pay8 k0_pay9 k0_pay10 b (ix2 r c)
    = Scalar.select (lanes 0#32 64#32 c) (head 0#32 64#32 (fun x => v11 (ix2 r x)) (fun k x => v14 (ix2 k x)) (fun k x => v19 (ix2 k x))
        (fun k => b (ix4 0 0 r k)) (fun k => v17 (ix2 k c)) (fun k => v21 (ix2 k c))) 0 := by
  pointwise [k0_pay11, k0_pay7, k0_pay8, k0_pay9, k0_pay10, head, att, top, score, lanes]

/-- The second head's payload at an index. -/
theorem pay14_apply (o : FVec Ideal S256x256 .f32) : k0_pay14 v11 v14 v17 v19 v21 (iota Kind.tc S1x256 32 [1] iota_S1x256_d1_w32) o
      (k0_pay12 (iota Kind.tc S1x256 32 [1] iota_S1x256_d1_w32)) k0_pay13 b (ix2 r c)
    = o (ix2 r c) + Scalar.select (lanes 64#32 128#32 c) (head 64#32 128#32 (fun x => v11 (ix2 r x)) (fun k x => v14 (ix2 k x)) (fun k x => v19 (ix2 k x))
        (fun k => b (ix4 0 0 r k)) (fun k => v17 (ix2 k c)) (fun k => v21 (ix2 k c))) 0 := by
  pointwise [k0_pay14, k0_pay12, k0_pay13, head, att, top, score, lanes]

/-- The third head's payloads at an index. -/
theorem pay17_apply (o : FVec Ideal S256x256 .f32) : k0_pay17 o (k0_pay15 (iota Kind.tc S1x256 32 [1] iota_S1x256_d1_w32))
      (k0_pay16 v11 v14 v17 v19 v21 (iota Kind.tc S1x256 32 [1] iota_S1x256_d1_w32) b) (FloatOps.ofBits FTy.f32 0#32) (ix2 r c)
    = o (ix2 r c) + Scalar.select (lanes 128#32 192#32 c) (head 128#32 192#32 (fun x => v11 (ix2 r x)) (fun k x => v14 (ix2 k x)) (fun k x => v19 (ix2 k x))
        (fun k => b (ix4 0 0 r k)) (fun k => v17 (ix2 k c)) (fun k => v21 (ix2 k c))) 0 := by
  pointwise [k0_pay17, k0_pay16, k0_pay15, head, att, top, score, lanes]

/-- The fourth head's payloads at an index. -/
theorem pay1_apply (o : FVec Ideal S256x256 .f32) : k0_pay1 o (k0_pay18 (iota Kind.tc S1x256 32 [1] iota_S1x256_d1_w32))
      (k0_pay25 v11 v14 v19 (iota Kind.tc S1x256 32 [1] iota_S1x256_d1_w32) b)
      (k0_pay26 v11 v14 v17 v19 v21 (iota Kind.tc S1x256 32 [1] iota_S1x256_d1_w32) b) (FloatOps.ofBits FTy.f32 1065353216#32) (ix3 0 r c)
    = o (ix2 r c) + Scalar.select (lanes 192#32 256#32 c) (head 192#32 256#32 (fun x => v11 (ix2 r x)) (fun k x => v14 (ix2 k x)) (fun k x => v19 (ix2 k x))
        (fun k => b (ix4 0 0 r k)) (fun k => v17 (ix2 k c)) (fun k => v21 (ix2 k c))) 0 := by
  pointwise [k0_pay1, k0_pay26, k0_pay25, k0_pay24, k0_pay23, k0_pay22, k0_pay21, k0_pay20, k0_pay19, k0_pay18, head, att, top, score, lanes]
end
end Cert.NA
end
-- ==== Proof.Soft.lean ====
/- The mathematics of the attention: dividing once at the end is dividing every weight. -/
module
public import proofs.«01_k».proof.Proof.Head
public import Mathlib.Data.EReal.Inv
@[expose] public section
noncomputable section
namespace Cert.NA
open Idealize.ShloMosaic

/-- The word of negative infinity is the least extended real. -/
theorem negInf_eq : Ideal.ofBits FTy.f32 4286578688#32 = ⊥ := by
  simp [Ideal.ofBits, Ideal.ieee]

/-- The greatest of a family, from the least extended real on, is its supremum. -/
theorem fold_eq {n : ℕ} (f : Fin n → EReal) : Finset.fold max (Ideal.ofBits FTy.f32 4286578688#32) f Finset.univ = Finset.univ.sup f := by
  rw [negInf_eq]; rfl

/-- The exponential of negative infinity less a real number is zero. -/
theorem exp_bot_sub (r : ℝ) : Ideal.exp (⊥ - (r : EReal)) = 0 := by rw [EReal.bot_sub]; rfl

/-- The exponential of a difference from a real number is a real number at least zero unless the minuend is positive infinity. -/
theorem exp_sub_real {x : EReal} (hx : x ≠ ⊤) (r : ℝ) : ∃ p : ℝ, 0 ≤ p ∧ Ideal.exp (x - (r : EReal)) = (p : EReal) := by
  induction x with
  | bot => exact ⟨0, le_rfl, exp_bot_sub r⟩
  | top => exact absurd rfl hx
  | coe y => exact ⟨Real.exp (y - r), (Real.exp_pos _).le, by rw [← EReal.coe_sub]; rfl⟩

/-- A sum of reals at least zero is a real number at least zero. -/
theorem sum_real {ι : Type*} (s : Finset ι) (f : ι → EReal) (h : ∀ i, ∃ p : ℝ, 0 ≤ p ∧ f i = (p : EReal)) : ∃ p : ℝ, 0 ≤ p ∧ ∑ i ∈ s, f i = (p : EReal) := by
  classical
  induction s using Finset.induction_on with
  | empty => exact ⟨0, le_rfl, by simp⟩
  | insert a s ha ih =>
    obtain ⟨p, hp, e⟩ := ih
    obtain ⟨q, hq, e'⟩ := h a
    exact ⟨q + p, add_nonneg hq hp, by rw [Finset.sum_insert ha, e, e', EReal.coe_add]⟩

/-- A factor that is real and at least zero goes into a sum. -/
theorem sum_mul_real {ι : Type*} (s : Finset ι) (f : ι → EReal) {c : EReal} (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- A sum over a family that is zero off an injective image is the sum over the image. -/
theorem sum_image_eq {n k : ℕ} (e : Fin k → Fin n) (he : Function.Injective e) (f : Fin n → EReal) (g : Fin k → EReal)
    (h0 : ∀ i, (∀ j, e j ≠ i) → f i = 0) (hg : ∀ j, f (e j) = g j) : ∑ i, f i = ∑ j, g j := by
  symm
  refine Finset.sum_of_injOn e he.injOn (by simp) ?_ fun j _ => (hg j).symm
  intro i _ hi
  exact h0 i fun j hj => hi ⟨j, by simp, hj⟩

/-- The attention over a window whose scores off the image of `e` are negative infinity is the sum of the
softmax weights of the scores at the image and of the context, each weight divided by the weights' sum. -/
theorem att_eq {S V : Fin 768 → EReal} {S' V' : Fin 512 → EReal} {T W : Fin 256 → EReal} {s : Fin 768 → EReal}
    (e : Fin 512 → Fin 768) (he : Function.Injective e)
    (hS : ∀ k, S (e k) = S' k) (hV : ∀ k, V (e k) = V' k) (hb : ∀ i, (∀ j, e j ≠ i) → S i = ⊥)
    (hS' : ∀ k, S' k ≠ ⊤) (hT : ∀ k, T k ≠ ⊤) (hT0 : T 0 ≠ ⊥)
    (hs1 : ∀ k : Fin 512, s (Fin.castAdd 256 k) = S' k) (hs2 : ∀ k : Fin 256, s (Fin.natAdd 512 k) = T k)
    {M L : EReal} (hM : M = max (Ideal.ofBits FTy.f32 4286578688#32) (Finset.fold max (Ideal.ofBits FTy.f32 4286578688#32) s Finset.univ))
    (hL : L = ∑ k, Ideal.exp (s k - M)) :
    att S T V W = (∑ k : Fin 512, Ideal.div (Ideal.exp (s (Fin.castAdd 256 k) - M)) L * V' k) + ∑ k : Fin 256, Ideal.div (Ideal.exp (s (Fin.natAdd 512 k) - M)) L * W k := by
  have hM' : M = Finset.univ.sup S' ⊔ Finset.univ.sup T := by
    rw [hM, fold_eq, negInf_eq, max_eq_right bot_le]
    apply le_antisymm
    · refine Finset.sup_le fun k _ => ?_
      refine Fin.addCases (m := 512) (n := 256) (motive := fun k => s k ≤ _) (fun i => ?_) (fun i => ?_) k
      · rw [hs1]; exact le_sup_of_le_left (Finset.le_sup (f := S') (Finset.mem_univ i))
      · rw [hs2]; exact le_sup_of_le_right (Finset.le_sup (f := T) (Finset.mem_univ i))
    · refine sup_le (Finset.sup_le fun k _ => ?_) (Finset.sup_le fun k _ => ?_)
      · rw [← hs1]; exact Finset.le_sup (f := s) (Finset.mem_univ _)
      · rw [← hs2]; exact Finset.le_sup (f := s) (Finset.mem_univ _)
  have htop : top S T = M := by
    rw [hM', top, fold_eq, fold_eq]
    refine congrArg₂ max (le_antisymm ?_ ?_) rfl
    · refine Finset.sup_le fun i _ => ?_
      by_cases h : ∃ j, e j = i
      · obtain ⟨j, rfl⟩ := h
        rw [hS]; exact Finset.le_sup (f := S') (Finset.mem_univ j)
      · rw [hb i fun j hj => h ⟨j, hj⟩]; exact bot_le
    · refine Finset.sup_le fun j _ => ?_
      rw [← hS]; exact Finset.le_sup (f := S) (Finset.mem_univ _)
  have hMt : M ≠ ⊤ := by
    rw [hM']
    refine (max_lt ?_ ?_).ne
    · exact (Finset.sup_lt_iff (by simp)).2 fun k _ => lt_top_iff_ne_top.2 (hS' k)
    · exact (Finset.sup_lt_iff (by simp)).2 fun k _ => lt_top_iff_ne_top.2 (hT k)
  have hMb : M ≠ ⊥ := by
    intro h
    have h1 : T 0 ≤ M := hM' ▸ le_sup_of_le_right (Finset.le_sup (f := T) (Finset.mem_univ 0))
    exact hT0 (le_bot_iff.1 (h ▸ h1))
  clear hM hM'
  lift M to ℝ using ⟨hMt, hMb⟩
  have hb0 {i : Fin 768} (hi : ∀ j, e j ≠ i) : Ideal.exp (S i - (M : EReal)) = 0 := by rw [hb i hi]; exact exp_bot_sub M
  have e1 : ∑ x, Ideal.exp (S x - (M : EReal)) * V x = ∑ k, Ideal.exp (S' k - (M : EReal)) * V' k :=
    sum_image_eq e he _ _ (fun i hi => by rw [hb0 hi, zero_mul]) fun j => by rw [hS, hV]
  have e2 : ∑ x, Ideal.exp (S x - (M : EReal)) = ∑ k, Ideal.exp (S' k - (M : EReal)) :=
    sum_image_eq e he _ _ (fun i hi => hb0 hi) fun j => by rw [hS]
  have hLs : L = (∑ k, Ideal.exp (S' k - (M : EReal))) + ∑ k, Ideal.exp (T k - (M : EReal)) := by
    rw [hL, show (∑ k : Fin 768, Ideal.exp (s k - (M : EReal))) = ∑ k : Fin (512 + 256), Ideal.exp (s k - (M : EReal)) from rfl, Fin.sum_univ_add]
    simp only [hs1, hs2]
  obtain ⟨l, hl0, hl⟩ : ∃ l : ℝ, 0 < l ∧ L = (l : EReal) := by
    obtain ⟨a, ha, ea⟩ := sum_real Finset.univ (fun k => Ideal.exp (S' k - (M : EReal))) fun k => exp_sub_real (hS' k) M
    obtain ⟨b, hb, eb⟩ := sum_real Finset.univ (fun k => Ideal.exp (T k - (M : EReal))) fun k => exp_sub_real (hT k) M
    refine ⟨a + b, ?_, by rw [hLs, ea, eb, EReal.coe_add]⟩
    have h1 : (0 : EReal) < Ideal.exp (T 0 - (M : EReal)) := by
      generalize h : T 0 = t at *
      lift t to ℝ using ⟨h ▸ hT 0, hT0⟩
      rw [← EReal.coe_sub]
      exact EReal.coe_pos.2 (Real.exp_pos _)
    have h2 : Ideal.exp (T 0 - (M : EReal)) ≤ ∑ k, Ideal.exp (T k - (M : EReal)) :=
      Finset.single_le_sum (f := fun k => Ideal.exp (T k - (M : EReal))) (fun k _ => by
        obtain ⟨p, hp, ep⟩ := exp_sub_real (hT k) M
        simp only [ep]; exact_mod_cast hp) (Finset.mem_univ 0)
    rw [eb] at h2
    have := EReal.coe_pos.1 (h1.trans_le h2)
    linarith
  have hl' : L ≠ 0 := by rw [hl]; exact_mod_cast hl0.ne'
  have hinv : L⁻¹ = ((l⁻¹ : ℝ) : EReal) := by rw [hl, EReal.coe_inv]
  have h0 : 0 ≤ L⁻¹ := by rw [hinv]; exact_mod_cast (inv_pos.2 hl0).le
  have ht : L⁻¹ ≠ ⊤ := by rw [hinv]; exact EReal.coe_ne_top _
  have hd (x : EReal) : Ideal.div x L = x * L⁻¹ := by rw [Ideal.div, if_neg hl']
  rw [att, htop, e1, e2, ← hLs]
  simp only [hd, one_mul, hs1, hs2]
  rw [EReal.right_distrib_of_nonneg_of_ne_top h0 ht, sum_mul_real _ _ h0 ht, sum_mul_real _ _ h0 ht]
  congr 1 <;> exact Finset.sum_congr rfl fun k _ => mul_right_comm _ _ _

end Cert.NA
end
-- ==== Proof.Block.lean ====
/- What one grid point of the attention call leaves in its output block, read at an index. -/
module
public import proofs.«01_k».proof.Proof.Gen.KernelIdeal.Value
public import proofs.«01_k».proof.Proof.Head
public import Idealize.ShloMosaic.Lib.Tactic.CleanTypes
@[expose] public section
set_option maxRecDepth 16384
noncomputable section
namespace Cert.NA
open Idealize.ShloMosaic Idealize.ShloMosaic.TcCoe Idealize.ShloMosaic.Tactic Idealize.SL Idealize.SL.Sem Cert.KernelIdeal Cert.KernelIdeal.Gen

/-- The first key row of the window of query-row block `j`. -/
def ws (j : Fin 16) : ℕ := min (4 * j.val - 4) 52

/-- Which of the three bias tables query-row block `j` reads. -/
def kind (j : Fin 16) : Fin 3 := if j.val = 0 then 0 else if j.val = 15 then 2 else 1

/-- A window of 768 keys from row `ws j` stays inside the 4096 keys. -/
theorem ws_lt (j : Fin 16) (k : Fin 768) : ws j * 64 + k.val < 4096 := by
  unfold ws; omega

/-- Key `k` of the window, as a token of the image. -/
def wkey (j : Fin 16) (k : Fin 768) : Fin 4096 := ⟨ws j * 64 + k.val, ws_lt j k⟩

/-- The dynamic start of the window as the kernel computes it. -/
theorem kstart_eq : ∀ j : Fin 16, BitVec.toNat (Scalar.indexCast (Scalar.muli (Scalar.minsi (52#32)
    (Scalar.maxsi (0#32) (Scalar.subi (Scalar.muli (4#32) (BitVec.ofNat 32 j.val)) 4#32))) 64#32)) = ws j * 64 := by
  decide +kernel

/-- The table number as the kernel computes it. -/
theorem kind_eq : ∀ j : Fin 16, BitVec.toNat (Scalar.indexCast
    (Scalar.select (Scalar.cmpi CmpIPredicate.eq (BitVec.ofNat 32 j.val) 0#32) (0#32)
      (Scalar.select (Scalar.cmpi CmpIPredicate.eq (BitVec.ofNat 32 j.val) 15#32) 2#32 1#32))) = (kind j).val := by
  decide +kernel

theorem hz3 : (![0, 0, 0] : Fin 3 → Nat) = fun _ => 0 := funext fun a => by fin_cases a <;> rfl

section
variable [Cert.KernelIdeal.Facts]

/-- The queries as loaded. -/
theorem pay2_ld (x : Vec Ideal S1x256x256 .bf16) (h) (r c : Fin 256) :
    k0_pay2 (View.ld x (Rect.unit ![0, 0, 0] ![1, 256, 256] h)) (ix2 r c) = x (ix3 0 r c) := by
  pointwise [k0_pay2]
/-- The context keys as loaded. -/
theorem pay5_ld (x : Vec Ideal S1x256x256 .bf16) (h) (r c : Fin 256) :
    k0_pay5 (View.ld x (Rect.unit ![0, 0, 0] ![1, 256, 256] h)) (ix2 r c) = x (ix3 0 r c) := by
  pointwise [k0_pay5]
/-- The context values as loaded. -/
theorem pay6_ld (x : Vec Ideal S1x256x256 .bf16) (h) (r c : Fin 256) :
    k0_pay6 (View.ld x (Rect.unit ![0, 0, 0] ![1, 256, 256] h)) (ix2 r c) = x (ix3 0 r c) := by
  pointwise [k0_pay6]
/-- The window's keys as loaded. -/
theorem pay3_ld (j : Fin 16) (o : ℕ) (ho : o = ws j * 64) (x : Vec Ideal S1x4096x256 .bf16) (h) (k : Fin 768) (c : Fin 256) :
    k0_pay3 (View.ld x (Rect.unit ![0, o, 0] ![1, 768, 256] h)) (ix2 k c) = x (ix3 0 (wkey j k) c) := by
  subst ho; pointwise [k0_pay3]; rfl
/-- The window's values as loaded. -/
theorem pay4_ld (j : Fin 16) (o : ℕ) (ho : o = ws j * 64) (x : Vec Ideal S1x4096x256 .bf16) (h) (k : Fin 768) (c : Fin 256) :
    k0_pay4 (View.ld x (Rect.unit ![0, o, 0] ![1, 768, 256] h)) (ix2 k c) = x (ix3 0 (wkey j k) c) := by
  subst ho; pointwise [k0_pay4]; rfl
/-- One head's bias as loaded. -/
theorem bias_ld (j : Fin 16) (o : ℕ) (ho : o = (kind j).val) (n : ℕ) (hn : n < 4) (x : Vec Ideal S3x4x256x768 .bf16) (h) (r : Fin 256) (k : Fin 768) :
    View.ld x (Rect.unit ![o, n, 0, 0] ![1, 1, 256, 768] h) (ix4 0 0 r k) = x (ix4 (kind j) ⟨n, hn⟩ r k) := by
  subst ho; pointwise []

/-- The output block at row `r` and lane `l`: the four heads' attentions, each kept on its own lanes, summed. -/
def block (j : Fin 16) (x0 : Vec Ideal S1x256x256 .bf16) (x1 : Vec Ideal S1x4096x256 .bf16) (x2 : Vec Ideal S1x4096x256 .bf16)
    (x3 : Vec Ideal S1x256x256 .bf16) (x4 : Vec Ideal S1x256x256 .bf16) (x5 : Vec Ideal S3x4x256x768 .bf16) (r l : Fin 256) : EReal :=
  let hd : BitVec 32 → BitVec 32 → Fin 4 → EReal := fun lo hi n => head lo hi (fun x => x0 (ix3 0 r x))
    (fun k x => x1 (ix3 0 (wkey j k) x)) (fun k x => x3 (ix3 0 k x)) (fun k => x5 (ix4 (kind j) n r k))
    (fun k => x2 (ix3 0 (wkey j k) l)) (fun k => x4 (ix3 0 k l))
  Scalar.select (lanes 0#32 64#32 l) (hd 0#32 64#32 0) 0 + Scalar.select (lanes 64#32 128#32 l) (hd 64#32 128#32 1) 0
    + Scalar.select (lanes 128#32 192#32 l) (hd 128#32 192#32 2) 0 + Scalar.select (lanes 192#32 256#32 l) (hd 192#32 256#32 3) 0

/-- What the body leaves in the output's staging buffer is `block` at every index. -/
theorem out_apply (c : Dev nD) (i : grid0.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S3x4x256x768 .bf16) (harg7 : arg7.IsWhole) (arg8 : Memref sig .tc .vmem S1x256x256 .bf16) (harg8 : arg8.IsWhole)
    (x0 : Vec Ideal S1x256x256 .bf16) (x1 : Vec Ideal S1x4096x256 .bf16) (x2 : Vec Ideal S1x4096x256 .bf16) (x3 : Vec Ideal S1x256x256 .bf16) (x4 : Vec Ideal S1x256x256 .bf16) (x5 : Vec Ideal S3x4x256x768 .bf16) (r l : Fin 256) :
    out0_A_6 c i arg2 harg2 arg3 harg3 arg4 harg4 arg5 harg5 arg6 harg6 arg7 harg7 arg8 harg8 x0 x1 x2 x3 x4 x5 (ix3 0 r l)
      = block (i 1) x0 x1 x2 x3 x4 x5 r l := by
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread]
  rw [pay1_apply, pay17_apply, pay14_apply, pay11_apply]
  generalize_proofs
  have e1 := pay3_ld (i 1) _ (kstart_eq (i 1)) x1
  have e2 := pay4_ld (i 1) _ (kstart_eq (i 1)) x2
  have e3 := bias_ld (i 1) _ (kind_eq (i 1))
  simp only [pay2_ld, pay5_ld, pay6_ld, e1, e2]
  rw [funext (e3 0 (by decide) x5 _ r), funext (e3 1 (by decide) x5 _ r), funext (e3 2 (by decide) x5 _ r), funext (e3 3 (by decide) x5 _ r)]
  rfl
end
end Cert.NA
end
-- ==== Proof.Whole.lean ====
/-
  The attention kernel's whole result: which block of which argument each grid point reads, and the array after the run.
-/
module

public import proofs.«01_k».proof.Proof.Block
public import proofs.«01_k».proof.Proof.Gen.KernelIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.ShloMosaic.Tactic Idealize.SL.Sem
open Idealize.ShloMosaic.Pipeline (Dat)

namespace Cert.NA

open Cert.KernelIdeal Cert.KernelIdeal.Gen

/-- The image block of 256 tokens that token `r` lies in. -/
def jOf (r : Fin 4096) : Fin 16 := ⟨r.val / 256, by omega⟩

/-- The query block of batch `b`, image block `j`. -/
def qblk (x : Vec Ideal S8x4096x2048 .bf16) (b : Fin 8) (j : Fin 16) : Vec Ideal S1x256x256 .bf16 :=
  fun y => x (ix3 b ⟨j.val * 256 + (y 1).val, by have := (y 1).isLt; have := j.isLt; simp at *; omega⟩ ⟨(y 2).val, by have := (y 2).isLt; simp at *; omega⟩)
/-- The 256 lanes from lane `256 * g` on of all tokens of batch `b` of the image. -/
def lblk (x : Vec Ideal S8x4096x2048 .bf16) (b : Fin 8) (g : Fin 8) : Vec Ideal S1x4096x256 .bf16 :=
  fun y => x (ix3 b (y 1) ⟨g.val * 256 + (y 2).val, by have := (y 2).isLt; have := g.isLt; simp at *; omega⟩)
/-- The 256 lanes from lane `256 * g` on of all tokens of batch `b` of the context. -/
def cblk (x : Vec Ideal S8x256x2048 .bf16) (b : Fin 8) (g : Fin 8) : Vec Ideal S1x256x256 .bf16 :=
  fun y => x (ix3 b (y 1) ⟨g.val * 256 + (y 2).val, by have := (y 2).isLt; have := g.isLt; simp at *; omega⟩)

/-- The kernel's result from its two argument arrays and its bias table. -/
def whole (x : Vec Ideal S8x4096x2048 .bf16) (xc : Vec Ideal S8x256x2048 .bf16) (tb : Vec Ideal S3x4x256x768 .bf16) : S8x4096x256.Idx → EReal :=
  fun i => block (jOf (i 1)) (qblk x (i 0) (jOf (i 1))) (lblk x (i 0) 1) (lblk x (i 0) 2) (cblk xc (i 0) 1) (cblk xc (i 0) 2) tb
    ⟨(i 1).val % 256, by omega⟩ (i 2)

section
variable (m : (ℓ : Loc nD τ sig) → Buf (Elt Ideal) ℓ) (c : Dev nD)

/-- The block each window is on at a grid point. -/
theorem idx : ∀ t : Fin cfg0.N, win0_0.index t = ![(grid0.coords t 0).val, (grid0.coords t 1).val, 0]
    ∧ win0_1.index t = ![(grid0.coords t 0).val, 0, 1] ∧ win0_2.index t = ![(grid0.coords t 0).val, 0, 2]
    ∧ win0_3.index t = ![(grid0.coords t 0).val, 0, 1] ∧ win0_4.index t = ![(grid0.coords t 0).val, 0, 2]
    ∧ win0_5.index t = ![0, 0, 0, 0] ∧ win0_6.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, 0, 1] ∧ win0_2.index t = ![(grid0.coords t 0).val, 0, 2]
    ∧ win0_3.index t = ![(grid0.coords t 0).val, 0, 1] ∧ win0_4.index t = ![(grid0.coords t 0).val, 0, 2]
    ∧ win0_5.index t = ![0, 0, 0, 0] ∧ win0_6.index t = ![(grid0.coords t 0).val, (grid0.coords t 1).val, 0])

theorem iblk0 (t : Fin cfg0.N) : iblk m c 0 t = qblk (V m c main_arg0) (grid0.coords t 0) (grid0.coords t 1) := by
  funext y; unfold qblk; blk_ext [iblk, idx t]
theorem iblk1 (t : Fin cfg0.N) : iblk m c 1 t = lblk (V m c main_arg0) (grid0.coords t 0) 1 := by
  funext y; unfold lblk; blk_ext [iblk, idx t]
theorem iblk2 (t : Fin cfg0.N) : iblk m c 2 t = lblk (V m c main_arg0) (grid0.coords t 0) 2 := by
  funext y; unfold lblk; blk_ext [iblk, idx t]
theorem iblk3 (t : Fin cfg0.N) : iblk m c 3 t = cblk (V m c main_arg1) (grid0.coords t 0) 1 := by
  funext y; unfold cblk; blk_ext [iblk, idx t]
theorem iblk4 (t : Fin cfg0.N) : iblk m c 4 t = cblk (V m c main_arg1) (grid0.coords t 0) 2 := by
  funext y; unfold cblk; blk_ext [iblk, idx t]
theorem iblk5 (t : Fin cfg0.N) : iblk m c 5 t = V m c main_v205 := by
  funext y; blk_ext [iblk, idx t]

/-- The result array after the run. -/
theorem arr_eq : (dats m 0 c).arrAt 6 cfg0.N
    = whole (m ((c : Thread nD τ).loc main_arg0)) (m ((c : Thread nD τ).loc main_arg1)) (V m c main_v205) := by
  refine (dats m 0 c).arrAt_eq_of_covers 6 _ (by decide +kernel) fun t hf y => ?_
  blk_simp
  rw [after0_6]
  unfold outsAt0
  rw [iblk0, iblk1, iblk2, iblk3, iblk4, iblk5, V_main_arg0, V_main_arg1]
  have h0 : (y 0).val < 1 := (y 0).isLt
  have h1 : (y 1).val < 256 := (y 1).isLt
  have h2 : (y 2).val < 256 := (y 2).isLt
  have hy : (cfg0.win 6).xinj (cfg0.grid.coords t) y = ix3 0 ⟨(y 1).val, h1⟩ ⟨(y 2).val, h2⟩ := by
    funext a; apply Fin.ext; fin_cases a
    · show (y 0).val = 0; omega
    · rfl
    · rfl
  have hq (q : Fin 16) : q.val * 256 + (y 1).val < 4096 := by omega
  have he : ((cfg0.win 6).blk t).view.emb y
      = (ix3 (grid0.coords t 0 : Fin 8) (⟨(grid0.coords t 1 : Fin 16).val * 256 + (y 1).val, hq _⟩ : Fin 4096) (⟨(y 2).val, h2⟩ : Fin 256) : S8x4096x256.Idx) := by
    blk_ext [idx t]
  rw [he]
  have key (b : Fin 8) (q : Fin 16) (x xc tb) : block q (qblk x b q) (lblk x b 1) (lblk x b 2) (cblk xc b 1) (cblk xc b 2) tb ⟨(y 1).val, h1⟩ ⟨(y 2).val, h2⟩
      = whole x xc tb (ix3 b ⟨q.val * 256 + (y 1).val, hq q⟩ ⟨(y 2).val, h2⟩) := by
    have hj : jOf ⟨q.val * 256 + (y 1).val, hq q⟩ = q := by
      apply Fin.ext; show (q.val * 256 + (y 1).val) / 256 = q.val; omega
    have hr : (⟨(q.val * 256 + (y 1).val) % 256, by omega⟩ : Fin 256) = ⟨(y 1).val, h1⟩ := by
      apply Fin.ext; show (q.val * 256 + (y 1).val) % 256 = (y 1).val; omega
    show _ = block (jOf ⟨q.val * 256 + (y 1).val, hq q⟩) (qblk x b (jOf ⟨q.val * 256 + (y 1).val, hq q⟩)) _ _ _ _ _ ⟨(q.val * 256 + (y 1).val) % 256, _⟩ _
    rw [hj, hr]
    rfl
  refine Eq.trans ?_ ((out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _ ⟨(y 1).val, h1⟩ ⟨(y 2).val, h2⟩).trans (key _ _ _ _ _))
  exact congrArg (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _) hy
end
end Cert.NA
end
-- ==== Proof.Table.lean ====
/-
  The kernel's bias table, as the host operations before the call compute it.
-/
module

public import proofs.«01_k».proof.Proof.Whole
public import Idealize.ShloMosaic.Lib.StableHlo.RunRead

@[expose] public section

set_option maxRecDepth 16384
set_option maxHeartbeats 400000

noncomputable section

open Idealize.ShloMosaic Idealize.ShloMosaic.TcCoe Idealize.ShloMosaic.Tactic Idealize.SL.Sem Idealize.ShloMosaic.StableHlo

namespace Cert.NA

open Cert.KernelIdeal Cert.KernelIdeal.Gen

/-- A number repeated over a shape. -/
def rep (s : Shape) (h : S_.BroadcastsInDim s ![]) (x : BitVec 32) : IVec s 32 := broadcastInDim s ![] h (constantI S_ 32 x)

/-- The first key column of each query column's window. -/
def colStart : IVec S64 32 :=
  minsi (rep S64 bcast_S_S64 48#32) (maxsi (rep S64 bcast_S_S64 0#32) (subi (iotaInDim S64 32 0) (rep S64 bcast_S_S64 8#32)))

/-- Whether a key column lies in a query column's window. -/
def colOk : IVec S64x64 1 :=
  let k1 : IVec S1x64 32 := broadcastInDim S1x64 ![1] bcast_S64_S1x64_1 (iotaInDim S64 32 0)
  let s1 : IVec S64x1 32 := broadcastInDim S64x1 ![0] bcast_S64_S64x1_0 colStart
  andi (cmpi .sge (broadcastInDim S64x64 ![0, 1] bcast_S1x64_S64x64_0_1 k1) (broadcastInDim S64x64 ![0, 1] bcast_S64x1_S64x64_0_1 s1))
    (cmpi .slt (broadcastInDim S64x64 ![0, 1] bcast_S1x64_S64x64_0_1 k1)
      (broadcastInDim S64x64 ![0, 1] bcast_S64x1_S64x64_0_1 (addi s1 (rep S64x1 bcast_S_S64x1 16#32))))

/-- The column of the bias array for a query column and a key column. -/
def dCol : IVec S64x64 32 :=
  subi (addi (minsi (rep S64x64 bcast_S_S64x64 15#32) (maxsi (rep S64x64 bcast_S_S64x64 4294967281#32)
    (subi (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 (iotaInDim S64 32 0))))))
    (rep S64x64 bcast_S_S64x64 16#32)) (rep S64x64 bcast_S_S64x64 1#32)

/-- The four query rows from row `r0` on. -/
def qRow (r0 : BitVec 32) : IVec S4 32 := addi (rep S4 bcast_S_S4 r0) (iotaInDim S4 32 0)
/-- The twelve key rows from row `w0` on. -/
def kRow (w0 : BitVec 32) : IVec S12 32 := addi (rep S12 bcast_S_S12 w0) (iotaInDim S12 32 0)
/-- The first key row of each query row's window. -/
def rowStart (r0 : BitVec 32) : IVec S4 32 :=
  minsi (rep S4 bcast_S_S4 56#32) (maxsi (rep S4 bcast_S_S4 0#32) (subi (qRow r0) (rep S4 bcast_S_S4 4#32)))
/-- Whether a key row lies in a query row's window. -/
def rowOk (r0 w0 : BitVec 32) : IVec S4x12 1 :=
  let k1 : IVec S1x12 32 := broadcastInDim S1x12 ![1] bcast_S12_S1x12_1 (kRow w0)
  let s1 : IVec S4x1 32 := broadcastInDim S4x1 ![0] bcast_S4_S4x1_0 (rowStart r0)
  andi (cmpi .sge (broadcastInDim S4x12 ![0, 1] bcast_S1x12_S4x12_0_1 k1) (broadcastInDim S4x12 ![0, 1] bcast_S4x1_S4x12_0_1 s1))
    (cmpi .slt (broadcastInDim S4x12 ![0, 1] bcast_S1x12_S4x12_0_1 k1)
      (broadcastInDim S4x12 ![0, 1] bcast_S4x1_S4x12_0_1 (addi s1 (rep S4x1 bcast_S_S4x1 8#32))))
/-- The row of the bias array for a query row and a key row. -/
def dRow (r0 w0 : BitVec 32) : IVec S4x12 32 :=
  minsi (rep S4x12 bcast_S_S4x12 14#32) (maxsi (rep S4x12 bcast_S_S4x12 0#32)
    (subi (addi (subi
      (broadcastInDim S4x12 ![0, 1] bcast_S1x12_S4x12_0_1 (broadcastInDim S1x12 ![1] bcast_S12_S1x12_1 (kRow w0)))
      (broadcastInDim S4x12 ![0, 1] bcast_S4x1_S4x12_0_1 (broadcastInDim S4x1 ![0] bcast_S4_S4x1_0 (qRow r0))))
      (rep S4x12 bcast_S_S4x12 8#32)) (rep S4x12 bcast_S_S4x12 1#32)))

/-- The row index as the gather takes it. -/
def gRow (r0 w0 : BitVec 32) : IVec S4x1x12x1 32 :=
  let d : IVec S4x1x12x1 32 := broadcastInDim S4x1x12x1 ![0, 2] bcast_S4x12_S4x1x12x1_0_2 (dRow r0 w0)
  select (cmpi .slt d (rep S4x1x12x1 bcast_S_S4x1x12x1 0#32)) (addi d (rep S4x1x12x1 bcast_S_S4x1x12x1 15#32)) d
/-- The column index as the gather takes it. -/
def gCol : IVec S1x64x1x64 32 :=
  let d : IVec S1x64x1x64 32 := broadcastInDim S1x64x1x64 ![1, 3] bcast_S64x64_S1x64x1x64_1_3 dCol
  select (cmpi .slt d (rep S1x64x1x64 bcast_S_S1x64x1x64 0#32)) (addi d (rep S1x64x1x64 bcast_S_S1x64x1x64 31#32)) d
/-- Two index arrays side by side. -/
def cat2 : (⟨S4x64x12x64x1, .i32⟩ : BufTy).Contents (Elt Ideal) → (⟨S4x64x12x64x1, .i32⟩ : BufTy).Contents (Elt Ideal) → (⟨S4x64x12x64x2, .i32⟩ : BufTy).Contents (Elt Ideal) :=
  (fun a b => concatenate S4x64x12x64x2 4 [⟨S4x64x12x64x1, a⟩, ⟨S4x64x12x64x1, b⟩] concatenates_S4x64x12x64x1_S4x64x12x64x1_S4x64x12x64x2_d4)
theorem cat2_eq : ((fun a b => concatenate S4x64x12x64x2 4 [⟨S4x64x12x64x1, a⟩, ⟨S4x64x12x64x1, b⟩] concatenates_S4x64x12x64x1_S4x64x12x64x1_S4x64x12x64x2_d4) : (⟨S4x64x12x64x1, .i32⟩ : BufTy).Contents (Elt Ideal) → (⟨S4x64x12x64x1, .i32⟩ : BufTy).Contents (Elt Ideal) → (⟨S4x64x12x64x2, .i32⟩ : BufTy).Contents (Elt Ideal)) = cat2 := rfl
/-- Both indices side by side. -/
def gIdx (r0 w0 : BitVec 32) : IVec S4x64x12x64x2 32 :=
  cat2 (broadcastInDim S4x64x12x64x1 ![0, 1, 2, 3] bcast_S4x64x12x64_S4x64x12x64x1_0_1_2_3
      (broadcastInDim S4x64x12x64 ![0, 1, 2, 3] bcast_S4x1x12x1_S4x64x12x64_0_1_2_3 (gRow r0 w0)))
    (broadcastInDim S4x64x12x64x1 ![0, 1, 2, 3] bcast_S4x64x12x64_S4x64x12x64x1_0_1_2_3
      (broadcastInDim S4x64x12x64 ![0, 1, 2, 3] bcast_S1x64x1x64_S4x64x12x64_0_1_2_3 gCol))
/-- The mask of a table. -/
def okMask (r0 w0 : BitVec 32) : IVec S4x4x64x12x64 1 :=
  broadcastInDim S4x4x64x12x64 ![0, 1, 2, 3, 4] bcast_S1x4x64x12x64_S4x4x64x12x64_0_1_2_3_4
    (broadcastInDim S1x4x64x12x64 ![1, 2, 3, 4] bcast_S4x64x12x64_S1x4x64x12x64_1_2_3_4
      (andi
        (broadcastInDim S4x64x12x64 ![0, 1, 2, 3] bcast_S4x1x12x1_S4x64x12x64_0_1_2_3
          (broadcastInDim S4x1x12x1 ![0, 2] bcast_S4x12_S4x1x12x1_0_2 (rowOk r0 w0)))
        (broadcastInDim S4x64x12x64 ![0, 1, 2, 3] bcast_S1x64x1x64_S4x64x12x64_0_1_2_3
          (broadcastInDim S1x64x1x64 ![1, 3] bcast_S64x64_S1x64x1x64_1_3 colOk))))
/-- One table of the bias, from the bias array. -/
def tbl (r0 w0 : BitVec 32) (rp : Vec Ideal S4x15x31 .f32) : Vec Ideal S4x256x768 .bf16 :=
  truncf .bf16 (shapeCast S4x256x768 (select (okMask r0 w0)
    (Host.gather gather_S4x15x31_S4x64x12x64x2_S4x4x64x12x64_0_12_n_n_12_4_411
      (extf .f32 (truncf .bf16 rp bitsLt_bf16_f32) bitsLt_bf16_f32) (gIdx r0 w0))
    (broadcastInDim S4x4x64x12x64 ![] bcast_S_S4x4x64x12x64 (constant (F := Ideal) S_ .f32 0xFF800000#32)))
    shapeCasts_S4x4x64x12x64_S4x256x768) bitsLt_bf16_f32
/-- Three tables stacked. -/
def stack3 (a b c : Vec Ideal S1x4x256x768 .bf16) : Vec Ideal S3x4x256x768 .bf16 :=
  concatenate S3x4x256x768 0 [⟨S1x4x256x768, a⟩, ⟨S1x4x256x768, b⟩, ⟨S1x4x256x768, c⟩]
    concatenates_S1x4x256x768_S1x4x256x768_S1x4x256x768_S3x4x256x768_d0
/-- The three tables stacked. -/
def table (rp : Vec Ideal S4x15x31 .f32) : Vec Ideal S3x4x256x768 .bf16 :=
  stack3 (broadcastInDim S1x4x256x768 ![1, 2, 3] bcast_S4x256x768_S1x4x256x768_1_2_3 (tbl 0#32 0#32 rp))
    (broadcastInDim S1x4x256x768 ![1, 2, 3] bcast_S4x256x768_S1x4x256x768_1_2_3 (tbl 4#32 0#32 rp))
    (broadcastInDim S1x4x256x768 ![1, 2, 3] bcast_S4x256x768_S1x4x256x768_1_2_3 (tbl 60#32 52#32 rp))

section
variable (m : (ℓ : Loc nD τ sig) → Buf (Elt Ideal) ℓ) (c : Dev nD)
/-- The last operations before the call stack the three tables. -/
theorem last_stack (W : Valuation τ sig (Elt Ideal)) : after hostOps0_22 W (Proc.devRef .tc main_v205)
    = stack3 (after hostOps0_22 W (Proc.devRef .tc main_v202)) (after hostOps0_22 W (Proc.devRef .tc main_v203)) (after hostOps0_22 W (Proc.devRef .tc main_v204)) := by
  simp only [after_cons, after_nil]
  refine (nary_result _ _ _ _ _ _).trans ?_
  symm
  refine congr (congr (congrArg stack3 ?_) ?_) ?_ <;> exact nary_result_ne _ _ _ _ _ _ (by decide)
/-- The table at the call is the stack of the three arrays before it. -/
theorem tab_stack : V m c main_v205 = stack3 (V m c main_v202) (V m c main_v203) (V m c main_v204) := by
  have h (b : DevRef τ sig) : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]) (fun b => m (c, b)) b
      = after hostOps0_22 (after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b))) b :=
    congrFun (after_append (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) hostOps0_22 _) b
  exact (h _).trans ((last_stack _).trans (congr (congr (congrArg stack3 (h _)) (h _)) (h _)).symm)
/-- Table 0 at the call. -/
theorem tab0 : V m c main_v202 = broadcastInDim S1x4x256x768 ![1, 2, 3] bcast_S4x256x768_S1x4x256x768_1_2_3 (tbl 0#32 0#32 (m ((c : Thread nD τ).loc main_arg2))) := by
  unfold_abbrev_sides
  simp only [List.flatten_cons, List.flatten_nil, List.append_nil, List.cons_append, List.nil_append, cat2_eq, TRef.binary, TRef.ternary, TRef.unary, TRef.toBuf, TRef.ofBuf, cast_eq, id]
  after_reads_simp
  simp only [table, tbl, okMask, gIdx, gCol, gRow, dRow, rowOk, rowStart, kRow, qRow, dCol, colOk, colStart, rep]
  rfl
/-- Table 1 at the call. -/
theorem tab1 : V m c main_v203 = broadcastInDim S1x4x256x768 ![1, 2, 3] bcast_S4x256x768_S1x4x256x768_1_2_3 (tbl 4#32 0#32 (m ((c : Thread nD τ).loc main_arg2))) := by
  unfold_abbrev_sides
  simp only [List.flatten_cons, List.flatten_nil, List.append_nil, List.cons_append, List.nil_append, cat2_eq, TRef.binary, TRef.ternary, TRef.unary, TRef.toBuf, TRef.ofBuf, cast_eq, id]
  after_reads_simp
  simp only [table, tbl, okMask, gIdx, gCol, gRow, dRow, rowOk, rowStart, kRow, qRow, dCol, colOk, colStart, rep]
  rfl
/-- Table 2 at the call. -/
theorem tab2 : V m c main_v204 = broadcastInDim S1x4x256x768 ![1, 2, 3] bcast_S4x256x768_S1x4x256x768_1_2_3 (tbl 60#32 52#32 (m ((c : Thread nD τ).loc main_arg2))) := by
  unfold_abbrev_sides
  simp only [List.flatten_cons, List.flatten_nil, List.append_nil, List.cons_append, List.nil_append, cat2_eq, TRef.binary, TRef.ternary, TRef.unary, TRef.toBuf, TRef.ofBuf, cast_eq, id]
  after_reads_simp
  simp only [table, tbl, okMask, gIdx, gCol, gRow, dRow, rowOk, rowStart, kRow, qRow, dCol, colOk, colStart, rep]
  rfl
/-- The bias table at the call. -/
theorem tab : V m c main_v205 = table (m ((c : Thread nD τ).loc main_arg2)) := by
  rw [tab_stack, tab0, tab1, tab2]; rfl
end
end Cert.NA
end
-- ==== Proof.Win.lean ====
/- The window of a query, in natural numbers. -/
module
public import Mathlib.Data.Fin.Basic
@[expose] public section
namespace Cert.NA
/-- The first of the eight key rows of a query at row `r`. -/
def rs (r : ℕ) : ℕ := min (r - 4) 56
/-- The first of the sixteen key columns of a query at column `q`. -/
def cs (q : ℕ) : ℕ := min (q - 8) 48
/-- The row of the bias array for a query row and a key row. -/
def dR (r K : ℕ) : Fin 15 := ⟨min (K + 7 - r) 14, by omega⟩
/-- The column of the bias array for a query column and a key column. -/
def dC (q w : ℕ) : Fin 31 := ⟨min (w + 15 - q) 30, by omega⟩
theorem rs_le (r : ℕ) : rs r ≤ 56 := min_le_right _ _
end Cert.NA
-- ==== Proof.Entry.lean ====
/- The kernel's bias table read at an index. -/
module
public import proofs.«01_k».proof.Proof.Table
public import proofs.«01_k».proof.Proof.Win
@[expose] public section
set_option maxRecDepth 16384
noncomputable section
namespace Cert.NA
open Idealize.ShloMosaic Cert.KernelIdeal Cert.KernelIdeal.Gen

/-- The table gather's dimension numbers. -/
abbrev DT := gather_S4x15x31_S4x64x12x64x2_S4x4x64x12x64_0_12_n_n_12_4_411

/-- The table gather read at an index: the operand's row and column are the start indices, clamped. -/
theorem gather_apply (v : Vec Ideal S4x15x31 .f32) (g : IVec S4x64x12x64x2 32) (n a : Fin 4) (q : Fin 64) (c : Fin 12) (w : Fin 64) :
    Host.gather DT v g (ix5 n a q c w)
      = v (ix3 n ⟨min (g (ix5 a q c w 0)).toInt.toNat 14, by omega⟩ ⟨min (g (ix5 a q c w 1)).toInt.toNat 30, by omega⟩) := by
  unfold Host.gather
  have hs (e : Fin 2) : DT.siIdx (ix5 n a q c w) e = ix5 a q c w e := by
    funext y
    fin_cases y
    · exact (dif_neg (by decide)).trans (by apply Fin.ext; rfl)
    · exact (dif_neg (by decide)).trans (by apply Fin.ext; rfl)
    · exact (dif_neg (by decide)).trans (by apply Fin.ext; rfl)
    · exact (dif_neg (by decide)).trans (by apply Fin.ext; rfl)
    · exact (dif_pos (by decide)).trans (by apply Fin.ext; rfl)
  refine congrArg v (funext fun y => Fin.ext ?_)
  show DT.start _ g y + DT.batchCoord _ y + DT.offCoord _ y = _
  unfold GatherDims.start GatherDims.batchCoord GatherDims.offCoord
  rw [dif_neg (show y ∉ DT.operandBatchingDims from List.not_mem_nil)]
  fin_cases y
  · rw [dif_neg (by decide), dif_pos (by decide)]; exact Nat.zero_add _
  · rw [dif_pos (by decide), dif_neg (by decide)]; exact congrArg (fun i => min (g i).toInt.toNat 14) (hs 0)
  · rw [dif_pos (by decide), dif_neg (by decide)]; exact congrArg (fun i => min (g i).toInt.toNat 30) (hs 1)

/-- The row index of the pair. -/
theorem gIdx_row (r0 w0 : BitVec 32) (a : Fin 4) (q : Fin 64) (c : Fin 12) (w : Fin 64) : gIdx r0 w0 (ix5 a q c w 0) = gRow r0 w0 (ix4 a 0 c 0) := by
  unfold gIdx cat2
  generalize gRow r0 w0 = y
  generalize gCol = z
  pointwise []
/-- The column index of the pair. -/
theorem gIdx_col (r0 w0 : BitVec 32) (a : Fin 4) (q : Fin 64) (c : Fin 12) (w : Fin 64) : gIdx r0 w0 (ix5 a q c w 1) = gCol (ix4 0 q 0 w) := by
  unfold gIdx cat2
  generalize gRow r0 w0 = y
  generalize gCol = z
  pointwise []
/-- The mask is the row mask and the column mask. -/
theorem okMask_apply (r0 w0 : BitVec 32) (n a : Fin 4) (q : Fin 64) (c : Fin 12) (w : Fin 64) :
    okMask r0 w0 (ix5 n a q c w) = IntOp.andi (rowOk r0 w0 (ix2 a c)) (colOk (ix2 q w)) := by
  unfold okMask
  generalize rowOk r0 w0 = y
  generalize colOk = z
  pointwise []
/-- The column mask in natural numbers. -/
theorem colOk_fact : ∀ q w : Fin 64, colOk (ix2 q w) = if cs q ≤ w ∧ w < cs q + 16 then 1#1 else 0#1 := by decide +kernel
/-- The column index in natural numbers. -/
theorem gCol_fact : ∀ q w : Fin 64, min (gCol (ix4 0 q 0 w)).toInt.toNat 30 = (dC q w).val := by decide +kernel

/-- The three tables' first query rows. -/
def tq (i : Fin 3) : BitVec 32 := ![0#32, 4#32, 60#32] i
/-- The three tables' first key rows. -/
def tk (i : Fin 3) : BitVec 32 := ![0#32, 0#32, 52#32] i
/-- The row mask in natural numbers. -/
theorem rowOk_fact : ∀ j : Fin 16, ∀ a : Fin 4, ∀ c : Fin 12, rowOk (tq (kind j)) (tk (kind j)) (ix2 a c)
    = if rs (4 * j + a) ≤ ws j + c ∧ ws j + c < rs (4 * j + a) + 8 then 1#1 else 0#1 := by decide +kernel
/-- The row index in natural numbers. -/
theorem gRow_fact : ∀ j : Fin 16, ∀ a : Fin 4, ∀ c : Fin 12, min (gRow (tq (kind j)) (tk (kind j)) (ix4 a 0 c 0)).toInt.toNat 14
    = (dR (4 * j + a) (ws j + c)).val := by decide +kernel

/-- The table gather at an index, its two indices known. -/
theorem gather_at (v : Vec Ideal S4x15x31 .f32) (g : IVec S4x64x12x64x2 32) (n a : Fin 4) (q : Fin 64) (c : Fin 12) (w : Fin 64) {A : Fin 15} {B : Fin 31}
    (hA : min (g (ix5 a q c w 0)).toInt.toNat 14 = A.val) (hB : min (g (ix5 a q c w 1)).toInt.toNat 30 = B.val) :
    Host.gather DT v g (ix5 n a q c w) = v (ix3 n A B) :=
  (gather_apply v g n a q c w).trans (congrArg₂ (fun a b => v (ix3 n a b)) (Fin.ext hA) (Fin.ext hB))

/-- A masked gather reshaped, read at an index. -/
theorem cast_apply (z : IVec S4x4x64x12x64 1) (y : Vec Ideal S4x4x64x12x64 .f32) (n : Fin 4) (l : Fin 256) (k : Fin 768) :
    truncf .bf16 (shapeCast S4x256x768 (select z y (broadcastInDim S4x4x64x12x64 ![] bcast_S_S4x4x64x12x64 (constant (F := Ideal) S_ .f32 0xFF800000#32)))
        shapeCasts_S4x4x64x12x64_S4x256x768) bitsLt_bf16_f32 (ix3 n l k)
      = Scalar.select (z (ix5 n ⟨l.val / 64, by omega⟩ ⟨l.val % 64, by omega⟩ ⟨k.val / 64, by omega⟩ ⟨k.val % 64, by omega⟩))
        (y (ix5 n ⟨l.val / 64, by omega⟩ ⟨l.val % 64, by omega⟩ ⟨k.val / 64, by omega⟩ ⟨k.val % 64, by omega⟩)) (Ideal.ofBits FTy.f32 4286578688#32) := by
  pointwise []

/-- One table at an index. -/
theorem tbl_apply (j : Fin 16) (rp : Vec Ideal S4x15x31 .f32) (n : Fin 4) (l : Fin 256) (k : Fin 768) : tbl (tq (kind j)) (tk (kind j)) rp (ix3 n l k)
    = Scalar.select (IntOp.andi (rowOk (tq (kind j)) (tk (kind j)) (ix2 ⟨l.val / 64, by omega⟩ ⟨k.val / 64, by omega⟩)) (colOk (ix2 ⟨l.val % 64, by omega⟩ ⟨k.val % 64, by omega⟩)))
        (rp (ix3 n (dR (4 * j + l / 64) (ws j + k / 64)) (dC (l % 64) (k % 64)))) (Ideal.ofBits FTy.f32 4286578688#32) := by
  have e3 := gRow_fact j ⟨l.val / 64, by omega⟩ ⟨k.val / 64, by omega⟩
  have e4 := gCol_fact ⟨l.val % 64, by omega⟩ ⟨k.val % 64, by omega⟩
  refine (cast_apply _ _ n l k).trans ?_
  rw [okMask_apply]
  refine congrArg (fun a => Scalar.select _ a _) ?_
  refine gather_at rp _ _ _ _ _ _ ?_ ?_
  · rw [gIdx_row]; exact e3
  · rw [gIdx_col]; exact e4

/-- Three stacked arrays read at an index. -/
theorem stack_apply (f : Fin 3 → Vec Ideal S4x256x768 .bf16) (i : Fin 3) (n : Fin 4) (l : Fin 256) (k : Fin 768) :
    stack3 (broadcastInDim S1x4x256x768 ![1, 2, 3] bcast_S4x256x768_S1x4x256x768_1_2_3 (f 0)) (broadcastInDim S1x4x256x768 ![1, 2, 3] bcast_S4x256x768_S1x4x256x768_1_2_3 (f 1))
      (broadcastInDim S1x4x256x768 ![1, 2, 3] bcast_S4x256x768_S1x4x256x768_1_2_3 (f 2)) (ix4 i n l k) = f i (ix3 n l k) := by
  unfold stack3
  fin_cases i
  · generalize f = g
    pointwise []
  · pointwise []
  · pointwise []

/-- The tables' stack read at an index. -/
theorem table_tbl (rp : Vec Ideal S4x15x31 .f32) (i : Fin 3) (n : Fin 4) (l : Fin 256) (k : Fin 768) : table rp (ix4 i n l k) = tbl (tq i) (tk i) rp (ix3 n l k) :=
  stack_apply (fun i => tbl (tq i) (tk i) rp) i n l k

/-- Whether a key of the window lies in a query's neighbourhood. -/
def inWin (j : Fin 16) (l : Fin 256) (k : Fin 768) : Prop :=
  (rs (4 * j + l / 64) ≤ ws j + k / 64 ∧ ws j + k / 64 < rs (4 * j + l / 64) + 8) ∧ cs (l % 64) ≤ k % 64 ∧ k.val % 64 < cs (l % 64) + 16
instance (j : Fin 16) (l : Fin 256) (k : Fin 768) : Decidable (inWin j l k) := by unfold inWin; infer_instance

/-- The table at an index: the bias in the neighbourhood, negative infinity outside of it. -/
theorem table_apply (rp : Vec Ideal S4x15x31 .f32) (j : Fin 16) (n : Fin 4) (l : Fin 256) (k : Fin 768) : table rp (ix4 (kind j) n l k)
    = if inWin j l k then rp (ix3 n (dR (4 * j + l / 64) (ws j + k / 64)) (dC (l % 64) (k % 64))) else Ideal.ofBits FTy.f32 4286578688#32 := by
  rw [table_tbl, tbl_apply]
  have e1 := rowOk_fact j ⟨l.val / 64, by omega⟩ ⟨k.val / 64, by omega⟩
  have e2 := colOk_fact ⟨l.val % 64, by omega⟩ ⟨k.val % 64, by omega⟩
  rw [e1, e2]
  generalize rp _ = v
  simp only
  by_cases h1 : rs (4 * j + l / 64) ≤ ws j + k / 64 ∧ ws j + k / 64 < rs (4 * j + l / 64) + 8 <;>
    by_cases h2 : cs (l % 64) ≤ k % 64 ∧ k.val % 64 < cs (l % 64) + 16
  · rw [if_pos h1, if_pos h2, if_pos (show inWin j l k from ⟨h1, h2⟩)]; rfl
  · rw [if_pos h1, if_neg h2, if_neg (show ¬ inWin j l k from fun h => h2 h.2)]; rfl
  · rw [if_neg h1, if_pos h2, if_neg (show ¬ inWin j l k from fun h => h1 h.1)]; rfl
  · rw [if_neg h1, if_neg h2, if_neg (show ¬ inWin j l k from fun h => h1 h.1)]; rfl
end Cert.NA
end
-- ==== Proof.RefIx.lean ====
/- The reference's windows, masks and biases in natural numbers. -/
module
public import proofs.«01_k».proof.Proof.Gen.ReferenceIdeal.Read
public import proofs.«01_k».proof.Proof.Win
public import Idealize.ShloMosaic.Lib.Pointwise
@[expose] public section
set_option maxRecDepth 16384
noncomputable section
namespace Cert.NR
open Idealize.ShloMosaic Cert.NA Cert.ReferenceIdeal Cert.ReferenceIdeal.Gen Cert.ReferenceIdeal.Read

/-- The row gather's dimension numbers. -/
abbrev DR := gather_S8x4x64x64x64_S64x8x1_S8x4x64x8x64x64_0145_2_n_n_2_2_8416464
/-- The bias gather's dimension numbers. -/
abbrev DB := gather_S4x15x31_S64x64x512x2_S4x64x64x512_0_12_n_n_12_3_411

/-- A row gather read at an index: the operand's row is the start index, clamped. -/
theorem rows_apply (v : Vec Ideal S8x4x64x64x64 .f32) (g : IVec S64x8x1 32) (b : Fin 8) (n : Fin 4) (r : Fin 64) (a : Fin 8) (w d : Fin 64) :
    Host.gather DR v g (ix6 b n r a w d) = v (ix5 b n ⟨min (g (ix3 r a 0)).toInt.toNat 63, by omega⟩ w d) := by
  unfold Host.gather
  have hs (e) : DR.siIdx (ix6 b n r a w d) e = ix3 r a 0 := by
    funext q
    fin_cases q
    · exact (dif_neg (by decide)).trans (by apply Fin.ext; rfl)
    · exact (dif_neg (by decide)).trans (by apply Fin.ext; rfl)
    · exact Subsingleton.elim (α := Fin 1) _ _
  refine congrArg v (funext fun q => Fin.ext ?_)
  show DR.start _ g q + DR.batchCoord _ q + DR.offCoord _ q = _
  unfold GatherDims.start GatherDims.batchCoord GatherDims.offCoord
  rw [dif_neg (show q ∉ DR.operandBatchingDims from List.not_mem_nil)]
  fin_cases q
  · rw [dif_neg (by decide), dif_pos (by decide)]; exact Nat.zero_add _
  · rw [dif_neg (by decide), dif_pos (by decide)]; exact Nat.zero_add _
  · rw [dif_pos (by decide), dif_neg (by decide), hs]; rfl
  · rw [dif_neg (by decide), dif_pos (by decide)]; exact Nat.zero_add _
  · rw [dif_neg (by decide), dif_pos (by decide)]; exact Nat.zero_add _

/-- The bias gather read at an index: the operand's row and column are the start indices, clamped. -/
theorem bias_apply (v : Vec Ideal S4x15x31 .f32) (g : IVec S64x64x512x2 32) (n : Fin 4) (r q : Fin 64) (k : Fin 512) :
    Host.gather DB v g (ix4 n r q k)
      = v (ix3 n ⟨min (g (ix4 r q k 0)).toInt.toNat 14, by omega⟩ ⟨min (g (ix4 r q k 1)).toInt.toNat 30, by omega⟩) := by
  unfold Host.gather
  have hs (e : Fin 2) : DB.siIdx (ix4 n r q k) e = ix4 r q k e := by
    funext a
    fin_cases a
    · exact (dif_neg (by decide)).trans (by apply Fin.ext; rfl)
    · exact (dif_neg (by decide)).trans (by apply Fin.ext; rfl)
    · exact (dif_neg (by decide)).trans (by apply Fin.ext; rfl)
    · exact (dif_pos (by decide)).trans (by apply Fin.ext; rfl)
  refine congrArg v (funext fun a => Fin.ext ?_)
  show DB.start _ g a + DB.batchCoord _ a + DB.offCoord _ a = _
  unfold GatherDims.start GatherDims.batchCoord GatherDims.offCoord
  rw [dif_neg (show a ∉ DB.operandBatchingDims from List.not_mem_nil)]
  fin_cases a
  · rw [dif_neg (by decide), dif_pos (by decide)]; exact Nat.zero_add _
  · rw [dif_pos (by decide), dif_neg (by decide)]; exact congrArg (fun i => min (g i).toInt.toNat 14) (hs 0)
  · rw [dif_pos (by decide), dif_neg (by decide)]; exact congrArg (fun i => min (g i).toInt.toNat 30) (hs 1)

/-- The first key row of a window, as the key gather takes it. -/
theorem v39_fact : ∀ r : Fin 64, ∀ a : Fin 8, min (val_main_v39 (F := Ideal) (ix3 r a 0)).toInt.toNat 63 = rs r + a := by decide +kernel
/-- The first key row of a window, as the value gather takes it. -/
theorem v47_fact : ∀ r : Fin 64, ∀ a : Fin 8, min (val_main_v47 (F := Ideal) (ix3 r a 0)).toInt.toNat 63 = rs r + a := by decide +kernel
/-- The column mask depends on the key's column. -/
theorem v65_split (q : Fin 64) (k : Fin 512) : val_main_v65 (F := Ideal) (ix2 q k) = val_main_v65 (F := Ideal) (ix2 q ⟨k.val % 64, by omega⟩) := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v21]
  simp only [Nat.mod_mod]
/-- The column mask in natural numbers. -/
theorem v65_fact : ∀ q w : Fin 64, val_main_v65 (F := Ideal) (ix2 q ⟨w.val, by omega⟩) = if cs q ≤ w ∧ w < cs q + 16 then 1#1 else 0#1 := by decide +kernel
/-- The bias's row index depends on the key's row. -/
theorem v91_split (r : Fin 64) (k : Fin 512) : val_main_v91 (F := Ideal) (ix3 r 0 k) = val_main_v91 (F := Ideal) (ix3 r 0 ⟨k.val / 64 * 64, by omega⟩) := by
  pointwise [val_main_v91, val_main_v90, val_main_v89, val_main_v88, val_main_v87, val_main_v81, val_main_v80, val_main_v79, val_main_v78, val_main_v77, val_main_v70, val_main_v69, val_main_v68, val_main_v67, val_main_v66, val_main_v30]
  simp only [Nat.mul_div_cancel _ (by decide : 0 < 64)]
/-- The bias's row index in natural numbers. -/
theorem v91_fact : ∀ r : Fin 64, ∀ a : Fin 8, min (val_main_v91 (F := Ideal) (ix3 r 0 ⟨a.val * 64, by omega⟩)).toInt.toNat 14 = (dR r (rs r + a)).val := by decide +kernel
/-- The bias's column index depends on the key's column. -/
theorem v96_split (q : Fin 64) (k : Fin 512) : val_main_v96 (F := Ideal) (ix3 0 q k) = val_main_v96 (F := Ideal) (ix3 0 q ⟨k.val % 64, by omega⟩) := by
  pointwise [val_main_v96, val_main_v95, val_main_v94, val_main_v93, val_main_v92, val_main_v86, val_main_v85, val_main_v84, val_main_v83, val_main_v82, val_main_v76, val_main_call2_v4, val_main_call2_v2, val_main_call2_v1,  val_main_v75, val_main_v74, val_main_v73, val_main_v72, val_main_v71, val_main_v53, val_main_v52, val_main_v51, val_main_v50, val_main_v21]
  simp only [Nat.mod_mod]
/-- The bias's column index in natural numbers. -/
theorem v96_fact : ∀ q w : Fin 64, min (val_main_v96 (F := Ideal) (ix3 0 q ⟨w.val, by omega⟩)).toInt.toNat 30 = (dC q w).val := by decide +kernel
/-- The row index of the pair. -/
theorem v101_row (r q : Fin 64) (k : Fin 512) : val_main_v101 (F := Ideal) (ix4 r q k 0) = val_main_v91 (F := Ideal) (ix3 r 0 k) := by
  pointwise [val_main_v101, val_main_v99, val_main_v97]
/-- The column index of the pair. -/
theorem v101_col (r q : Fin 64) (k : Fin 512) : val_main_v101 (F := Ideal) (ix4 r q k 1) = val_main_v96 (F := Ideal) (ix3 0 q k) := by
  pointwise [val_main_v101, val_main_v100, val_main_v98]

/-- The bias gather at an index, its two indices known. -/
theorem bias_at (v : Vec Ideal S4x15x31 .f32) (g : IVec S64x64x512x2 32) (n : Fin 4) (r q : Fin 64) (k : Fin 512) {A : Fin 15} {B : Fin 31}
    (hA : min (g (ix4 r q k 0)).toInt.toNat 14 = A.val) (hB : min (g (ix4 r q k 1)).toInt.toNat 30 = B.val) :
    Host.gather DB v g (ix4 n r q k) = v (ix3 n A B) :=
  (bias_apply v g n r q k).trans (congrArg₂ (fun a b => v (ix3 n a b)) (Fin.ext hA) (Fin.ext hB))

/-- The bias of a query and a window key. -/
theorem v102_apply (x2 : Vec Ideal S4x15x31 .f32) (n : Fin 4) (r q : Fin 64) (k : Fin 512) :
    val_main_v102 (F := Ideal) x2 (ix4 n r q k) = x2 (ix3 n (dR r (rs r + k.val / 64)) (dC q (k.val % 64))) := by
  have h1 := v91_fact r ⟨k.val / 64, by omega⟩
  have h2 := v96_fact q ⟨k.val % 64, by omega⟩
  refine bias_at _ _ _ _ _ _ ?_ ?_
  · rw [v101_row, v91_split]; exact h1
  · rw [v101_col, v96_split]; exact h2

end Cert.NR
end
-- ==== Proof.Ref.lean ====
/- The reference read at an index. -/
module
public import proofs.«01_k».proof.Proof.RefIx
@[expose] public section
set_option maxRecDepth 16384
noncomputable section
namespace Cert.NR
open Idealize.ShloMosaic Cert.NA Cert.ReferenceIdeal Cert.ReferenceIdeal.Gen Cert.ReferenceIdeal.Read

section
variable (x : Vec Ideal S8x4096x2048 .bf16) (xc : Vec Ideal S8x256x2048 .bf16) (rp : Vec Ideal S4x15x31 .f32)

/-- The place in the sequence of a window key of a query at row `r`. -/
def wpos (r : Fin 64) (k : Fin 512) : Fin 4096 := ⟨(rs r + k.val / 64) * 64 + k.val % 64, by have := rs_le r; omega⟩

/-- A window key's coordinate. -/
theorem v41_apply (b : Fin 8) (n : Fin 4) (r : Fin 64) (k : Fin 512) (d : Fin 64) :
    val_main_v41 (F := Ideal) x (ix5 b n r k d) = x (ix3 b (wpos r k) ⟨256 + (n.val * 64 + d.val), by omega⟩) := by
  have h1 : val_main_v41 (F := Ideal) x (ix5 b n r k d) = val_main_v40 (F := Ideal) x (ix6 b n r ⟨k.val / 64, by omega⟩ ⟨k.val % 64, by omega⟩ d) := by
    unfold val_main_v41
    generalize val_main_v40 (F := Ideal) x = y
    pointwise []
  have h2 (R w : Fin 64) : val_main_v12 (F := Ideal) x (ix5 b n R w d) = x (ix3 b ⟨R.val * 64 + w.val, by omega⟩ ⟨256 + (n.val * 64 + d.val), by omega⟩) := by
    pointwise [val_main_v12, val_main_v11, val_main_v10, val_main_v3, val_main_v0]
  rw [h1]; unfold val_main_v40
  rw [rows_apply, h2]
  exact congrArg (fun a => x (ix3 b a _)) (Fin.ext (congrArg (fun a => a * 64 + k.val % 64) (v39_fact r ⟨k.val / 64, by omega⟩)))

/-- A window value's coordinate. -/
theorem v49_apply (b : Fin 8) (n : Fin 4) (r : Fin 64) (k : Fin 512) (d : Fin 64) :
    val_main_v49 (F := Ideal) x (ix5 b n r k d) = x (ix3 b (wpos r k) ⟨512 + (n.val * 64 + d.val), by omega⟩) := by
  have h1 : val_main_v49 (F := Ideal) x (ix5 b n r k d) = val_main_v48 (F := Ideal) x (ix6 b n r ⟨k.val / 64, by omega⟩ ⟨k.val % 64, by omega⟩ d) := by
    unfold val_main_v49
    generalize val_main_v48 (F := Ideal) x = y
    pointwise []
  have h2 (R w : Fin 64) : val_main_v15 (F := Ideal) x (ix5 b n R w d) = x (ix3 b ⟨R.val * 64 + w.val, by omega⟩ ⟨512 + (n.val * 64 + d.val), by omega⟩) := by
    pointwise [val_main_v15, val_main_v14, val_main_v13, val_main_v4, val_main_v0]
  rw [h1]; unfold val_main_v48
  rw [rows_apply, h2]
  exact congrArg (fun a => x (ix3 b a _)) (Fin.ext (congrArg (fun a => a * 64 + k.val % 64) (v47_fact r ⟨k.val / 64, by omega⟩)))

/-- The inner product of a query and a key of head `n`, scaled. -/
def dotp (n : Fin 4) (q k : Fin 2048 → EReal) : EReal :=
  (∑ d : Fin 64, q ⟨n.val * 64 + d.val, by omega⟩ * k ⟨256 + (n.val * 64 + d.val), by omega⟩) * Ideal.ofBits FTy.f32 1040187392#32

/-- The score of a window key. -/
def slat (b : Fin 8) (n : Fin 4) (r q : Fin 64) (k : Fin 512) : EReal :=
  if cs q ≤ k.val % 64 ∧ k.val % 64 < cs q + 16
  then dotp n (fun y => x (ix3 b ⟨r.val * 64 + q.val, by omega⟩ y)) (fun y => x (ix3 b (wpos r k) y)) + rp (ix3 n (dR r (rs r + k.val / 64)) (dC q (k.val % 64)))
  else Ideal.ofBits FTy.f32 4286578688#32

/-- The score of a context key. -/
def sctx (b : Fin 8) (n : Fin 4) (r q : Fin 64) (t : Fin 256) : EReal :=
  dotp n (fun y => x (ix3 b ⟨r.val * 64 + q.val, by omega⟩ y)) (fun y => xc (ix3 b t y))

/-- The reference's window scores. -/
theorem v109_apply (b : Fin 8) (n : Fin 4) (r q : Fin 64) (k : Fin 512) : val_main_v109 (F := Ideal) x rp (ix5 b n r q k) = slat x rp b n r q k := by
  have h : val_main_v109 (F := Ideal) x rp (ix5 b n r q k) = Scalar.select (val_main_v65 (F := Ideal) (ix2 q k))
      ((∑ d, x (ix3 b ⟨r.val * 64 + q.val, by omega⟩ ⟨n.val * 64 + d.val, by omega⟩) * val_main_v41 (F := Ideal) x (ix5 b n r k d)) * Ideal.ofBits FTy.f32 1040187392#32
        + val_main_v102 (F := Ideal) rp (ix4 n r q k)) (Ideal.ofBits FTy.f32 4286578688#32) := by
    pointwise [val_main_v109, val_main_call3_v1, val_main_call3_v2, val_main_call3_v0, val_main_cst_20, val_main_v108, val_main_v107, val_main_v106, val_main_v105, val_main_v104, val_main_cst, val_main_v103, val_main_v9, val_main_v8, val_main_v7, val_main_v2, val_main_v0]
    rfl
  rw [h, v65_split, v65_fact q ⟨k.val % 64, by omega⟩, v102_apply]
  simp only [v41_apply, slat, dotp]
  split <;> rfl

/-- The reference's context scores. -/
theorem v112_apply (b : Fin 8) (n : Fin 4) (r q : Fin 64) (t : Fin 256) : val_main_v112 (F := Ideal) x xc (ix5 b n r q t) = sctx x xc b n r q t := by
  pointwise [val_main_v112, val_main_v111, val_main_cst_21, val_main_v110, val_main_v17, val_main_v16, val_main_v5, val_main_v1, val_main_v9, val_main_v8, val_main_v7, val_main_v2, val_main_v0, sctx, dotp]

/-- All scores of a query, the window's before the context's. -/
def srow (b : Fin 8) (n : Fin 4) (r q : Fin 64) (k : Fin 768) : EReal := val_main_v113 (F := Ideal) x xc rp (ix5 b n r q k)
/-- The window's scores come first. -/
theorem srow_lat (b : Fin 8) (n : Fin 4) (r q : Fin 64) (k : Fin 512) : srow x xc rp b n r q (Fin.castAdd 256 k) = slat x rp b n r q k := by
  rw [← v109_apply]; unfold srow
  pointwise [val_main_v113]
  exact dif_pos k.isLt
/-- The context's scores come last. -/
theorem srow_ctx (b : Fin 8) (n : Fin 4) (r q : Fin 64) (k : Fin 256) : srow x xc rp b n r q (Fin.natAdd 512 k) = sctx x xc b n r q k := by
  rw [← v112_apply]; unfold srow
  pointwise [val_main_v113]
  refine (dif_neg (by simp)).trans (congrArg (fun a => val_main_v112 (F := Ideal) x xc (ix5 b n r q a)) (Fin.ext ?_))
  exact Nat.add_sub_cancel_left 512 k.val

/-- The greatest score of a query. -/
def smax (b : Fin 8) (n : Fin 4) (r q : Fin 64) : EReal :=
  max (Ideal.ofBits FTy.f32 4286578688#32) (Finset.fold max (Ideal.ofBits FTy.f32 4286578688#32) (srow x xc rp b n r q) Finset.univ)
/-- The sum of a query's weights. -/
def ssum (b : Fin 8) (n : Fin 4) (r q : Fin 64) : EReal :=
  ∑ k, Ideal.exp (srow x xc rp b n r q k - smax x xc rp b n r q)

/-- The greatest of a row of scores, as the host folds it. -/
theorem fold_row (y : Vec Ideal S8x4x64x64x768 .f32) (c : Vec Ideal S_ .f32) (b : Fin 8) (n : Fin 4) (r q : Fin 64) :
    Host.reduce (FloatOps.maximumf (F := Ideal) (φ := .f32)) y c reducesTo_S8x4x64x64x768_S8x4x64x64_d4 h_S_ (ix4 b n r q)
      = Finset.fold max (c (Shape.Idx.first h_S_)) (fun k => y (ix5 b n r q k)) Finset.univ := by
  pointwise []

/-- The greatest of a row of the reference's scores. -/
theorem v114_apply (b : Fin 8) (n : Fin 4) (r q : Fin 64) : val_main_v114 (F := Ideal) x xc rp (ix4 b n r q)
    = Finset.fold max (Ideal.ofBits FTy.f32 4286578688#32) (srow x xc rp b n r q) Finset.univ := by
  unfold val_main_v114
  rw [fold_row, val_main_cst_22_apply]
  have h : (fun k => val_main_v113 (F := Ideal) x xc rp (ix5 b n r q k)) = srow x xc rp b n r q := rfl
  rw [h]
  generalize srow x xc rp b n r q = f
  rfl

/-- The reference's greatest score. -/
theorem v116_apply (b : Fin 8) (n : Fin 4) (r q : Fin 64) : val_main_v116 (F := Ideal) x xc rp (ix4 b n r q) = smax x xc rp b n r q := by
  have h : val_main_v115 (F := Ideal) (ix4 b n r q) = Ideal.ofBits FTy.f32 4286578688#32 := by
    pointwise [val_main_v115, val_main_cst_23]
  rw [val_main_v116_apply, v114_apply, h]
  unfold smax
  generalize Finset.fold max (Ideal.ofBits FTy.f32 4286578688#32) (srow x xc rp b n r q) Finset.univ = f
  rfl

/-- The reference's unnormalised weight. -/
theorem v120_apply (b : Fin 8) (n : Fin 4) (r q : Fin 64) (k : Fin 768) : val_main_v120 (F := Ideal) x xc rp (ix5 b n r q k)
    = Ideal.exp (srow x xc rp b n r q k - smax x xc rp b n r q) := by
  rw [← v116_apply]; unfold srow
  unfold val_main_v120 val_main_v119 val_main_v118 val_main_v117
  generalize val_main_v113 (F := Ideal) x xc rp = y
  generalize val_main_v116 (F := Ideal) x xc rp = z
  pointwise []

/-- The reference's weight. -/
theorem v124_apply (b : Fin 8) (n : Fin 4) (r q : Fin 64) (k : Fin 768) : val_main_v124 (F := Ideal) x xc rp (ix5 b n r q k)
    = Ideal.div (Ideal.exp (srow x xc rp b n r q k - smax x xc rp b n r q)) (ssum x xc rp b n r q) := by
  unfold ssum
  simp only [← v120_apply]
  unfold val_main_v124 val_main_v123 val_main_v122 val_main_v121
  generalize val_main_v120 (F := Ideal) x xc rp = y
  pointwise [val_main_cst_24]

/-- The reference at an index: the softmax of the scores, applied to the values. -/
theorem ref_apply (b : Fin 8) (n : Fin 4) (r q d : Fin 64) :
    val_main_v132 (F := Ideal) x xc rp (ix3 b ⟨r.val * 64 + q.val, by omega⟩ ⟨n.val * 64 + d.val, by omega⟩)
      = (∑ k : Fin 512, Ideal.div (Ideal.exp (srow x xc rp b n r q (Fin.castAdd 256 k) - smax x xc rp b n r q)) (ssum x xc rp b n r q)
            * x (ix3 b (wpos r k) ⟨512 + (n.val * 64 + d.val), by omega⟩))
        + ∑ t : Fin 256, Ideal.div (Ideal.exp (srow x xc rp b n r q (Fin.natAdd 512 t) - smax x xc rp b n r q)) (ssum x xc rp b n r q)
            * xc (ix3 b t ⟨512 + (n.val * 64 + d.val), by omega⟩) := by
  simp only [← v49_apply, ← v124_apply]
  unfold val_main_v132 val_main_v131 val_main_v130 val_main_v129 val_main_v128 val_main_v127 val_main_v126 val_main_v125
  generalize val_main_v124 (F := Ideal) x xc rp = y
  generalize val_main_v49 (F := Ideal) x = z
  pointwise [val_main_v19, val_main_v18, val_main_v6, val_main_v1]
  rfl

end
end Cert.NR
end
-- ==== Proof.Equal.lean ====
/- The kernel's result and the reference's result are equal where the scores are finite. -/
module
public import proofs.«01_k».proof.Proof.Soft
public import proofs.«01_k».proof.Proof.Entry
public import proofs.«01_k».proof.Proof.Ref
@[expose] public section
set_option maxRecDepth 16384
noncomputable section
namespace Cert.NA
open Idealize.ShloMosaic Cert.KernelIdeal Cert.NR

/-- The first lane of each head. -/
def loN (n : Fin 4) : BitVec 32 := ![0#32, 64#32, 128#32, 192#32] n
/-- The lane after each head's last. -/
def hiN (n : Fin 4) : BitVec 32 := ![64#32, 128#32, 192#32, 256#32] n
/-- A lane lies in a head when its number divided by 64 is the head's. -/
theorem lanes_fact : ∀ n : Fin 4, ∀ x : Fin 256, lanes (loN n) (hiN n) x = if x.val / 64 = n.val then 1#1 else 0#1 := by decide +kernel

/-- The scale as the kernel and as the reference spell it. -/
theorem scale_eq : Ideal.ofBits FTy.bf16 15872#16 = Ideal.ofBits FTy.f32 1040187392#32 := by
  simp [Ideal.ofBits, Ideal.ieee]
  rw [← EReal.coe_mul, ← EReal.coe_mul]; norm_num
/-- The scale is a real number at least zero. -/
theorem scale_real : ∃ s : ℝ, 0 ≤ s ∧ Ideal.ofBits FTy.f32 1040187392#32 = (s : EReal) := by
  refine ⟨0.125, by norm_num, ?_⟩
  simp [Ideal.ofBits, Ideal.ieee]
  rw [← EReal.coe_mul]; norm_num

/-- A head's score is the scaled inner product over the head's lanes. -/
theorem score_eq (n : Fin 4) (q k : Fin 256 → EReal) : score (loN n) (hiN n) q k
    = (∑ d : Fin 64, q ⟨n.val * 64 + d.val, by omega⟩ * k ⟨n.val * 64 + d.val, by omega⟩) * Ideal.ofBits FTy.f32 1040187392#32 := by
  obtain ⟨s, hs, es⟩ := scale_real
  rw [sum_mul_real _ _ (by rw [es]; exact_mod_cast hs) (by rw [es]; exact EReal.coe_ne_top s), score]
  refine sum_image_eq (fun d : Fin 64 => (⟨n.val * 64 + d.val, by omega⟩ : Fin 256)) ?_ _ _ ?_ ?_
  · intro a b h; have := Fin.mk.inj h; exact Fin.ext (by omega)
  · intro i hi
    rw [lanes_fact, if_neg, Scalar.select]; · rfl
    intro h; exact hi ⟨i.val % 64, by omega⟩ (Fin.ext (by show n.val * 64 + i.val % 64 = i.val; omega))
  · intro d
    rw [lanes_fact, if_pos (by show (n.val * 64 + d.val) / 64 = n.val; omega), scale_eq]
    exact mul_right_comm _ _ _

/-- A sum of real numbers is a real number. -/
theorem sum_coe_real {ι : Type*} (s : Finset ι) (f : ι → EReal) (h : ∀ i, ∃ p : ℝ, f i = (p : EReal)) : ∃ p : ℝ, ∑ i ∈ s, f i = (p : EReal) := by
  classical
  induction s using Finset.induction_on with
  | empty => exact ⟨0, by simp⟩
  | insert a s ha ih =>
    obtain ⟨p, e⟩ := ih
    obtain ⟨q, e'⟩ := h a
    exact ⟨q + p, by rw [Finset.sum_insert ha, e, e', EReal.coe_add]⟩

/-- The scaled inner product of real queries and keys is a real number. -/
theorem dotp_real (n : Fin 4) (q k : Fin 2048 → EReal) (hq : ∀ y, y.val < 512 → ∃ p : ℝ, q y = (p : EReal))
    (hk : ∀ y, 256 ≤ y.val → y.val < 512 → ∃ p : ℝ, k y = (p : EReal)) : ∃ p : ℝ, dotp n q k = (p : EReal) := by
  obtain ⟨s, _, es⟩ := scale_real
  obtain ⟨p, ep⟩ := sum_coe_real Finset.univ (fun d : Fin 64 => q ⟨n.val * 64 + d.val, by omega⟩ * k ⟨256 + (n.val * 64 + d.val), by omega⟩) fun d => by
    obtain ⟨a, ea⟩ := hq ⟨n.val * 64 + d.val, by omega⟩ (by show n.val * 64 + d.val < 512; omega)
    obtain ⟨b, eb⟩ := hk ⟨256 + (n.val * 64 + d.val), by omega⟩ (Nat.le_add_right _ _) (by show 256 + (n.val * 64 + d.val) < 512; omega)
    exact ⟨a * b, by rw [ea, eb, EReal.coe_mul]⟩
  exact ⟨p * s, by rw [dotp, ep, es, EReal.coe_mul]⟩

/-- At a lane of head `n` a block is that head. -/
theorem block_eq (j : Fin 16) (x0 : Vec Ideal S1x256x256 .bf16) (x1 x2 : Vec Ideal S1x4096x256 .bf16)
    (x3 x4 : Vec Ideal S1x256x256 .bf16) (x5 : Vec Ideal S3x4x256x768 .bf16) (r l : Fin 256) (n : Fin 4) (hn : l.val / 64 = n.val) :
    block j x0 x1 x2 x3 x4 x5 r l = head (loN n) (hiN n) (fun x => x0 (ix3 0 r x)) (fun k x => x1 (ix3 0 (wkey j k) x)) (fun k x => x3 (ix3 0 k x))
      (fun k => x5 (ix4 (kind j) n r k)) (fun k => x2 (ix3 0 (wkey j k) l)) (fun k => x4 (ix3 0 k l)) := by
  have h (i : Fin 4) : lanes (loN i) (hiN i) l = if n = i then 1#1 else 0#1 := by
    rw [lanes_fact, hn]; simp only [Fin.ext_iff]
  have h0 := h 0
  have h1 := h 1
  have h2 := h 2
  have h3 := h 3
  rw [show loN 0 = 0#32 from rfl, show hiN 0 = 64#32 from rfl] at h0
  rw [show loN 1 = 64#32 from rfl, show hiN 1 = 128#32 from rfl] at h1
  rw [show loN 2 = 128#32 from rfl, show hiN 2 = 192#32 from rfl] at h2
  rw [show loN 3 = 192#32 from rfl, show hiN 3 = 256#32 from rfl] at h3
  unfold block
  rw [h0, h1, h2, h3]
  have s1 (a : EReal) : Scalar.select 1#1 a 0 = a := rfl
  have s0 (a : EReal) : Scalar.select 0#1 a 0 = 0 := rfl
  clear h h0 h1 h2 h3
  fin_cases n <;> simp [s1, s0] <;> rfl

section
variable (x : Vec Ideal S8x4096x2048 .bf16) (xc : Vec Ideal S8x256x2048 .bf16) (rp : Vec Ideal S4x15x31 .f32)

/-- Where a window key of the reference stands among the kernel's 768. -/
def slot (r : Fin 64) (k : Fin 512) : Fin 768 :=
  ⟨(rs r + k.val / 64 - ws ⟨r.val / 4, by omega⟩) * 64 + k.val % 64, by simp only [rs, ws]; omega⟩

theorem slot_val (r : Fin 64) (k : Fin 512) : (slot r k).val + ws ⟨r.val / 4, by omega⟩ * 64 = (rs r + k.val / 64) * 64 + k.val % 64 := by
  simp only [slot, rs, ws]; omega

/-- The kernel's result and the reference's are equal where queries, keys and biases are finite. -/
theorem eq_at (hx : ∀ b L y, y.val < 512 → ∃ p : ℝ, x (ix3 b L y) = (p : EReal))
    (hc : ∀ b L y, 256 ≤ y.val → y.val < 512 → ∃ p : ℝ, xc (ix3 b L y) = (p : EReal))
    (hr : ∀ n a c, ∃ p : ℝ, rp (ix3 n a c) = (p : EReal)) (b : Fin 8) (n : Fin 4) (r q d : Fin 64) :
    whole x xc (table rp) (ix3 b ⟨r.val * 64 + q.val, by omega⟩ ⟨n.val * 64 + d.val, by omega⟩)
      = Cert.ReferenceIdeal.Read.val_main_v132 (F := Ideal) x xc rp (ix3 b ⟨r.val * 64 + q.val, by omega⟩ ⟨n.val * 64 + d.val, by omega⟩) := by
  have hj : jOf ⟨r.val * 64 + q.val, by omega⟩ = ⟨r.val / 4, by omega⟩ := Fin.ext (by show (r.val * 64 + q.val) / 256 = r.val / 4; omega)
  rw [ref_apply]
  unfold whole
  show block (jOf ⟨r.val * 64 + q.val, by omega⟩) (qblk x b (jOf ⟨r.val * 64 + q.val, by omega⟩)) (lblk x b 1) (lblk x b 2) (cblk xc b 1) (cblk xc b 2) (table rp)
    ⟨(r.val * 64 + q.val) % 256, by omega⟩ ⟨n.val * 64 + d.val, by omega⟩ = _
  rw [hj, block_eq _ _ _ _ _ _ _ _ _ n (by show (n.val * 64 + d.val) / 64 = n.val; omega), head]
  have hq : (⟨r.val / 4 * 256 + (r.val * 64 + q.val) % 256, by omega⟩ : Fin 4096) = ⟨r.val * 64 + q.val, by omega⟩ :=
    Fin.ext (by show r.val / 4 * 256 + (r.val * 64 + q.val) % 256 = r.val * 64 + q.val; omega)
  -- the kernel's scores are scaled inner products
  have hsc (k : Fin 4096) : score (loN n) (hiN n) (fun y => qblk x b ⟨r.val / 4, by omega⟩ (ix3 0 ⟨(r.val * 64 + q.val) % 256, by omega⟩ y)) (fun y => lblk x b 1 (ix3 0 k y))
      = dotp n (fun y => x (ix3 b ⟨r.val * 64 + q.val, by omega⟩ y)) (fun y => x (ix3 b k y)) := by
    rw [score_eq, dotp, ← hq]; rfl
  have hcc (k : Fin 256) : score (loN n) (hiN n) (fun y => qblk x b ⟨r.val / 4, by omega⟩ (ix3 0 ⟨(r.val * 64 + q.val) % 256, by omega⟩ y)) (fun y => cblk xc b 1 (ix3 0 k y))
      = sctx x xc b n r q k := by
    rw [score_eq, sctx, dotp, ← hq]; rfl
  simp only [hsc, hcc]
  have e1 (k : Fin 512) : wkey ⟨r.val / 4, by omega⟩ (slot r k) = wpos r k :=
    Fin.ext (by have := slot_val r k; show ws ⟨r.val / 4, by omega⟩ * 64 + (slot r k).val = (rs r + k.val / 64) * 64 + k.val % 64; omega)
  have hrow : 4 * (r.val / 4) + (r.val * 64 + q.val) % 256 / 64 = r.val := by omega
  have hcol : (r.val * 64 + q.val) % 256 % 64 = q.val := by omega
  -- the bias table at a window key
  have htab (k : Fin 768) : table rp (ix4 (kind ⟨r.val / 4, by omega⟩) n ⟨(r.val * 64 + q.val) % 256, by omega⟩ k)
      = if (rs r ≤ ws ⟨r.val / 4, by omega⟩ + k.val / 64 ∧ ws ⟨r.val / 4, by omega⟩ + k.val / 64 < rs r + 8) ∧ cs q ≤ k.val % 64 ∧ k.val % 64 < cs q + 16
        then rp (ix3 n (dR r (ws ⟨r.val / 4, by omega⟩ + k.val / 64)) (dC q (k.val % 64))) else Ideal.ofBits FTy.f32 4286578688#32 := by
    rw [table_apply]
    unfold inWin
    simp only [hrow, hcol]
  simp only [htab]
  have hdl (k : Fin 4096) : ∃ p : ℝ, dotp n (fun y => x (ix3 b ⟨r.val * 64 + q.val, by omega⟩ y)) (fun y => x (ix3 b k y)) = (p : EReal) :=
    dotp_real n _ _ (fun y h => hx _ _ y h) (fun y _ h => hx _ _ y h)
  have hdc (k : Fin 256) : ∃ p : ℝ, sctx x xc b n r q k = (p : EReal) :=
    dotp_real n _ _ (fun y h => hx _ _ y h) (fun y h h' => hc _ _ y h h')
  refine att_eq (slot r) ?_ (S' := slat x rp b n r q) ?_ ?_ ?_ ?_ ?_ ?_ (srow_lat x xc rp b n r q) (srow_ctx x xc rp b n r q) rfl rfl
  · intro a c h
    have h1 := slot_val r a
    have h2 := slot_val r c
    rw [h] at h1
    exact Fin.ext (by omega)
  · intro k
    have hv := slot_val r k
    have g1 : ws ⟨r.val / 4, by omega⟩ + (slot r k).val / 64 = rs r + k.val / 64 := by omega
    have g2 : (slot r k).val % 64 = k.val % 64 := by omega
    simp only [e1, g1, g2, slat]
    by_cases h : cs q ≤ k.val % 64 ∧ k.val % 64 < cs q + 16
    · rw [if_pos ⟨⟨by omega, by omega⟩, h⟩, if_pos h]
    · rw [if_neg fun h' => h h'.2, if_neg h, negInf_eq, EReal.add_bot]
  · intro k
    simp only [e1]; rfl
  · intro i hi
    rw [if_neg, negInf_eq, EReal.add_bot]
    rintro ⟨⟨g1, g2⟩, _⟩
    refine hi ⟨(ws ⟨r.val / 4, by omega⟩ + i.val / 64 - rs r) * 64 + i.val % 64, by omega⟩ (Fin.ext ?_)
    have := slot_val r ⟨(ws ⟨r.val / 4, by omega⟩ + i.val / 64 - rs r) * 64 + i.val % 64, by omega⟩
    simp only at this
    omega
  · intro k
    unfold slat
    split
    · obtain ⟨p, ep⟩ := hdl (wpos r k)
      obtain ⟨p', ep'⟩ := hr n (dR r (rs r + k.val / 64)) (dC q (k.val % 64))
      rw [ep, ep', ← EReal.coe_add]; exact EReal.coe_ne_top _
    · rw [negInf_eq]; exact bot_ne_top
  · intro k; obtain ⟨p, ep⟩ := hdc k; rw [ep]; exact EReal.coe_ne_top _
  · obtain ⟨p, ep⟩ := hdc 0; rw [ep]; exact EReal.coe_ne_bot _
end
end Cert.NA
end
-- ==== Proof.Final.lean ====
/- The value claim of the neighbourhood attention: the finite entries the condition grants, and the two runs beside each other. -/
module
public import proofs.«01_k».proof.Defs
public import proofs.«01_k».proof.Proof.Equal
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pointwise
@[expose] public section
set_option maxRecDepth 16384
noncomputable section
namespace Cert.NA
open Idealize.ShloMosaic Idealize.SL.Sem

/-- The condition's shape relations. -/
theorem finite_facts : Cert.Pre_finite.Facts :=
  ⟨by decide, by decide, by decide, by decide, by decide⟩

/-- An extended real whose absolute value is below something is a real number. -/
theorem real_of_lt {a u : EReal} (h : Ideal.cmp CmpFPredicate.olt (max a (-a)) u = 1#1) : ∃ p : ℝ, a = (p : EReal) := by
  induction a with
  | bot => exfalso; simp [Ideal.cmp] at h
  | top => exfalso; simp [Ideal.cmp] at h
  | coe p => exact ⟨p, rfl⟩

section
attribute [local instance] finite_facts
variable {x : FVec Ideal Cert.Pre_finite.S8x4096x2048 .bf16} {xc : FVec Ideal Cert.Pre_finite.S8x256x2048 .bf16} {rp : FVec Ideal Cert.Pre_finite.S4x15x31 .f32}

/-- Under the condition every query and key is a real number. -/
theorem real_x (h : (Cert.Pre_finite.fn (F := Ideal) x xc rp).1 = fun _ => 1#1) (b : Fin 8) (L : Fin 4096) (y : Fin 2048) (hy : y.val < 512) :
    ∃ p : ℝ, x (ix3 b L y) = (p : EReal) := by
  have h' := congrFun h (ix3 b L ⟨y.val, hy⟩)
  unfold Cert.Pre_finite.fn at h'
  have e : x (ix3 b L y) = extractStridedSlice Cert.Pre_finite.S8x4096x512 ![0, 0, 0] x Cert.Pre_finite.Facts.slices_S8x4096x2048_S8x4096x512_0_0_0 (ix3 b L ⟨y.val, hy⟩) := by
    pointwise
    try exact congrArg (fun z => x (ix3 b L z)) (Fin.ext (by show y.val = 0 + y.val; omega))
  rw [e]
  exact real_of_lt h'

/-- Under the condition every key of the context is a real number. -/
theorem real_c (h : (Cert.Pre_finite.fn (F := Ideal) x xc rp).2.1 = fun _ => 1#1) (b : Fin 8) (L : Fin 256) (y : Fin 2048) (hl : 256 ≤ y.val) (hy : y.val < 512) :
    ∃ p : ℝ, xc (ix3 b L y) = (p : EReal) := by
  have h' := congrFun h (ix3 b L ⟨y.val - 256, by omega⟩)
  unfold Cert.Pre_finite.fn at h'
  have e : xc (ix3 b L y) = extractStridedSlice Cert.Pre_finite.S8x256x256 ![0, 0, 256] xc Cert.Pre_finite.Facts.slices_S8x256x2048_S8x256x256_0_0_256 (ix3 b L ⟨y.val - 256, by omega⟩) := by
    pointwise
    exact congrArg (fun z => xc (ix3 b L z)) (Fin.ext (by show y.val = 256 + (y.val - 256); omega))
  rw [e]
  exact real_of_lt h'

/-- Under the condition every relative bias is a real number. -/
theorem real_r (h : (Cert.Pre_finite.fn (F := Ideal) x xc rp).2.2 = fun _ => 1#1) (n : Fin 4) (a : Fin 15) (c : Fin 31) : ∃ p : ℝ, rp (ix3 n a c) = (p : EReal) :=
  real_of_lt (congrFun h (ix3 n a c))
end

/-- The kernel's result is the reference's where the condition holds. -/
theorem whole_eq (x : Vec Ideal Cert.KernelIdeal.S8x4096x2048 .bf16) (xc : Vec Ideal Cert.KernelIdeal.S8x256x2048 .bf16) (rp : Vec Ideal Cert.KernelIdeal.S4x15x31 .f32)
    (h : @Cert.Pre_finite.fn finite_facts Ideal _ x xc rp = (fun _ => 1#1, fun _ => 1#1, fun _ => 1#1)) :
    whole x xc (table rp) = Cert.ReferenceIdeal.Read.val_main_v132 (F := Ideal) x xc rp := by
  have h1 := congrArg Prod.fst h
  have h2 := congrArg (fun z => z.2.1) h
  have h3 := congrArg (fun z => z.2.2) h
  funext i
  obtain ⟨b, L, c, rfl⟩ : ∃ (b : Fin 8) (L : Fin 4096) (c : Fin 256), i = ix3 b L c :=
    ⟨i 0, i 1, i 2, by funext d; fin_cases d <;> rfl⟩
  obtain ⟨r, q, rfl⟩ : ∃ r q : Fin 64, L = ⟨r.val * 64 + q.val, by omega⟩ :=
    ⟨⟨L.val / 64, by omega⟩, ⟨L.val % 64, by omega⟩, Fin.ext (Nat.div_add_mod' _ _).symm⟩
  obtain ⟨n, d, rfl⟩ : ∃ (n : Fin 4) (d : Fin 64), c = ⟨n.val * 64 + d.val, by omega⟩ :=
    ⟨⟨c.val / 64, by omega⟩, ⟨c.val % 64, by omega⟩, Fin.ext (Nat.div_add_mod' _ _).symm⟩
  exact eq_at x xc rp (fun b L y hy => real_x h1 b L y hy) (fun b L y hl hy => real_c h2 b L y hl hy) (fun n a c => real_r h3 n a c) b n r q d

/-- Over the extended reals the kernel and the reference end with equal results where the condition holds. -/
theorem algebraic : @Cert.algebraic_KernelIdeal_ReferenceIdeal_pre_finite Cert.KernelIdeal.Gen.facts Cert.ReferenceIdeal.Gen.facts finite_facts := by
  intro m g m' g' hp ha
  refine ⟨fun c => whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (table (m ((c.tc : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩) (Cert.KernelIdeal.Value.run_blocks m g)
    rw [arr_eq, tab]
  · refine (θ_run Cert.ReferenceIdeal.defs _ _).mono (fun r h c => ⟨(h c).1.trans ?_, (h c).2⟩) (Cert.ReferenceIdeal.Value.run m' g')
    obtain ⟨a0, a1, a2⟩ := ha c
    obtain ⟨p0, p1, p2⟩ := hp c
    rw [Cert.ReferenceIdeal.Read.val_main_v132_eq, a0, a1, a2]
    exact (whole_eq _ _ _ (Prod.ext p0 (Prod.ext p1 p2))).symm

/-- The reference runs, keeps its arguments and ends with every counter at zero. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.ReferenceIdeal.Value.run m g)

end Cert.NA
end
-- ==== Proof.Norm.lean ====
/- The normed and modulated input row that two of the calls and their references share. -/
module
public import Idealize.ShloMosaic.Lib.Pointwise
@[expose] public section
noncomputable section
namespace Cert.NN
open Idealize.ShloMosaic

/-- The normed input: a row divided by its root mean square, times the gain, scaled by one plus `sc` and shifted by `sh`. -/
def nrow (x g sc sh : Fin 1024 → EReal) (d : Fin 1024) : EReal :=
  x d * Ideal.rsqrt (Ideal.div (∑ e, x e * x e) (Ideal.ofBits FTy.f32 1149239296#32) + Ideal.ofBits FTy.f32 897988541#32) * g d * (1 + sc d) + sh d

end Cert.NN
end
-- ==== Proof.Proj.lean ====
/- The projection of the normed input: the kernel's block, its whole result, the reference and the claim. -/
module
public import proofs.«01_k».proof.Defs
public import proofs.«01_k».proof.Proof.Norm
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim
public import Idealize.ShloMosaic.Lib.Pipeline.ValueKit
public import Idealize.ShloMosaic.Lib.StableHlo.RunRead
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NP
open Cert.NN Cert.Kernel2Ideal Cert.Kernel2Ideal.Gen

/-- What the body stores, at a row and a column. -/
theorem pay_apply (v0 : Vec Ideal S1x512x1024 .f32) (v2 : Vec Ideal S1x1024 .f32) (v4 v6 : Vec Ideal S1x1x1024 .f32) (v27 : Vec Ideal S1024x2048 .bf16) (r : Fin 512) (n : Fin 2048) :
    k0_pay1 v0 v2 v4 v6 v27 (ix3 0 r n)
      = ∑ d, nrow (fun e => v0 (ix3 0 r e)) (fun e => v2 (ix2 0 e)) (fun e => v4 (ix3 0 0 e)) (fun e => v6 (ix3 0 0 e)) d * v27 (ix2 d n) := by
  unfold nrow
  pointwise [k0_pay1]

/-- The result from the five arguments. -/
def whole (x : Vec Ideal S8x4096x1024 .f32) (g : Vec Ideal S1024 .f32) (sc sh : Vec Ideal S8x1024 .f32) (w : Vec Ideal S1024x2048 .f32) : S8x4096x2048.Idx → EReal :=
  fun i => ∑ d, nrow (fun e => x (ix3 (i 0) (i 1) e)) (fun e => g (ix1 e)) (fun e => sc (ix2 (i 0) e)) (fun e => sh (ix2 (i 0) e)) d * w (ix2 d (i 2))

section
variable (m : (ℓ : Loc nD τ sig) → Buf (Elt Ideal) ℓ) (c : Dev nD)

/-- The block each window is on at a grid point. -/
theorem idx : ∀ t : Fin cfg0.N, win0_0.index t = ![(grid0.coords t 0).val, (grid0.coords t 1).val, 0]
    ∧ win0_1.index t = ![0, 0] ∧ win0_2.index t = ![(grid0.coords t 0).val, 0, 0]
    ∧ win0_3.index t = ![(grid0.coords t 0).val, 0, 0] ∧ win0_4.index t = ![0, 0]
    ∧ win0_5.index t = ![(grid0.coords t 0).val, (grid0.coords t 1).val, 0] :=
  (by decide +kernel : ∀ t : Fin grid0.N, win0_0.index t = ![(grid0.coords t 0).val, (grid0.coords t 1).val, 0]
    ∧ win0_1.index t = ![0, 0] ∧ win0_2.index t = ![(grid0.coords t 0).val, 0, 0]
    ∧ win0_3.index t = ![(grid0.coords t 0).val, 0, 0] ∧ win0_4.index t = ![0, 0]
    ∧ win0_5.index t = ![(grid0.coords t 0).val, (grid0.coords t 1).val, 0])

/-- The token a block's row is. -/
def tok (b j : Fin 8) (r : Fin 512) : Fin 4096 := ⟨j.val * 512 + r.val, by omega⟩

theorem iblk0 (t : Fin cfg0.N) (r : Fin 512) (e : Fin 1024) :
    iblk m c 0 t (ix3 0 r e) = m ((c : Thread nD τ).loc main_arg0) (ix3 (grid0.coords t 0 : Fin 8) (tok (grid0.coords t 0) (grid0.coords t 1) r) e) := by
  have h2 : iblk m c 0 t (ix3 0 r e) = V m c main_arg0 (ix3 (grid0.coords t 0 : Fin 8) (tok (grid0.coords t 0) (grid0.coords t 1) r) e) := by
    unfold tok; blk_ext [iblk, idx t]
  exact h2.trans (congrFun (V_main_arg0 m c) _)
theorem iblk1 (t : Fin cfg0.N) (e : Fin 1024) : iblk m c 1 t (ix2 0 e) = m ((c : Thread nD τ).loc main_arg1) (ix1 e) := by
  have h : V m c main_v1 = shapeCast S1x1024 (m ((c : Thread nD τ).loc main_arg1)) shapeCasts_S1024_S1x1024 := by
    unfold_abbrev_sides
    after_reads_simp
    rfl
  have h2 : iblk m c 1 t (ix2 0 e) = V m c main_v1 (ix2 0 e) := by blk_ext [iblk, idx t]
  rw [h2, h]; pointwise []
theorem iblk2 (t : Fin cfg0.N) (e : Fin 1024) : iblk m c 2 t (ix3 0 0 e) = m ((c : Thread nD τ).loc main_arg2) (ix2 (grid0.coords t 0 : Fin 8) e) := by
  have h : V m c main_v2 = shapeCast S8x1x1024 (m ((c : Thread nD τ).loc main_arg2)) shapeCasts_S8x1024_S8x1x1024 := by
    unfold_abbrev_sides
    after_reads_simp
    rfl
  have h2 : iblk m c 2 t (ix3 0 0 e) = V m c main_v2 (ix3 (grid0.coords t 0 : Fin 8) 0 e) := by blk_ext [iblk, idx t]
  rw [h2, h]; pointwise []
theorem iblk3 (t : Fin cfg0.N) (e : Fin 1024) : iblk m c 3 t (ix3 0 0 e) = m ((c : Thread nD τ).loc main_arg3) (ix2 (grid0.coords t 0 : Fin 8) e) := by
  have h : V m c main_v3 = shapeCast S8x1x1024 (m ((c : Thread nD τ).loc main_arg3)) shapeCasts_S8x1024_S8x1x1024 := by
    unfold_abbrev_sides
    after_reads_simp
    rfl
  have h2 : iblk m c 3 t (ix3 0 0 e) = V m c main_v3 (ix3 (grid0.coords t 0 : Fin 8) 0 e) := by blk_ext [iblk, idx t]
  rw [h2, h]; pointwise []
theorem iblk4 (t : Fin cfg0.N) (d : Fin 1024) (n : Fin 2048) : iblk m c 4 t (ix2 d n) = m ((c : Thread nD τ).loc main_arg4) (ix2 d n) := by
  have h : (V m c main_v0 : S1024x2048.Idx → EReal) = m ((c : Thread nD τ).loc main_arg4) := by
    unfold_abbrev_sides
    after_reads_simp
    rfl
  have h2 : iblk m c 4 t (ix2 d n) = V m c main_v0 (ix2 d n) := by blk_ext [iblk, idx t]
  exact h2.trans (congrFun h _)

/-- The result array after the run. -/
theorem arr_eq : (dats m 0 c).arrAt 5 cfg0.N
    = whole (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  have h0 : (y 0).val < 1 := (y 0).isLt
  have h1 : (y 1).val < 512 := (y 1).isLt
  have h2 : (y 2).val < 2048 := (y 2).isLt
  have hy : (cfg0.win 5).xinj (cfg0.grid.coords t) y = ix3 0 ⟨(y 1).val, h1⟩ ⟨(y 2).val, h2⟩ := by
    funext a; apply Fin.ext; fin_cases a
    · show (y 0).val = 0; omega
    · rfl
    · rfl
  have he : ((cfg0.win 5).blk t).view.emb y
      = (ix3 (grid0.coords t 0 : Fin 8) (tok (grid0.coords t 0) (grid0.coords t 1) ⟨(y 1).val, h1⟩) (⟨(y 2).val, h2⟩ : Fin 2048) : S8x4096x2048.Idx) := by
    unfold tok; blk_ext [idx t]
  rw [he]
  refine (congrArg (k0_pay1 (iblk m c 0 t) (iblk m c 1 t) (iblk m c 2 t) (iblk m c 3 t) (iblk m c 4 t)) hy).trans ?_
  rw [pay_apply, funext (iblk0 m c t _), funext (iblk1 m c t), funext (iblk2 m c t), funext (iblk3 m c t)]
  exact Finset.sum_congr rfl fun d _ => congrArg _ (iblk4 m c t d _)
end

/-- The reference's result. -/
theorem ref_eq (x : Vec Ideal S8x4096x1024 .f32) (g : Vec Ideal S1024 .f32) (sc sh : Vec Ideal S8x1024 .f32) (w : Vec Ideal S1024x2048 .f32) :
    Cert.Reference2Ideal.Read.val_main_v22 (F := Ideal) x g sc sh w = whole x g sc sh w := by
  funext i
  obtain ⟨b, L, n, rfl⟩ : ∃ (b : Fin 8) (L : Fin 4096) (n : Fin 2048), i = ix3 b L n :=
    ⟨i 0, i 1, i 2, by funext d; fin_cases d <;> rfl⟩
  show _ = ∑ d, nrow (fun e => x (ix3 b L e)) (fun e => g (ix1 e)) (fun e => sc (ix2 b e)) (fun e => sh (ix2 b e)) d * w (ix2 d n)
  unfold nrow
  open Cert.Reference2Ideal.Read in
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- Over the extended reals the projection kernel and its reference end with equal results. -/
theorem algebraic : @Cert.algebraic_Kernel2Ideal_Reference2Ideal Cert.Kernel2Ideal.Gen.facts Cert.Reference2Ideal.Gen.facts := by
  intro m g m' g' hp ha
  refine ⟨fun c => whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)), ?_, ?_⟩
  · refine (θ_run defs _ _).mono (fun r h c => ⟨(h c).1.trans ?_, (h c).2⟩) (Cert.Kernel2Ideal.Value.run_blocks m g)
    exact arr_eq m c
  · refine (θ_run Cert.Reference2Ideal.defs _ _).mono (fun r h c => ⟨(h c).1.trans ?_, (h c).2⟩) (Cert.Reference2Ideal.Value.run m' g')
    obtain ⟨a0, a1, a2, a3, a4⟩ := ha c
    rw [Cert.Reference2Ideal.Read.val_main_v22_eq, a0, a1, a2, a3, a4]
    exact ref_eq _ _ _ _ _

/-- The reference runs, keeps its arguments and ends with every counter at zero. -/
theorem frame_ref : @Cert.quiescent_Reference2Ideal Cert.Reference2Ideal.Gen.facts := fun m g _ =>
  (θ_run Cert.Reference2Ideal.defs _ _).mono (fun r h => ⟨fun c => (h c).2, sem_eq_zero_of_no_sems (by decide) r.2⟩) (Cert.Reference2Ideal.Value.run m g)

end Cert.NP
end
-- ==== Proof.Front.lean ====
/- The scores of the normed input's projection against the keys: the kernel's blocks, its two results, the reference and the claim. -/
module
public import proofs.«01_k».proof.Defs
public import proofs.«01_k».proof.Proof.Norm
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Lib.Pipeline.ValueKit
public import Idealize.ShloMosaic.Lib.StableHlo.RunRead
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NF
open Cert.NN Cert.Kernel3Ideal Cert.Kernel3Ideal.Gen

/-- A number kept between -448 and 448. -/
def keep (a : EReal) : EReal := min (Ideal.ofBits FTy.f32 1138753536#32) (max (Ideal.ofBits FTy.f32 3286237184#32) a)

section
variable (x0 : Vec Ideal S1x512x1024 .f32) (x1 : Vec Ideal S1x1024 .f32) (x2 x3 : Vec Ideal S1x1x1024 .f32) (x4 : Vec Ideal S2048x1024 .bf16) (x5 : Vec Ideal S16x128x128 .bf16)

/-- A block's normed rows. -/
def bnorm (r : Fin 512) (d : Fin 1024) : EReal :=
  nrow (fun e => x0 (ix3 0 r e)) (fun e => x1 (ix2 0 e)) (fun e => x2 (ix3 0 0 e)) (fun e => x3 (ix3 0 0 e)) d

/-- The first result's block: the normed rows, transposed and kept between -448 and 448. -/
theorem out6_apply (d : Fin 1024) (r : Fin 512) : out0_6 x0 x1 x2 x3 x4 x5 (ix2 d r) = keep (bnorm x0 x1 x2 x3 r d) := by
  have h : out0_6 x0 x1 x2 x3 x4 x5 = k0_pay3 x0 x1 x2 x3 := by frame_out
  rw [h]; unfold keep bnorm nrow
  pointwise [k0_pay3, k0_pay2]

/-- The scores of one band of 128 rows against one projected block. -/
def score (ht : Vec Ideal S1024x512 .bf16) : S2048x512.Idx → EReal := fun y =>
  ∑ k : Fin 128, x5 (ix3 ⟨(y 0).val / 128, by have : (y 0).val < 2048 := (y 0).isLt; omega⟩ ⟨(y 0).val % 128, by omega⟩ k)
    * ∑ e : Fin 1024, x4 (ix2 ⟨(y 0).val / 128 * 128 + k.val, by have : (y 0).val < 2048 := (y 0).isLt; omega⟩ e) * ht (ix2 e (y 1))

theorem score_band (ht : Vec Ideal S1024x512 .bf16) (n : Fin 16) (o : ℕ) (ho : o = n.val * 128) (r : Fin 128) (q : Fin 512) (h) (x : Fin 128 → EReal)
    (hx : ∀ k, x k = x5 (ix3 n r k) * ∑ e : Fin 1024, x4 (ix2 ⟨o + k.val, by omega⟩ e) * ht (ix2 e q)) :
    ∑ k, x k = score x4 x5 ht (ix2 ⟨o + r.val, h⟩ q) := by
  subst ho
  refine Finset.sum_congr rfl fun k _ => (hx k).trans ?_
  have e1 : (⟨(n.val * 128 + r.val) / 128, by omega⟩ : Fin 16) = n := Fin.ext (by show (n.val * 128 + r.val) / 128 = n.val; omega)
  have e2 : (⟨(n.val * 128 + r.val) % 128, by omega⟩ : Fin 128) = r := Fin.ext (by show (n.val * 128 + r.val) % 128 = r.val; omega)
  have e3 : (⟨(n.val * 128 + r.val) / 128 * 128 + k.val, by omega⟩ : Fin 2048) = ⟨n.val * 128 + k.val, by omega⟩ :=
    Fin.ext (by show (n.val * 128 + r.val) / 128 * 128 + k.val = n.val * 128 + k.val; omega)
  show _ = x5 (ix3 ⟨(n.val * 128 + r.val) / 128, _⟩ ⟨(n.val * 128 + r.val) % 128, _⟩ k) * ∑ e : Fin 1024, x4 (ix2 ⟨(n.val * 128 + r.val) / 128 * 128 + k.val, _⟩ e) * ht (ix2 e q)
  rw [e1, e2, e3]

/-- A store into band `n` of the scores' block agrees with the scores. -/
theorem band (ht : Vec Ideal S1024x512 .bf16) (n : Fin 16) (o : ℕ) (ho : o = n.val * 128) (inb) (w : S128x512.Idx → EReal)
    (hw : ∀ (r : Fin 128) (q : Fin 512), w (ix2 r q) = ∑ k : Fin 128, x5 (ix3 n r k) * ∑ e : Fin 1024, x4 (ix2 ⟨o + k.val, by omega⟩ e) * ht (ix2 e q))
    (y : S128x512.Idx) : w y = score x4 x5 ht ((Rect.unit (s := S2048x512) ![o, 0] S128x512.size inb).emb y) := by
  obtain ⟨r, q, rfl⟩ : ∃ (r : Fin 128) (q : Fin 512), y = ix2 r q := ⟨y 0, y 1, by funext d; fin_cases d <;> rfl⟩
  have he : (Rect.unit (s := S2048x512) ![o, 0] S128x512.size inb).emb (ix2 r q) = (ix2 ⟨o + r.val, by omega⟩ q : S2048x512.Idx) := by
    funext a; apply Fin.ext; fin_cases a
    · show o + 1 * r.val = o + r.val; omega
    · show 0 + 1 * q.val = q.val; omega
  rw [he, hw]
  exact score_band x4 x5 ht n o ho r q _ _ fun _ => rfl

/-- The normed rows as the second result's products take them. -/
theorem pay23_apply (d : Fin 1024) (r : Fin 512) : k0_pay23 x0 x1 x2 x3 x4 x5 (ix2 d r) = bnorm x0 x1 x2 x3 r d := by
  unfold bnorm nrow
  pointwise [k0_pay23, k0_pay5, k0_pay2]

theorem pay22_eq : k0_pay22 x0 x1 x2 x3 x4 x5 = x4 := by
  funext y
  obtain ⟨r, q, rfl⟩ : ∃ (r : Fin 2048) (q : Fin 1024), y = ix2 r q := ⟨y 0, y 1, by funext d; fin_cases d <;> rfl⟩
  pointwise [k0_pay22, k0_pay4]

/-- The second result's block. -/
theorem out7_apply (y : S2048x512.Idx) : out0_7 x0 x1 x2 x3 x4 x5 y = score x4 x5 (k0_pay23 x0 x1 x2 x3 x4 x5) y := by
  unfold out0_7 k0_pay24
  rw [pay22_eq]
  generalize k0_pay23 x0 x1 x2 x3 x4 x5 = ht
  refine View.canon_apply_of_pieces (Val := Elt Ideal) (e := .f32) (score x4 x5 ht) _ ?_ y (cover0_7 _ _ _ _ _ _ _ _ _ _ _ _ _ _ _ _ y)
  simp only [List.forall_mem_cons, List.not_mem_nil, false_imp_iff, implies_true, and_true]
  refine ⟨band x4 x5 ht 15 1920 rfl _ _ fun r q => by pointwise [k0_pay1, k0_pay6],
    band x4 x5 ht 14 1792 rfl _ _ fun r q => by pointwise [k0_pay21, k0_pay6],
    band x4 x5 ht 13 1664 rfl _ _ fun r q => by pointwise [k0_pay20, k0_pay6],
    band x4 x5 ht 12 1536 rfl _ _ fun r q => by pointwise [k0_pay19, k0_pay6],
    band x4 x5 ht 11 1408 rfl _ _ fun r q => by pointwise [k0_pay18, k0_pay6],
    band x4 x5 ht 10 1280 rfl _ _ fun r q => by pointwise [k0_pay17, k0_pay6],
    band x4 x5 ht 9 1152 rfl _ _ fun r q => by pointwise [k0_pay16, k0_pay6],
    band x4 x5 ht 8 1024 rfl _ _ fun r q => by pointwise [k0_pay15, k0_pay6],
    band x4 x5 ht 7 896 rfl _ _ fun r q => by pointwise [k0_pay14, k0_pay6],
    band x4 x5 ht 6 768 rfl _ _ fun r q => by pointwise [k0_pay13, k0_pay6],
    band x4 x5 ht 5 640 rfl _ _ fun r q => by pointwise [k0_pay12, k0_pay6],
    band x4 x5 ht 4 512 rfl _ _ fun r q => by pointwise [k0_pay11, k0_pay6],
    band x4 x5 ht 3 384 rfl _ _ fun r q => by pointwise [k0_pay10, k0_pay6],
    band x4 x5 ht 2 256 rfl _ _ fun r q => by pointwise [k0_pay9, k0_pay6],
    band x4 x5 ht 1 128 rfl _ _ fun r q => by pointwise [k0_pay8, k0_pay6],
    band x4 x5 ht 0 0 rfl _ _ fun r q => by pointwise [k0_pay7, k0_pay6]⟩
end

/-- The batch of a token counted over all batches. -/
def bt (q : Fin 32768) : Fin 8 := ⟨q.val / 4096, by omega⟩
/-- Its place in the sequence. -/
def lt (q : Fin 32768) : Fin 4096 := ⟨q.val % 4096, by omega⟩

section
variable (x : Vec Ideal S8x4096x1024 .f32) (g : Vec Ideal S1024 .f32) (sc sh : Vec Ideal S8x1024 .f32) (w : Vec Ideal S1024x2048 .f32) (ks : Vec Ideal S8x2x128x128 .f32)

/-- A token's normed row. -/
def tnorm (q : Fin 32768) (d : Fin 1024) : EReal :=
  nrow (fun e => x (ix3 (bt q) (lt q) e)) (fun e => g (ix1 e)) (fun e => sc (ix2 (bt q) e)) (fun e => sh (ix2 (bt q) e)) d

/-- The first result from the arguments. -/
def wholeH : S1024x32768.Idx → EReal := fun i => keep (tnorm x g sc sh (i 1) (i 0))

/-- A score at head `h`, half `z` and key `k` of a token whose normed row is `T`. -/
def sval (T : Fin 1024 → EReal) (h : Fin 8) (z : Fin 2) (k : Fin 128) : EReal :=
  ∑ e : Fin 128, ks (ix4 h z k e) * ∑ d : Fin 1024, T d * w (ix2 d ⟨h.val * 256 + z.val * 128 + e.val, by omega⟩)

/-- The second result from the arguments. -/
def wholeS : S2048x32768.Idx → EReal := fun i =>
  sval w ks (tnorm x g sc sh (i 1)) ⟨(i 0).val / 256, by have : (i 0).val < 2048 := (i 0).isLt; omega⟩ ⟨(i 0).val / 128 % 2, by omega⟩ ⟨(i 0).val % 128, by omega⟩

/-- The kernel's score of a row is the score at the row's head, half and key. -/
theorem score_whole (x4 : Vec Ideal S2048x1024 .bf16) (x5 : Vec Ideal S16x128x128 .bf16) (ht : Vec Ideal S1024x512 .bf16) (T : Fin 1024 → EReal) (a : Fin 2048) (q : Fin 512)
    (h5 : ∀ (h : Fin 8) (z : Fin 2) (k e : Fin 128), x5 (ix3 ⟨h.val * 2 + z.val, by omega⟩ k e) = ks (ix4 h z k e))
    (h4 : ∀ (n : Fin 2048) (d : Fin 1024), x4 (ix2 n d) = w (ix2 d n)) (hh : ∀ d, ht (ix2 d q) = T d) :
    score x4 x5 ht (ix2 a q) = sval w ks T ⟨a.val / 256, by omega⟩ ⟨a.val / 128 % 2, by omega⟩ ⟨a.val % 128, by omega⟩ := by
  unfold sval
  refine Finset.sum_congr rfl fun k _ => congr (congrArg _ ?_) (Finset.sum_congr rfl fun e _ => ?_)
  · rw [← h5]
    exact congrArg (fun z => x5 (ix3 z _ k)) (Fin.ext (by show a.val / 128 = a.val / 256 * 2 + a.val / 128 % 2; omega))
  · rw [h4, mul_comm]
    refine congr (congrArg _ (hh e)) (congrArg (fun z => w (ix2 e z)) (Fin.ext ?_))
    show a.val / 128 * 128 + k.val = a.val / 256 * 256 + a.val / 128 % 2 * 128 + k.val; omega

open Cert.Reference3Ideal.Read in
/-- The reference's normed rows. -/
theorem ref_norm (q : Fin 32768) (d : Fin 1024) : val_main_v21 (F := Ideal) x g sc sh (ix2 q d) = tnorm x g sc sh q d := by
  unfold tnorm nrow bt lt
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

open Cert.Reference3Ideal.Read in
/-- The reference's first result. -/
theorem refH_eq : val_main_v28 (F := Ideal) x g sc sh = wholeH x g sc sh := by
  funext i
  obtain ⟨d, q, rfl⟩ : ∃ (d : Fin 1024) (q : Fin 32768), i = ix2 d q := ⟨i 0, i 1, by funext d; fin_cases d <;> rfl⟩
  show _ = keep (tnorm x g sc sh q d)
  rw [← ref_norm]
  unfold keep
  pointwise [val_main_v28, val_main_v27, val_main_v26, val_main_call0_v4, val_main_call0_v3, val_main_call0_v2, val_main_call0_v1, val_main_call0_v0, val_main_cst_3, val_main_cst_4]
  rfl

open Cert.Reference3Ideal.Read in
/-- The reference's second result. -/
theorem refS_eq : val_main_v30 (F := Ideal) x g sc sh w ks = wholeS x g sc sh w ks := by
  funext i
  obtain ⟨r, q, rfl⟩ : ∃ (r : Fin 2048) (q : Fin 32768), i = ix2 r q := ⟨i 0, i 1, by funext d; fin_cases d <;> rfl⟩
  obtain ⟨h, z, k, rfl⟩ : ∃ (h : Fin 8) (z : Fin 2) (k : Fin 128), r = ⟨h.val * 256 + z.val * 128 + k.val, by omega⟩ :=
    ⟨⟨r.val / 256, by omega⟩, ⟨r.val / 128 % 2, by omega⟩, ⟨r.val % 128, by omega⟩, Fin.ext (by show r.val = r.val / 256 * 256 + r.val / 128 % 2 * 128 + r.val % 128; omega)⟩
  have e1 : (⟨(h.val * 256 + z.val * 128 + k.val) / 256, by omega⟩ : Fin 8) = h := Fin.ext (by show (h.val * 256 + z.val * 128 + k.val) / 256 = h.val; omega)
  have e2 : (⟨(h.val * 256 + z.val * 128 + k.val) / 128 % 2, by omega⟩ : Fin 2) = z := Fin.ext (by show (h.val * 256 + z.val * 128 + k.val) / 128 % 2 = z.val; omega)
  have e3 : (⟨(h.val * 256 + z.val * 128 + k.val) % 128, by omega⟩ : Fin 128) = k := Fin.ext (by show (h.val * 256 + z.val * 128 + k.val) % 128 = k.val; omega)
  show _ = sval w ks (tnorm x g sc sh q) ⟨(h.val * 256 + z.val * 128 + k.val) / 256, _⟩ ⟨(h.val * 256 + z.val * 128 + k.val) / 128 % 2, _⟩ ⟨(h.val * 256 + z.val * 128 + k.val) % 128, _⟩
  rw [e1, e2, e3]
  have h22 (n : Fin 2048) : val_main_v22 (F := Ideal) x g sc sh w (ix2 q n) = ∑ d, tnorm x g sc sh q d * w (ix2 d n) := by
    simp only [← ref_norm]
    unfold val_main_v22
    generalize val_main_v21 (F := Ideal) x g sc sh = u
    pointwise []
  unfold sval
  simp only [← h22]
  pointwise [val_main_v30, val_main_v29, val_main_v25, val_main_v24, val_main_v23]
end

section
variable (m : (ℓ : Loc nD τ sig) → Buf (Elt Ideal) ℓ) (c : Dev nD)

theorem cast5 (a : Vec Ideal S8x2x128x128 .f32) (h : Fin 8) (z : Fin 2) (k e : Fin 128) :
    shapeCast S16x128x128 a shapeCasts_S8x2x128x128_S16x128x128 (ix3 ⟨h.val * 2 + z.val, by omega⟩ k e) = a (ix4 h z k e) := by
  pointwise []
/-- The block each window is on at a grid point. -/
theorem idx : ∀ t : Fin cfg0.N, win0_0.index t = ![(grid0.coords t 0).val, (grid0.coords t 1).val, 0]
    ∧ win0_1.index t = ![0, 0] ∧ win0_2.index t = ![(grid0.coords t 0).val, 0, 0]
    ∧ win0_3.index t = ![(grid0.coords t 0).val, 0, 0] ∧ win0_4.index t = ![0, 0] ∧ win0_5.index t = ![0, 0, 0]
    ∧ win0_6.index t = ![0, (grid0.coords t 0).val * 8 + (grid0.coords t 1).val] ∧ win0_7.index t = ![0, (grid0.coords t 0).val * 8 + (grid0.coords t 1).val] :=
  (by decide +kernel : ∀ t : Fin grid0.N, win0_0.index t = ![(grid0.coords t 0).val, (grid0.coords t 1).val, 0]
    ∧ win0_1.index t = ![0, 0] ∧ win0_2.index t = ![(grid0.coords t 0).val, 0, 0]
    ∧ win0_3.index t = ![(grid0.coords t 0).val, 0, 0] ∧ win0_4.index t = ![0, 0] ∧ win0_5.index t = ![0, 0, 0]
    ∧ win0_6.index t = ![0, (grid0.coords t 0).val * 8 + (grid0.coords t 1).val] ∧ win0_7.index t = ![0, (grid0.coords t 0).val * 8 + (grid0.coords t 1).val])

/-- The place in the sequence of a block's row. -/
def tok (b j : Fin 8) (r : Fin 512) : Fin 4096 := ⟨j.val * 512 + r.val, by omega⟩
/-- The token of a block's row, counted over all batches. -/
def col (b j : Fin 8) (r : Fin 512) : Fin 32768 := ⟨(b.val * 8 + j.val) * 512 + r.val, by omega⟩
theorem bt_col (b j : Fin 8) (r : Fin 512) : bt (col b j r) = b := Fin.ext (by show ((b.val * 8 + j.val) * 512 + r.val) / 4096 = b.val; omega)
theorem lt_col (b j : Fin 8) (r : Fin 512) : lt (col b j r) = tok b j r := Fin.ext (by show ((b.val * 8 + j.val) * 512 + r.val) % 4096 = j.val * 512 + r.val; omega)

theorem iblk0 (t : Fin cfg0.N) (r : Fin 512) (e : Fin 1024) :
    iblk m c 0 t (ix3 0 r e) = m ((c : Thread nD τ).loc main_arg0) (ix3 (grid0.coords t 0 : Fin 8) (tok (grid0.coords t 0) (grid0.coords t 1) r) e) := by
  have h2 : iblk m c 0 t (ix3 0 r e) = V m c main_arg0 (ix3 (grid0.coords t 0 : Fin 8) (tok (grid0.coords t 0) (grid0.coords t 1) r) e) := by
    unfold tok; blk_ext [iblk, idx t]
  exact h2.trans (congrFun (V_main_arg0 m c) _)
theorem iblk1 (t : Fin cfg0.N) (e : Fin 1024) : iblk m c 1 t (ix2 0 e) = m ((c : Thread nD τ).loc main_arg1) (ix1 e) := by
  have h : V m c main_v4 = shapeCast S1x1024 (m ((c : Thread nD τ).loc main_arg1)) shapeCasts_S1024_S1x1024 := by
    unfold_abbrev_sides
    after_reads_simp
    rfl
  have h2 : iblk m c 1 t (ix2 0 e) = V m c main_v4 (ix2 0 e) := by blk_ext [iblk, idx t]
  rw [h2, h]; pointwise []
theorem iblk2 (t : Fin cfg0.N) (e : Fin 1024) : iblk m c 2 t (ix3 0 0 e) = m ((c : Thread nD τ).loc main_arg2) (ix2 (grid0.coords t 0 : Fin 8) e) := by
  have h : V m c main_v5 = shapeCast S8x1x1024 (m ((c : Thread nD τ).loc main_arg2)) shapeCasts_S8x1024_S8x1x1024 := by
    unfold_abbrev_sides
    after_reads_simp
    rfl
  have h2 : iblk m c 2 t (ix3 0 0 e) = V m c main_v5 (ix3 (grid0.coords t 0 : Fin 8) 0 e) := by blk_ext [iblk, idx t]
  rw [h2, h]; pointwise []
theorem iblk3 (t : Fin cfg0.N) (e : Fin 1024) : iblk m c 3 t (ix3 0 0 e) = m ((c : Thread nD τ).loc main_arg3) (ix2 (grid0.coords t 0 : Fin 8) e) := by
  have h : V m c main_v6 = shapeCast S8x1x1024 (m ((c : Thread nD τ).loc main_arg3)) shapeCasts_S8x1024_S8x1x1024 := by
    unfold_abbrev_sides
    after_reads_simp
    rfl
  have h2 : iblk m c 3 t (ix3 0 0 e) = V m c main_v6 (ix3 (grid0.coords t 0 : Fin 8) 0 e) := by blk_ext [iblk, idx t]
  rw [h2, h]; pointwise []
theorem iblk4 (t : Fin cfg0.N) (n : Fin 2048) (d : Fin 1024) : iblk m c 4 t (ix2 n d) = m ((c : Thread nD τ).loc main_arg4) (ix2 d n) := by
  have h : (V m c main_v1 : S2048x1024.Idx → EReal) = transpose S2048x1024 [1, 0] (m ((c : Thread nD τ).loc main_arg4)) transposes_S1024x2048_S2048x1024_1_0 := by
    unfold_abbrev_sides
    after_reads_simp
    rfl
  have h2 : iblk m c 4 t (ix2 n d) = V m c main_v1 (ix2 n d) := by blk_ext [iblk, idx t]
  refine (h2.trans (congrFun h _)).trans ?_
  pointwise []
theorem iblk5 (t : Fin cfg0.N) (h : Fin 8) (z : Fin 2) (k e : Fin 128) :
    iblk m c 5 t (ix3 ⟨h.val * 2 + z.val, by omega⟩ k e) = m ((c : Thread nD τ).loc main_arg5) (ix4 h z k e) := by
  have h1 : (V m c main_v3 : S16x128x128.Idx → EReal) = shapeCast S16x128x128 (m ((c : Thread nD τ).loc main_arg5)) shapeCasts_S8x2x128x128_S16x128x128 := by
    unfold_abbrev_sides
    after_reads_simp
    rfl
  have h2 : iblk m c 5 t (ix3 ⟨h.val * 2 + z.val, by omega⟩ k e) = V m c main_v3 (ix3 ⟨h.val * 2 + z.val, by omega⟩ k e) := by blk_ext [iblk, idx t]
  exact (h2.trans (congrFun h1 _)).trans (cast5 _ h z k e)

/-- A block's normed row is the token's. -/
theorem bnorm_eq (t : Fin cfg0.N) (r : Fin 512) (d : Fin 1024) : bnorm (iblk m c 0 t) (iblk m c 1 t) (iblk m c 2 t) (iblk m c 3 t) r d
    = tnorm (m ((c : Thread nD τ).loc main_arg0)) (m ((c : Thread nD τ).loc main_arg1)) (m ((c : Thread nD τ).loc main_arg2)) (m ((c : Thread nD τ).loc main_arg3))
      (col (grid0.coords t 0) (grid0.coords t 1) r) d := by
  have key (b j : Fin 8) (X : Vec Ideal S8x4096x1024 .f32) (g : Vec Ideal S1024 .f32) (sc sh : Vec Ideal S8x1024 .f32) :
      tnorm X g sc sh (col b j r) d = nrow (fun e => X (ix3 b (tok b j r) e)) (fun e => g (ix1 e)) (fun e => sc (ix2 b e)) (fun e => sh (ix2 b e)) d := by
    unfold tnorm; rw [bt_col, lt_col]
  refine Eq.trans ?_ (key (grid0.coords t 0) (grid0.coords t 1) _ _ _ _).symm
  unfold bnorm
  rw [funext (iblk0 m c t r), funext (iblk1 m c t), funext (iblk2 m c t), funext (iblk3 m c t)]

/-- The first result array after the run. -/
theorem arrH_eq : (dats m 0 c).arrAt 6 cfg0.N
    = wholeH (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have h0 : (y 0).val < 1024 := (y 0).isLt
  have h1 : (y 1).val < 512 := (y 1).isLt
  have hy : (cfg0.win 6).xinj (cfg0.grid.coords t) y = ix2 ⟨(y 0).val, h0⟩ ⟨(y 1).val, h1⟩ := by
    funext a; apply Fin.ext; fin_cases a <;> rfl
  have he : ((cfg0.win 6).blk t).view.emb y
      = (ix2 (⟨(y 0).val, h0⟩ : Fin 1024) (col (grid0.coords t 0) (grid0.coords t 1) ⟨(y 1).val, h1⟩) : S1024x32768.Idx) := by
    unfold col; blk_ext [idx t]
  rw [he]
  refine (congrArg (out0_6 (iblk m c 0 t) (iblk m c 1 t) (iblk m c 2 t) (iblk m c 3 t) (iblk m c 4 t) (iblk m c 5 t)) hy).trans ?_
  rw [out6_apply, bnorm_eq]
  rfl

/-- The second result array after the run. -/
theorem arrS_eq : (dats m 0 c).arrAt 7 cfg0.N
    = wholeS (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 7 _ (by decide +kernel) fun t hf y => ?_
  blk_simp
  rw [after0_7]
  have h0 : (y 0).val < 2048 := (y 0).isLt
  have h1 : (y 1).val < 512 := (y 1).isLt
  have hy : (cfg0.win 7).xinj (cfg0.grid.coords t) y = ix2 ⟨(y 0).val, h0⟩ ⟨(y 1).val, h1⟩ := by
    funext a; apply Fin.ext; fin_cases a <;> rfl
  have he : ((cfg0.win 7).blk t).view.emb y
      = (ix2 (⟨(y 0).val, h0⟩ : Fin 2048) (col (grid0.coords t 0) (grid0.coords t 1) ⟨(y 1).val, h1⟩) : S2048x32768.Idx) := by
    unfold col; blk_ext [idx t]
  rw [he]
  refine (congrArg (out0_7 (iblk m c 0 t) (iblk m c 1 t) (iblk m c 2 t) (iblk m c 3 t) (iblk m c 4 t) (iblk m c 5 t)) hy).trans ?_
  rw [out7_apply]
  exact score_whole _ _ _ _ _ _ ⟨(y 0).val, h0⟩ ⟨(y 1).val, h1⟩ (iblk5 m c t) (iblk4 m c t) fun d => (pay23_apply _ _ _ _ _ _ d _).trans (bnorm_eq m c t _ d)
end

/-- Over the extended reals the score kernel and its reference end with equal results, both of them. -/
theorem algebraic : @Cert.algebraic_Kernel3Ideal_Reference3Ideal Cert.Kernel3Ideal.Gen.facts Cert.Reference3Ideal.Gen.facts := by
  intro m g m' g' hp ha
  refine ⟨fun c => wholeH (m ((c.tc : Thread nD τ).loc main_arg0)) (m ((c.tc : Thread nD τ).loc main_arg1)) (m ((c.tc : Thread nD τ).loc main_arg2))
      (m ((c.tc : Thread nD τ).loc main_arg3)),
    fun c => wholeS (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)), ?_, ?_⟩
  · refine (θ_run defs _ _).mono (fun r h c => ⟨(h c).1.trans (arrH_eq m c), (h c).2.1.trans (arrS_eq m c), (h c).2.2⟩) (Cert.Kernel3Ideal.Value.run_blocks m g)
  · refine (θ_run Cert.Reference3Ideal.defs _ _).mono (fun r h c => ⟨(h c).1.trans ?_, (h c).2.1.trans ?_, (h c).2.2⟩) (Cert.Reference3Ideal.Value.run m' g')
    · obtain ⟨a0, a1, a2, a3, a4, a5⟩ := ha c
      rw [Cert.Reference3Ideal.Read.val_main_v28_eq, a0, a1, a2, a3]
      exact refH_eq _ _ _ _
    · obtain ⟨a0, a1, a2, a3, a4, a5⟩ := ha c
      rw [Cert.Reference3Ideal.Read.val_main_v30_eq, a0, a1, a2, a3, a4, a5]
      exact refS_eq _ _ _ _ _ _

/-- The reference runs, keeps its arguments and ends with every counter at zero. -/
theorem frame_ref : @Cert.quiescent_Reference3Ideal Cert.Reference3Ideal.Gen.facts := fun m g _ =>
  (θ_run Cert.Reference3Ideal.defs _ _).mono (fun r h => ⟨fun c => (h c).2.2, sem_eq_zero_of_no_sems (by decide) r.2⟩) (Cert.Reference3Ideal.Value.run m g)

end Cert.NF
end
-- ==== Proof.Merge.lean ====
/- The merging of the mixers' outputs: what the body stores, read at a row and a column. -/
module
public import proofs.«01_k».proof.Defs
public import proofs.«01_k».proof.Proof.Gen.Kernel4Ideal.Value
public import Idealize.ShloMosaic.Lib.Pointwise
@[expose] public section
set_option maxRecDepth 16384
noncomputable section
open Idealize.ShloMosaic Idealize.ShloMosaic.TcCoe Idealize.ShloMosaic.Tactic Idealize.SL.Sem
namespace Cert.NM
open Cert.Kernel4Ideal Cert.Kernel4Ideal.Gen

/-- The tanh form of the gelu. -/
def gel (u : EReal) : EReal :=
  u * (Ideal.ofBits FTy.f32 1056964608#32 * (1 + Ideal.tanh (Ideal.ofBits FTy.f32 1061962282#32 * (u + Ideal.ofBits FTy.f32 1027024659#32 * (u * (u * u))))))

/-- The gated output of the recurrence at one position. -/
def glu (u : Fin 256 → EReal) (w : Fin 256 → Fin 256 → EReal) (e : Fin 256) : EReal :=
  gel (u e) * Ideal.logistic (∑ k, gel (u k) * w k e)

/-- The norm of one group of heads at one position. -/
def gn (p g : Fin 256 → EReal) (e : Fin 256) : EReal :=
  p e * Ideal.rsqrt (Ideal.div (∑ k, p k * p k) (Ideal.ofBits FTy.f32 1132462080#32) + Ideal.ofBits FTy.f32 897988541#32) * g e

/-- The gated convolution from a position's own product and its two neighbours'. -/
def conv3 (cb zp z zn w0 w1 w2 : EReal) : EReal := cb * (zp * w0 + z * w1 + zn * w2)

/-- The result at a position and a column: the input plus the gate times the four groups' shares of the product. -/
def merged (x g : EReal) (p q : Fin 4 → Fin 256 → EReal) (w : Fin 4 → Fin 256 → EReal) : EReal :=
  x + g * (∑ e, gn (p 0) (q 0) e * w 0 e + ∑ e, gn (p 1) (q 1) e * w 1 e + ∑ e, gn (p 2) (q 2) e * w 2 e + ∑ e, gn (p 3) (q 3) e * w 3 e)

theorem pay2_apply (v0 v1 : Vec Ideal S512x256 .f32) (v3 : Vec Ideal S1x256 .f32) (v5 : Vec Ideal S1x512x256 .bf16) (v25 : Vec Ideal S256x256 .bf16) (r : Fin 512) (e : Fin 256) :
    k0_pay2 v0 v1 v3 v5 v25 (ix2 r e)
      = glu (fun k => v0 (ix2 r k) + v1 (ix2 r k) + v3 (ix2 0 k) * v5 (ix3 0 r k)) (fun k e => v25 (ix2 k e)) e := by
  unfold glu gel
  pointwise [k0_pay2]

/-- The row before, in the block. -/
def prv (r : Fin 512) : Fin 512 := ⟨(r.val + 512 - 1) % 512, Nat.mod_lt _ (by decide)⟩
/-- The row after, in the block. -/
def nxt (r : Fin 512) : Fin 512 := ⟨(r.val + 512 - 511) % 512, Nat.mod_lt _ (by decide)⟩

theorem pay6_apply (a : BitVec 32) (v32 v35 : FVec Ideal S512x256 .f32) (v37 v40 : Vec Ideal S1x1x256 .bf16) (r : Fin 512) (e : Fin 256) :
    k0_pay6 a v32 v35 v37 v40 (ix2 r e) = Scalar.select (IntOp.cmpi CmpIPredicate.eq (BitVec.ofNat 32 r.val) 0#32)
      (Scalar.select (Scalar.cmpi CmpIPredicate.eq a 0#32) 0 (v37 (ix3 0 0 e) * v40 (ix3 0 0 e))) (v32 (ix2 (prv r) e) * v35 (ix2 (prv r) e)) := by
  unfold prv
  pointwise [k0_pay6, k0_pay5]
theorem pay7_apply (a : BitVec 32) (v32 v35 : FVec Ideal S512x256 .f32) (v37 v40 : Vec Ideal S1x1x256 .bf16) (r : Fin 512) (e : Fin 256) :
    k0_pay7 a v32 v35 v37 v40 (ix2 r e) = Scalar.select (IntOp.cmpi CmpIPredicate.eq (BitVec.ofNat 32 r.val) 511#32)
      (Scalar.select (Scalar.cmpi CmpIPredicate.eq a 7#32) 0 (v37 (ix3 0 0 e) * v40 (ix3 0 0 e))) (v32 (ix2 (nxt r) e) * v35 (ix2 (nxt r) e)) := by
  unfold nxt
  pointwise [k0_pay7, k0_pay5]
theorem pay8_apply (v36 v63 v69 : FVec Ideal S512x256 .f32) (v70 : Vec Ideal S3x256 .f32) (v71 : Vec Ideal S1x512x256 .bf16) (r : Fin 512) (e : Fin 256) :
    k0_pay8 v36 v63 v69 v70 v71 (ix2 r e)
      = conv3 (v71 (ix3 0 r e)) (v63 (ix2 r e)) (v36 (ix2 r e)) (v69 (ix2 r e)) (v70 (ix2 0 e)) (v70 (ix2 1 e)) (v70 (ix2 2 e)) := by
  unfold conv3
  pointwise [k0_pay8]
theorem pay5_apply (v32 v35 : FVec Ideal S512x256 .f32) (i : S512x256.Idx) : k0_pay5 v32 v35 i = v32 i * v35 i := rfl
theorem pay3_apply (v : Vec Ideal S1x512x256 .bf16) (r : Fin 512) (e : Fin 256) : k0_pay3 v (ix2 r e) = v (ix3 0 r e) := by
  pointwise [k0_pay3]
theorem pay4_apply (v : Vec Ideal S1x512x256 .bf16) (r : Fin 512) (e : Fin 256) : k0_pay4 v (ix2 r e) = v (ix3 0 r e) := by
  pointwise [k0_pay4]
theorem pay9_apply (v : Vec Ideal S1x512x256 .bf16) (r : Fin 512) (e : Fin 256) : k0_pay9 v (ix2 r e) = v (ix3 0 r e) := by
  pointwise [k0_pay9]
theorem pay10_apply (v86 : Vec Ideal S1x512x256 .bf16) (v92 : Vec Ideal S1x256 .f32) (v106 : Vec Ideal S256x1024 .bf16) (r : Fin 512) (n : Fin 1024) :
    k0_pay10 v86 v92 v106 (ix2 r n) = ∑ e, gn (fun k => v86 (ix3 0 r k)) (fun k => v92 (ix2 0 k)) e * v106 (ix2 e n) := by
  unfold gn
  pointwise [k0_pay10]
theorem pay11_apply (v36 v63 v69 : FVec Ideal S512x256 .f32) (v70 : Vec Ideal S3x256 .f32) (v71 : Vec Ideal S1x512x256 .bf16) (r : Fin 512) :
    k0_pay11 v36 v63 v69 v70 v71 (ix2 r 0) = ∑ k, k0_pay8 v36 v63 v69 v70 v71 (ix2 r k) * k0_pay8 v36 v63 v69 v70 v71 (ix2 r k) := by
  pointwise [k0_pay11]
theorem pay12_apply (v85 v91 : FVec Ideal S512x256 .f32) (v108 : FVec Ideal S512x1024 .f32) (v109 : Vec Ideal S1x256 .f32) (v112 : FVec Ideal S512x1 .f32) (v123 : Vec Ideal S256x1024 .bf16) (v127 : Vec Ideal S1x256 .f32) (v141 : Vec Ideal S256x1024 .bf16) (r : Fin 512) (n : Fin 1024)
    (h : v112 (ix2 r 0) = ∑ k, v85 (ix2 r k) * v85 (ix2 r k)) :
    k0_pay12 v85 v91 v108 v109 v112 (Scalar.ofBits .f32 0x43800000#32) v123 v127 v141 (ix2 r n)
      = v108 (ix2 r n) + ∑ e, gn (fun k => v85 (ix2 r k)) (fun k => v109 (ix2 0 k)) e * v123 (ix2 e n)
        + ∑ e, gn (fun k => v91 (ix2 r k)) (fun k => v127 (ix2 0 k)) e * v141 (ix2 e n) := by
  unfold gn
  dsimp only
  rw [← h]
  pointwise [k0_pay12]
theorem pay1_apply (v144 : FVec Ideal S512x1024 .f32) (v145 : Vec Ideal S1x256 .f32) (v29 : FVec Ideal S512x256 .f32) (v159 : Vec Ideal S256x1024 .bf16) (v163 : Vec Ideal S1x512x1024 .f32) (v165 : Vec Ideal S1x1x1024 .f32) (r : Fin 512) (n : Fin 1024) :
    k0_pay1 v144 v145 (k0_pay13 v29) v159 v163 v165 (ix3 0 r n)
      = v163 (ix3 0 r n) + v165 (ix3 0 0 n) * (v144 (ix2 r n) + ∑ e, gn (fun k => v29 (ix2 r k)) (fun k => v145 (ix2 0 k)) e * v159 (ix2 e n)) := by
  unfold gn
  pointwise [k0_pay1, k0_pay13]

theorem hz3 : (![0, 0, 0] : Fin 3 → Nat) = fun _ => 0 := funext fun a => by fin_cases a <;> rfl

/-- Column `e` of group `k` among all 1024 columns. -/
def gcol (k : Fin 4) (e : Fin 256) : Fin 1024 := ⟨k.val * 256 + e.val, by omega⟩

/-- The four groups' outputs at a block's row. -/
def parts (j : Fin 8) (x0 x1 x2 x3 : Vec Ideal S1x512x256 .bf16) (x4 x5 x6 x7 : Vec Ideal S1x8x256 .bf16) (x8 : Vec Ideal S1x512x256 .bf16)
    (x9 x10 : Vec Ideal S512x256 .f32) (x11 : Vec Ideal S1x512x256 .bf16) (x14 : Vec Ideal S3x256 .f32) (x15 : Vec Ideal S1x256 .f32) (x16 : Vec Ideal S256x256 .bf16) (r : Fin 512) :
    Fin 4 → Fin 256 → EReal :=
  ![fun e => x0 (ix3 0 r e),
    fun e => conv3 (x1 (ix3 0 r e))
      (Scalar.select (IntOp.cmpi CmpIPredicate.eq (BitVec.ofNat 32 r.val) 0#32)
        (Scalar.select (Scalar.cmpi CmpIPredicate.eq (BitVec.ofNat 32 j.val) 0#32) 0 (x4 (ix3 0 7 e) * x5 (ix3 0 7 e)))
        (x2 (ix3 0 (prv r) e) * x3 (ix3 0 (prv r) e)))
      (x2 (ix3 0 r e) * x3 (ix3 0 r e))
      (Scalar.select (IntOp.cmpi CmpIPredicate.eq (BitVec.ofNat 32 r.val) 511#32)
        (Scalar.select (Scalar.cmpi CmpIPredicate.eq (BitVec.ofNat 32 j.val) 7#32) 0 (x6 (ix3 0 0 e) * x7 (ix3 0 0 e)))
        (x2 (ix3 0 (nxt r) e) * x3 (ix3 0 (nxt r) e)))
      (x14 (ix2 0 e)) (x14 (ix2 1 e)) (x14 (ix2 2 e)),
    fun e => x8 (ix3 0 r e),
    glu (fun k => x9 (ix2 r k) + x10 (ix2 r k) + x15 (ix2 0 k) * x11 (ix3 0 r k)) (fun k e => x16 (ix2 k e))]

/-- What the body leaves in the output's staging buffer. -/
theorem out_apply (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x8x256 .bf16) (harg6 : arg6.IsWhole) (arg7 : Memref sig .tc .vmem S1x8x256 .bf16) (harg7 : arg7.IsWhole) (arg8 : Memref sig .tc .vmem S1x8x256 .bf16) (harg8 : arg8.IsWhole) (arg9 : Memref sig .tc .vmem S1x8x256 .bf16) (harg9 : arg9.IsWhole) (arg10 : Memref sig .tc .vmem S1x512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512x256 .bf16) (harg13 : arg13.IsWhole) (arg14 : Memref sig .tc .vmem S1x512x1024 .f32) (harg14 : arg14.IsWhole) (arg15 : Memref sig .tc .vmem S1x1x1024 .f32) (harg15 : arg15.IsWhole) (arg16 : Memref sig .tc .vmem S3x256 .f32) (harg16 : arg16.IsWhole) (arg17 : Memref sig .tc .vmem S1x256 .f32) (harg17 : arg17.IsWhole) (arg18 : Memref sig .tc .vmem S256x256 .bf16) (harg18 : arg18.IsWhole) (arg19 : Memref sig .tc .vmem S4x256 .f32) (harg19 : arg19.IsWhole) (arg20 : Memref sig .tc .vmem S1024x1024 .bf16) (harg20 : arg20.IsWhole) (arg21 : Memref sig .tc .vmem S1x512x1024 .f32) (harg21 : arg21.IsWhole)
    (x0 : Vec Ideal S1x512x256 .bf16) (x1 : Vec Ideal S1x512x256 .bf16) (x2 : Vec Ideal S1x512x256 .bf16) (x3 : Vec Ideal S1x512x256 .bf16) (x4 : Vec Ideal S1x8x256 .bf16) (x5 : Vec Ideal S1x8x256 .bf16) (x6 : Vec Ideal S1x8x256 .bf16) (x7 : Vec Ideal S1x8x256 .bf16) (x8 : Vec Ideal S1x512x256 .bf16) (x9 : Vec Ideal S512x256 .f32) (x10 : Vec Ideal S512x256 .f32) (x11 : Vec Ideal S1x512x256 .bf16) (x12 : Vec Ideal S1x512x1024 .f32) (x13 : Vec Ideal S1x1x1024 .f32) (x14 : Vec Ideal S3x256 .f32) (x15 : Vec Ideal S1x256 .f32) (x16 : Vec Ideal S256x256 .bf16) (x17 : Vec Ideal S4x256 .f32) (x18 : Vec Ideal S1024x1024 .bf16) (r : Fin 512) (n : Fin 1024) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 (ix3 0 r n)
      = merged (x12 (ix3 0 r n)) (x13 (ix3 0 0 n)) (parts (i 1) x0 x1 x2 x3 x4 x5 x6 x7 x8 x9 x10 x11 x14 x15 x16 r)
          (fun k e => x17 (ix2 k e)) (fun k e => x18 (ix2 (gcol k e) n)) := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [pay1_apply, pay12_apply _ _ _ _ _ _ _ _ _ _ (pay11_apply _ _ _ _ _ _), pay10_apply]
  simp only [pay8_apply, pay6_apply, pay7_apply, pay5_apply, pay9_apply, pay3_apply, pay4_apply, pay2_apply]
  unfold merged parts gcol
  pointwise []
end Cert.NM
end
-- ==== Proof.MergeW.lean ====
/- The merging of the mixers' outputs: the whole result from the arguments, and the reference's result. -/
module
public import proofs.«01_k».proof.Proof.Merge
public import proofs.«01_k».proof.Proof.Gen.Reference4Ideal.Run
public import proofs.«01_k».proof.Proof.Gen.Reference4Ideal.Read
@[expose] public section
set_option maxRecDepth 16384
noncomputable section
open Idealize.ShloMosaic Idealize.ShloMosaic.TcCoe Idealize.ShloMosaic.Tactic Idealize.SL.Sem
namespace Cert.NM
open Cert.Reference4Ideal Cert.Reference4Ideal.Read

/-- The token a block's row is. -/
def tok (j : Fin 8) (r : Fin 512) : Fin 4096 := ⟨j.val * 512 + r.val, by omega⟩

/-- A column of the projected array, counted from the column `o`. -/
def yc (o : ℕ) (ho : o ≤ 1792) (e : Fin 256) : Fin 2048 := ⟨o + e.val, by omega⟩

/-- A sequence's value at the position before, zero in front of the first. -/
def before (Z : Fin 4096 → EReal) (L : Fin 4096) : EReal := if h : 1 ≤ L.val ∧ L.val - 1 < 4096 then Z ⟨L.val - 1, h.2⟩ else 0

/-- A sequence's value at the position after, zero behind the last. -/
def behind (Z : Fin 4096 → EReal) (L : Fin 4096) : EReal := if h : 1 ≤ 2 + L.val ∧ 2 + L.val - 1 < 4096 then Z ⟨2 + L.val - 1, h.2⟩ else 0

/-- The token whose row the previous halo's last row is. -/
def hp (j : Fin 8) : Fin 4096 := ⟨max (j.val * 64 - 1) 0 * 8 + 7, by omega⟩
/-- The token whose row the next halo's first row is. -/
def hn (j : Fin 8) : Fin 4096 := ⟨min ((j.val + 1) * 64) 511 * 8, by omega⟩

theorem row_first : ∀ r : Fin 512, IntOp.cmpi CmpIPredicate.eq (BitVec.ofNat 32 r.val) 0#32 = if r.val = 0 then 1#1 else 0#1 := by decide +kernel
theorem row_last : ∀ r : Fin 512, IntOp.cmpi CmpIPredicate.eq (BitVec.ofNat 32 r.val) 511#32 = if r.val = 511 then 1#1 else 0#1 := by decide +kernel
theorem blk_first : ∀ j : Fin 8, Scalar.cmpi CmpIPredicate.eq (BitVec.ofNat 32 j.val) 0#32 = if j.val = 0 then 1#1 else 0#1 := by decide +kernel
theorem blk_last : ∀ j : Fin 8, Scalar.cmpi CmpIPredicate.eq (BitVec.ofNat 32 j.val) 7#32 = if j.val = 7 then 1#1 else 0#1 := by decide +kernel
theorem sel1 (a b : EReal) : Scalar.select 1#1 a b = a := rfl
theorem sel0 (a b : EReal) : Scalar.select 0#1 a b = b := rfl

/-- The block's rolled rows with the halo's row in front are the sequence moved by one position. -/
theorem before_block (Z : Fin 4096 → EReal) (j : Fin 8) (r : Fin 512) :
    Scalar.select (IntOp.cmpi CmpIPredicate.eq (BitVec.ofNat 32 r.val) 0#32)
      (Scalar.select (Scalar.cmpi CmpIPredicate.eq (BitVec.ofNat 32 j.val) 0#32) 0 (Z (hp j))) (Z (tok j (prv r))) = before Z (tok j r) := by
  rw [row_first, blk_first]
  unfold before hp tok prv
  by_cases hr : r.val = 0
  · by_cases hj : j.val = 0
    · rw [if_pos hr, if_pos hj, sel1, sel1, dif_neg]; show ¬ (1 ≤ j.val * 512 + r.val ∧ _); omega
    · rw [if_pos hr, if_neg hj, sel1, sel0, dif_pos (show 1 ≤ j.val * 512 + r.val ∧ j.val * 512 + r.val - 1 < 4096 by omega)]
      congr 1; apply Fin.ext; show max (j.val * 64 - 1) 0 * 8 + 7 = j.val * 512 + r.val - 1; omega
  · rw [if_neg hr, sel0, dif_pos (show 1 ≤ j.val * 512 + r.val ∧ j.val * 512 + r.val - 1 < 4096 by omega)]
    congr 1; apply Fin.ext; show j.val * 512 + (r.val + 512 - 1) % 512 = j.val * 512 + r.val - 1; omega

/-- The block's rolled rows with the halo's row behind are the sequence moved by one position the other way. -/
theorem behind_block (Z : Fin 4096 → EReal) (j : Fin 8) (r : Fin 512) :
    Scalar.select (IntOp.cmpi CmpIPredicate.eq (BitVec.ofNat 32 r.val) 511#32)
      (Scalar.select (Scalar.cmpi CmpIPredicate.eq (BitVec.ofNat 32 j.val) 7#32) 0 (Z (hn j))) (Z (tok j (nxt r))) = behind Z (tok j r) := by
  rw [row_last, blk_last]
  unfold behind hn tok nxt
  by_cases hr : r.val = 511
  · by_cases hj : j.val = 7
    · rw [if_pos hr, if_pos hj, sel1, sel1, dif_neg]; show ¬ (1 ≤ 2 + (j.val * 512 + r.val) ∧ 2 + (j.val * 512 + r.val) - 1 < 4096); omega
    · rw [if_pos hr, if_neg hj, sel1, sel0, dif_pos (show 1 ≤ 2 + (j.val * 512 + r.val) ∧ 2 + (j.val * 512 + r.val) - 1 < 4096 by omega)]
      congr 1; apply Fin.ext; show min ((j.val + 1) * 64) 511 * 8 = 2 + (j.val * 512 + r.val) - 1; omega
  · rw [if_neg hr, sel0, dif_pos (show 1 ≤ 2 + (j.val * 512 + r.val) ∧ 2 + (j.val * 512 + r.val) - 1 < 4096 by omega)]
    congr 1; apply Fin.ext; show j.val * 512 + (r.val + 512 - 511) % 512 = 2 + (j.val * 512 + r.val) - 1; omega

/-- A sum over the 1024 columns, group by group. -/
theorem sum_groups (f : Fin 1024 → EReal) : ∑ x, f x = ∑ e, f (gcol 0 e) + ∑ e, f (gcol 1 e) + ∑ e, f (gcol 2 e) + ∑ e, f (gcol 3 e) := by
  have h : ∑ x : Fin (4 * 256), f x = ∑ k : Fin 4, ∑ e : Fin 256, f (gcol k e) := by
    rw [← Equiv.sum_comp finProdFinEquiv, Fintype.sum_prod_type]
    refine Finset.sum_congr rfl fun k _ => Finset.sum_congr rfl fun e _ => congrArg f (Fin.ext ?_)
    show e.val + 256 * k.val = k.val * 256 + e.val
    omega
  exact h.trans (Fin.sum_univ_four _)

section
variable (a0 a1 : Vec Ideal S8x4096x256 .bf16) (yf yb : Vec Ideal S4352x2048 .f32) (y : Vec Ideal S8x4096x2048 .bf16) (x : Vec Ideal S8x4096x1024 .f32) (g1 : Vec Ideal S8x1024 .f32)
  (cw : Vec Ideal S3x256 .f32) (d : Vec Ideal S256 .f32) (wg : Vec Ideal S256x256 .f32) (gg : Vec Ideal S4x256 .f32) (wo : Vec Ideal S1024x1024 .f32)

/-- The product the convolution moves along the positions. -/
def zz (b : Fin 8) (e : Fin 256) (L : Fin 4096) : EReal := y (ix3 b L (yc 1024 (by decide) e)) * y (ix3 b L (yc 1280 (by decide) e))

/-- The recurrence's output with its skip. -/
def uu (b : Fin 8) (L : Fin 4096) (e : Fin 256) : EReal :=
  yf (ix2 ⟨L.val, by omega⟩ ⟨b.val * 256 + e.val, by omega⟩) + yb (ix2 ⟨L.val, by omega⟩ ⟨b.val * 256 + e.val, by omega⟩)
    + d (ix1 e) * y (ix3 b L (yc 1792 (by decide) e))

/-- The four groups' outputs at a position. -/
def wparts (b : Fin 8) (L : Fin 4096) : Fin 4 → Fin 256 → EReal :=
  ![fun e => a0 (ix3 b L e),
    fun e => conv3 (y (ix3 b L (yc 768 (by decide) e))) (before (zz y b e) L) (zz y b e L) (behind (zz y b e) L) (cw (ix2 0 e)) (cw (ix2 1 e)) (cw (ix2 2 e)),
    fun e => a1 (ix3 b L e),
    glu (uu yf yb y d b L) (fun k e => wg (ix2 k e))]

/-- The result from the twelve arguments. -/
def whole : S8x4096x1024.Idx → EReal := fun i =>
  merged (x i) (g1 (ix2 (i 0) (i 2))) (wparts a0 a1 yf yb y cw d wg (i 0) (i 1)) (fun k e => gg (ix2 k e)) (fun k e => wo (ix2 (gcol k e) (i 2)))

theorem ref_conv (b : Fin 8) (L : Fin 4096) (e : Fin 256) : val_main_v27 (F := Ideal) y cw (ix3 b L e) = wparts a0 a1 yf yb y cw d wg b L 1 e := by
  show _ = conv3 (y (ix3 b L (yc 768 (by decide) e))) (before (zz y b e) L) (zz y b e L) (behind (zz y b e) L) (cw (ix2 0 e)) (cw (ix2 1 e)) (cw (ix2 2 e))
  have h0 : (FloatOps.sitofp (F := Ideal) FTy.f32 (0#32) : EReal) = 0 := by
    show (((0#32).toInt : ℝ) : EReal) = 0
    simp
  unfold conv3 before behind zz yc
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_call0_v0]
  simp only [h0]

theorem ref_skip (b : Fin 8) (L : Fin 4096) (e : Fin 256) : val_main_v38 (F := Ideal) yf yb y d (ix3 b L e) = uu yf yb y d b L e := by
  unfold uu yc
  pointwise [val_main_v38, val_main_v37, val_main_v36, val_main_v35, val_main_v34, val_main_v33, val_main_v32, val_main_v31, val_main_v30, val_main_v29, val_main_v28, val_main_v4, val_main_v0]

theorem gel_cube (u : EReal) : gel u = u * (Ideal.ofBits FTy.f32 1056964608#32 * (1 + Ideal.tanh (Ideal.ofBits FTy.f32 1061962282#32 * (u + Ideal.ofBits FTy.f32 1027024659#32 * (u * u * u))))) := by
  unfold gel; rw [mul_assoc u u u]

theorem ref_glu (b : Fin 8) (L : Fin 4096) (e : Fin 256) : val_main_v59 (F := Ideal) yf yb y d wg (ix3 b L e) = wparts a0 a1 yf yb y cw d wg b L 3 e := by
  show _ = glu (uu yf yb y d b L) (fun k e => wg (ix2 k e)) e
  unfold glu
  simp only [gel_cube, ← ref_skip]
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst, val_main_cst_0, val_main_cst_1, val_main_cst_2, val_main_cst_3, val_main_cst_4]
  rfl

theorem ref_stack (b : Fin 8) (L : Fin 4096) (k : Fin 4) (e : Fin 256) :
    val_main_v67 (F := Ideal) a0 a1 yf yb y cw d wg (ix4 b L k e) = wparts a0 a1 yf yb y cw d wg b L k e := by
  have h0 : val_main_v67 (F := Ideal) a0 a1 yf yb y cw d wg (ix4 b L 0 e) = a0 (ix3 b L e) := by
    pointwise [val_main_v67, val_main_v66, val_main_v65, val_main_v64, val_main_v63, val_main_v60, val_main_v61]
  have h1 : val_main_v67 (F := Ideal) a0 a1 yf yb y cw d wg (ix4 b L 1 e) = val_main_v27 (F := Ideal) y cw (ix3 b L e) := by
    pointwise [val_main_v67, val_main_v66, val_main_v65, val_main_v64, val_main_v63, val_main_v60, val_main_v61]
  have h2 : val_main_v67 (F := Ideal) a0 a1 yf yb y cw d wg (ix4 b L 2 e) = a1 (ix3 b L e) := by
    pointwise [val_main_v67, val_main_v66, val_main_v65, val_main_v64, val_main_v63, val_main_v60, val_main_v61]
  have h3 : val_main_v67 (F := Ideal) a0 a1 yf yb y cw d wg (ix4 b L 3 e) = val_main_v59 (F := Ideal) yf yb y d wg (ix3 b L e) := by
    pointwise [val_main_v67, val_main_v66, val_main_v65, val_main_v64, val_main_v63, val_main_v60, val_main_v61]
  fin_cases k
  · exact h0
  · exact h1.trans (ref_conv a0 a1 yf yb y cw d wg b L e)
  · exact h2
  · exact h3.trans (ref_glu a0 a1 yf yb y cw d wg b L e)

theorem ref_norm (b : Fin 8) (L : Fin 4096) (k : Fin 4) (e : Fin 256) : val_main_v80 (F := Ideal) a0 a1 yf yb y cw d wg gg (ix4 b L k e)
    = gn (wparts a0 a1 yf yb y cw d wg b L k) (fun e => gg (ix2 k e)) e := by
  unfold gn
  simp only [← ref_stack]
  pointwise [val_main_v80, val_main_v79, val_main_v78, val_main_v77, val_main_v76, val_main_v75, val_main_v74, val_main_v73, val_main_v72, val_main_v71, val_main_v70, val_main_v69, val_main_v68, val_main_cst_5, val_main_cst_6, val_main_cst_7]

/-- The reference's result. -/
theorem ref_eq : val_main_v85 (F := Ideal) a0 a1 yf yb y x g1 cw d wg gg wo = whole a0 a1 yf yb y x g1 cw d wg gg wo := by
  funext i
  obtain ⟨b, L, n, rfl⟩ : ∃ (b : Fin 8) (L : Fin 4096) (n : Fin 1024), i = ix3 b L n :=
    ⟨i 0, i 1, i 2, by funext d; fin_cases d <;> rfl⟩
  show _ = merged (x (ix3 b L n)) (g1 (ix2 b n)) (wparts a0 a1 yf yb y cw d wg b L) (fun k e => gg (ix2 k e)) (fun k e => wo (ix2 (gcol k e) n))
  have h : val_main_v85 (F := Ideal) a0 a1 yf yb y x g1 cw d wg gg wo (ix3 b L n) = x (ix3 b L n) + g1 (ix2 b n)
      * ∑ q : Fin 1024, val_main_v80 (F := Ideal) a0 a1 yf yb y cw d wg gg (ix4 b L ⟨q.val / 256, by omega⟩ ⟨q.val % 256, by omega⟩) * wo (ix2 q n) := by
    pointwise [val_main_v85, val_main_v84, val_main_v83, val_main_v82, val_main_v81, val_main_v62]
  rw [h, sum_groups]
  have hk : ∀ (k : Fin 4) (e : Fin 256), (ix4 b L ⟨(gcol k e).val / 256, by omega⟩ ⟨(gcol k e).val % 256, by omega⟩ : S8x4096x4x256.Idx) = ix4 b L k e := fun k e => by
    have h1 : (⟨(gcol k e).val / 256, by omega⟩ : Fin 4) = k := Fin.ext (by show (k.val * 256 + e.val) / 256 = k.val; omega)
    have h2 : (⟨(gcol k e).val % 256, by omega⟩ : Fin 256) = e := Fin.ext (by show (k.val * 256 + e.val) % 256 = e.val; omega)
    rw [h1, h2]
  simp only [hk, ref_norm]
  rfl
end
end Cert.NM
end
-- ==== Proof.MergeF.lean ====
/- The merging of the mixers' outputs: the blocks the kernel's windows read, the kernel's whole result and the claim. -/
module
public import proofs.«01_k».proof.Proof.MergeW
public import Idealize.ShloMosaic.Lib.Claim
public import Idealize.ShloMosaic.Lib.Pipeline.ValueKit
public import Idealize.ShloMosaic.Lib.StableHlo.RunRead
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NM
open Cert.Kernel4Ideal Cert.Kernel4Ideal.Gen

/-- The row of the readouts a token has. -/
def lrow (L : Fin 4096) : Fin 4352 := ⟨L.val, by omega⟩
/-- The column of the readouts a batch's channel has. -/
def bcol (b : Fin 8) (e : Fin 256) : Fin 2048 := ⟨b.val * 256 + e.val, by omega⟩

/-- A block's four groups are the arguments' at the block's tokens. -/
theorem parts_eq (b j : Fin 8) (r : Fin 512)
    (a0 a1 : Vec Ideal S8x4096x256 .bf16) (yf yb : Vec Ideal S4352x2048 .f32) (y : Vec Ideal S8x4096x2048 .bf16)
    (cw : Vec Ideal S3x256 .f32) (d : Vec Ideal S256 .f32) (wg : Vec Ideal S256x256 .f32)
    (x0 x1 x2 x3 : Vec Ideal S1x512x256 .bf16) (x4 x5 x6 x7 : Vec Ideal S1x8x256 .bf16) (x8 : Vec Ideal S1x512x256 .bf16)
    (x9 x10 : Vec Ideal S512x256 .f32) (x11 : Vec Ideal S1x512x256 .bf16) (x14 : Vec Ideal S3x256 .f32) (x15 : Vec Ideal S1x256 .f32) (x16 : Vec Ideal S256x256 .bf16)
    (h0 : ∀ r e, x0 (ix3 0 r e) = a0 (ix3 b (tok j r) e)) (h1 : ∀ r e, x1 (ix3 0 r e) = y (ix3 b (tok j r) (yc 768 (by decide) e)))
    (h2 : ∀ r e, x2 (ix3 0 r e) = y (ix3 b (tok j r) (yc 1024 (by decide) e))) (h3 : ∀ r e, x3 (ix3 0 r e) = y (ix3 b (tok j r) (yc 1280 (by decide) e)))
    (h4 : ∀ e, x4 (ix3 0 7 e) = y (ix3 b (hp j) (yc 1024 (by decide) e))) (h5 : ∀ e, x5 (ix3 0 7 e) = y (ix3 b (hp j) (yc 1280 (by decide) e)))
    (h6 : ∀ e, x6 (ix3 0 0 e) = y (ix3 b (hn j) (yc 1024 (by decide) e))) (h7 : ∀ e, x7 (ix3 0 0 e) = y (ix3 b (hn j) (yc 1280 (by decide) e)))
    (h8 : ∀ r e, x8 (ix3 0 r e) = a1 (ix3 b (tok j r) e)) (h9 : ∀ r e, x9 (ix2 r e) = yf (ix2 (lrow (tok j r)) (bcol b e)))
    (h10 : ∀ r e, x10 (ix2 r e) = yb (ix2 (lrow (tok j r)) (bcol b e))) (h11 : ∀ r e, x11 (ix3 0 r e) = y (ix3 b (tok j r) (yc 1792 (by decide) e)))
    (h14 : ∀ k e, x14 (ix2 k e) = cw (ix2 k e)) (h15 : ∀ e, x15 (ix2 0 e) = d (ix1 e)) (h16 : ∀ k e, x16 (ix2 k e) = wg (ix2 k e)) :
    parts j x0 x1 x2 x3 x4 x5 x6 x7 x8 x9 x10 x11 x14 x15 x16 r = wparts a0 a1 yf yb y cw d wg b (tok j r) := by
  unfold parts wparts
  simp only [h0, h1, h2, h3, h4, h5, h6, h7, h8, h9, h10, h11, h14, h15, h16]
  have hb : ∀ e, _ = before (zz y b e) (tok j r) := fun e => before_block (zz y b e) j r
  have hn : ∀ e, _ = behind (zz y b e) (tok j r) := fun e => behind_block (zz y b e) j r
  unfold zz at hb hn
  simp only [hb, hn]
  rfl

section
variable (m : (ℓ : Loc nD τ sig) → Buf (Elt Ideal) ℓ) (c : Dev nD)

/-- The block each window is on at a grid point. -/
theorem idx : ∀ t : Fin cfg0.N, win0_0.index t = ![(grid0.coords t 0).val, (grid0.coords t 1).val, 0]
    ∧ win0_1.index t = ![(grid0.coords t 0).val, (grid0.coords t 1).val, 3]
    ∧ win0_2.index t = ![(grid0.coords t 0).val, (grid0.coords t 1).val, 4]
    ∧ win0_3.index t = ![(grid0.coords t 0).val, (grid0.coords t 1).val, 5]
    ∧ win0_4.index t = ![(grid0.coords t 0).val, max ((grid0.coords t 1).val * 64 - 1) 0, 4]
    ∧ win0_5.index t = ![(grid0.coords t 0).val, max ((grid0.coords t 1).val * 64 - 1) 0, 5]
    ∧ win0_6.index t = ![(grid0.coords t 0).val, min (((grid0.coords t 1).val + 1) * 64) 511, 4]
    ∧ win0_7.index t = ![(grid0.coords t 0).val, min (((grid0.coords t 1).val + 1) * 64) 511, 5]
    ∧ win0_8.index t = ![(grid0.coords t 0).val, (grid0.coords t 1).val, 0]
    ∧ win0_9.index t = ![(grid0.coords t 1).val, (grid0.coords t 0).val]
    ∧ win0_10.index t = ![(grid0.coords t 1).val, (grid0.coords t 0).val]
    ∧ win0_11.index t = ![(grid0.coords t 0).val, (grid0.coords t 1).val, 7]
    ∧ win0_12.index t = ![(grid0.coords t 0).val, (grid0.coords t 1).val, 0]
    ∧ win0_13.index t = ![(grid0.coords t 0).val, 0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, (grid0.coords t 1).val, 3]
    ∧ win0_2.index t = ![(grid0.coords t 0).val, (grid0.coords t 1).val, 4]
    ∧ win0_3.index t = ![(grid0.coords t 0).val, (grid0.coords t 1).val, 5]
    ∧ win0_4.index t = ![(grid0.coords t 0).val, max ((grid0.coords t 1).val * 64 - 1) 0, 4]
    ∧ win0_5.index t = ![(grid0.coords t 0).val, max ((grid0.coords t 1).val * 64 - 1) 0, 5]
    ∧ win0_6.index t = ![(grid0.coords t 0).val, min (((grid0.coords t 1).val + 1) * 64) 511, 4]
    ∧ win0_7.index t = ![(grid0.coords t 0).val, min (((grid0.coords t 1).val + 1) * 64) 511, 5]
    ∧ win0_8.index t = ![(grid0.coords t 0).val, (grid0.coords t 1).val, 0]
    ∧ win0_9.index t = ![(grid0.coords t 1).val, (grid0.coords t 0).val]
    ∧ win0_10.index t = ![(grid0.coords t 1).val, (grid0.coords t 0).val]
    ∧ win0_11.index t = ![(grid0.coords t 0).val, (grid0.coords t 1).val, 7]
    ∧ win0_12.index t = ![(grid0.coords t 0).val, (grid0.coords t 1).val, 0]
    ∧ win0_13.index t = ![(grid0.coords t 0).val, 0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![(grid0.coords t 0).val, (grid0.coords t 1).val, 0])

theorem iblk0 (t : Fin cfg0.N) (r : Fin 512) (e : Fin 256) : iblk m c 0 t (ix3 0 r e) = m ((c : Thread nD τ).loc main_arg0) (ix3 (grid0.coords t 0 : Fin 8) (tok (grid0.coords t 1) r) e) := by
  have h2 : iblk m c 0 t (ix3 0 r e) = V m c main_arg0 (ix3 (grid0.coords t 0 : Fin 8) (tok (grid0.coords t 1) r) e) := by
    unfold tok; blk_ext [iblk, idx t]
  exact h2.trans (congrFun (V_main_arg0 m c) _)
theorem iblk1 (t : Fin cfg0.N) (r : Fin 512) (e : Fin 256) : iblk m c 1 t (ix3 0 r e) = m ((c : Thread nD τ).loc main_arg4) (ix3 (grid0.coords t 0 : Fin 8) (tok (grid0.coords t 1) r) (yc 768 (by decide) e)) := by
  have h2 : iblk m c 1 t (ix3 0 r e) = V m c main_arg4 (ix3 (grid0.coords t 0 : Fin 8) (tok (grid0.coords t 1) r) (yc 768 (by decide) e)) := by
    unfold tok yc; blk_ext [iblk, idx t]
  exact h2.trans (congrFun (V_main_arg4 m c) _)
theorem iblk2 (t : Fin cfg0.N) (r : Fin 512) (e : Fin 256) : iblk m c 2 t (ix3 0 r e) = m ((c : Thread nD τ).loc main_arg4) (ix3 (grid0.coords t 0 : Fin 8) (tok (grid0.coords t 1) r) (yc 1024 (by decide) e)) := by
  have h2 : iblk m c 2 t (ix3 0 r e) = V m c main_arg4 (ix3 (grid0.coords t 0 : Fin 8) (tok (grid0.coords t 1) r) (yc 1024 (by decide) e)) := by
    unfold tok yc; blk_ext [iblk, idx t]
  exact h2.trans (congrFun (V_main_arg4 m c) _)
theorem iblk3 (t : Fin cfg0.N) (r : Fin 512) (e : Fin 256) : iblk m c 3 t (ix3 0 r e) = m ((c : Thread nD τ).loc main_arg4) (ix3 (grid0.coords t 0 : Fin 8) (tok (grid0.coords t 1) r) (yc 1280 (by decide) e)) := by
  have h2 : iblk m c 3 t (ix3 0 r e) = V m c main_arg4 (ix3 (grid0.coords t 0 : Fin 8) (tok (grid0.coords t 1) r) (yc 1280 (by decide) e)) := by
    unfold tok yc; blk_ext [iblk, idx t]
  exact h2.trans (congrFun (V_main_arg4 m c) _)
theorem iblk11 (t : Fin cfg0.N) (r : Fin 512) (e : Fin 256) : iblk m c 11 t (ix3 0 r e) = m ((c : Thread nD τ).loc main_arg4) (ix3 (grid0.coords t 0 : Fin 8) (tok (grid0.coords t 1) r) (yc 1792 (by decide) e)) := by
  have h2 : iblk m c 11 t (ix3 0 r e) = V m c main_arg4 (ix3 (grid0.coords t 0 : Fin 8) (tok (grid0.coords t 1) r) (yc 1792 (by decide) e)) := by
    unfold tok yc; blk_ext [iblk, idx t]
  exact h2.trans (congrFun (V_main_arg4 m c) _)
theorem iblk4 (t : Fin cfg0.N) (e : Fin 256) : iblk m c 4 t (ix3 0 7 e) = m ((c : Thread nD τ).loc main_arg4) (ix3 (grid0.coords t 0 : Fin 8) (hp (grid0.coords t 1)) (yc 1024 (by decide) e)) := by
  have h2 : iblk m c 4 t (ix3 0 7 e) = V m c main_arg4 (ix3 (grid0.coords t 0 : Fin 8) (hp (grid0.coords t 1)) (yc 1024 (by decide) e)) := by
    unfold hp yc; blk_ext [iblk, idx t]
  exact h2.trans (congrFun (V_main_arg4 m c) _)
theorem iblk5 (t : Fin cfg0.N) (e : Fin 256) : iblk m c 5 t (ix3 0 7 e) = m ((c : Thread nD τ).loc main_arg4) (ix3 (grid0.coords t 0 : Fin 8) (hp (grid0.coords t 1)) (yc 1280 (by decide) e)) := by
  have h2 : iblk m c 5 t (ix3 0 7 e) = V m c main_arg4 (ix3 (grid0.coords t 0 : Fin 8) (hp (grid0.coords t 1)) (yc 1280 (by decide) e)) := by
    unfold hp yc; blk_ext [iblk, idx t]
  exact h2.trans (congrFun (V_main_arg4 m c) _)
theorem iblk6 (t : Fin cfg0.N) (e : Fin 256) : iblk m c 6 t (ix3 0 0 e) = m ((c : Thread nD τ).loc main_arg4) (ix3 (grid0.coords t 0 : Fin 8) (hn (grid0.coords t 1)) (yc 1024 (by decide) e)) := by
  have h2 : iblk m c 6 t (ix3 0 0 e) = V m c main_arg4 (ix3 (grid0.coords t 0 : Fin 8) (hn (grid0.coords t 1)) (yc 1024 (by decide) e)) := by
    unfold hn yc; blk_ext [iblk, idx t]
  exact h2.trans (congrFun (V_main_arg4 m c) _)
theorem iblk7 (t : Fin cfg0.N) (e : Fin 256) : iblk m c 7 t (ix3 0 0 e) = m ((c : Thread nD τ).loc main_arg4) (ix3 (grid0.coords t 0 : Fin 8) (hn (grid0.coords t 1)) (yc 1280 (by decide) e)) := by
  have h2 : iblk m c 7 t (ix3 0 0 e) = V m c main_arg4 (ix3 (grid0.coords t 0 : Fin 8) (hn (grid0.coords t 1)) (yc 1280 (by decide) e)) := by
    unfold hn yc; blk_ext [iblk, idx t]
  exact h2.trans (congrFun (V_main_arg4 m c) _)
theorem iblk8 (t : Fin cfg0.N) (r : Fin 512) (e : Fin 256) : iblk m c 8 t (ix3 0 r e) = m ((c : Thread nD τ).loc main_arg1) (ix3 (grid0.coords t 0 : Fin 8) (tok (grid0.coords t 1) r) e) := by
  have h2 : iblk m c 8 t (ix3 0 r e) = V m c main_arg1 (ix3 (grid0.coords t 0 : Fin 8) (tok (grid0.coords t 1) r) e) := by
    unfold tok; blk_ext [iblk, idx t]
  exact h2.trans (congrFun (V_main_arg1 m c) _)
theorem iblk12 (t : Fin cfg0.N) (r : Fin 512) (n : Fin 1024) : iblk m c 12 t (ix3 0 r n) = m ((c : Thread nD τ).loc main_arg5) (ix3 (grid0.coords t 0 : Fin 8) (tok (grid0.coords t 1) r) n) := by
  have h2 : iblk m c 12 t (ix3 0 r n) = V m c main_arg5 (ix3 (grid0.coords t 0 : Fin 8) (tok (grid0.coords t 1) r) n) := by
    unfold tok; blk_ext [iblk, idx t]
  exact h2.trans (congrFun (V_main_arg5 m c) _)
theorem x9 (t : Fin cfg0.N) (r : Fin 512) (e : Fin 256) : X0_9 m c t (ix2 r e) = m ((c : Thread nD τ).loc main_arg2) (ix2 (lrow (tok (grid0.coords t 1) r)) (bcol (grid0.coords t 0) e)) := by
  have h2 : X0_9 m c t (ix2 r e) = V m c main_arg2 (ix2 (lrow (tok (grid0.coords t 1) r)) (bcol (grid0.coords t 0) e)) := by
    unfold X0_9 Pipeline.Window.fill
    rw [dif_pos (moved0_9 t _)]
    unfold tok lrow bcol; blk_ext [iblk, idx t]
  exact h2.trans (congrFun (V_main_arg2 m c) _)
theorem x10 (t : Fin cfg0.N) (r : Fin 512) (e : Fin 256) : X0_10 m c t (ix2 r e) = m ((c : Thread nD τ).loc main_arg3) (ix2 (lrow (tok (grid0.coords t 1) r)) (bcol (grid0.coords t 0) e)) := by
  have h2 : X0_10 m c t (ix2 r e) = V m c main_arg3 (ix2 (lrow (tok (grid0.coords t 1) r)) (bcol (grid0.coords t 0) e)) := by
    unfold X0_10 Pipeline.Window.fill
    rw [dif_pos (moved0_10 t _)]
    unfold tok lrow bcol; blk_ext [iblk, idx t]
  exact h2.trans (congrFun (V_main_arg3 m c) _)
theorem iblk13 (t : Fin cfg0.N) (n : Fin 1024) : iblk m c 13 t (ix3 0 0 n) = m ((c : Thread nD τ).loc main_arg6) (ix2 (grid0.coords t 0 : Fin 8) n) := by
  have h : V m c main_v2 = shapeCast S8x1x1024 (m ((c : Thread nD τ).loc main_arg6)) shapeCasts_S8x1024_S8x1x1024 := by
    unfold_abbrev_sides
    after_reads_simp
    rfl
  have h2 : iblk m c 13 t (ix3 0 0 n) = V m c main_v2 (ix3 (grid0.coords t 0 : Fin 8) 0 n) := by blk_ext [iblk, idx t]
  rw [h2, h]; pointwise []
theorem iblk15 (t : Fin cfg0.N) (e : Fin 256) : iblk m c 15 t (ix2 0 e) = m ((c : Thread nD τ).loc main_arg8) (ix1 e) := by
  have h : V m c main_v3 = shapeCast S1x256 (m ((c : Thread nD τ).loc main_arg8)) shapeCasts_S256_S1x256 := by
    unfold_abbrev_sides
    after_reads_simp
    rfl
  have h2 : iblk m c 15 t (ix2 0 e) = V m c main_v3 (ix2 0 e) := by blk_ext [iblk, idx t]
  rw [h2, h]; pointwise []
theorem iblk14 (t : Fin cfg0.N) (k : Fin 3) (e : Fin 256) : iblk m c 14 t (ix2 k e) = m ((c : Thread nD τ).loc main_arg7) (ix2 k e) := by
  have h2 : iblk m c 14 t (ix2 k e) = V m c main_arg7 (ix2 k e) := by
    blk_ext [iblk, idx t]
  exact h2.trans (congrFun (V_main_arg7 m c) _)
theorem iblk17 (t : Fin cfg0.N) (k : Fin 4) (e : Fin 256) : iblk m c 17 t (ix2 k e) = m ((c : Thread nD τ).loc main_arg10) (ix2 k e) := by
  have h2 : iblk m c 17 t (ix2 k e) = V m c main_arg10 (ix2 k e) := by
    blk_ext [iblk, idx t]
  exact h2.trans (congrFun (V_main_arg10 m c) _)
theorem iblk16 (t : Fin cfg0.N) (k e : Fin 256) : iblk m c 16 t (ix2 k e) = m ((c : Thread nD τ).loc main_arg9) (ix2 k e) := by
  have h : (V m c main_v0 : S256x256.Idx → EReal) = m ((c : Thread nD τ).loc main_arg9) := by
    unfold_abbrev_sides
    after_reads_simp
    rfl
  have h2 : iblk m c 16 t (ix2 k e) = V m c main_v0 (ix2 k e) := by blk_ext [iblk, idx t]
  exact h2.trans (congrFun h _)
theorem iblk18 (t : Fin cfg0.N) (k n : Fin 1024) : iblk m c 18 t (ix2 k n) = m ((c : Thread nD τ).loc main_arg11) (ix2 k n) := by
  have h : (V m c main_v1 : S1024x1024.Idx → EReal) = m ((c : Thread nD τ).loc main_arg11) := by
    unfold_abbrev_sides
    after_reads_simp
    rfl
  have h2 : iblk m c 18 t (ix2 k n) = V m c main_v1 (ix2 k n) := by blk_ext [iblk, idx t]
  exact h2.trans (congrFun h _)

/-- The result array after the run. -/
theorem arr_eq : (dats m 0 c).arrAt 19 cfg0.N = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 19 _ (by decide +kernel) fun t hf y => ?_
  blk_simp
  rw [after0_19]
  have h0 : (y 0).val < 1 := (y 0).isLt
  have h1 : (y 1).val < 512 := (y 1).isLt
  have h2 : (y 2).val < 1024 := (y 2).isLt
  have hy : (cfg0.win 19).xinj (cfg0.grid.coords t) y = ix3 0 ⟨(y 1).val, h1⟩ ⟨(y 2).val, h2⟩ := by
    funext a; apply Fin.ext; fin_cases a
    · show (y 0).val = 0; omega
    · rfl
    · rfl
  have he : ((cfg0.win 19).blk t).view.emb y
      = (ix3 (grid0.coords t 0 : Fin 8) (tok (grid0.coords t 1) ⟨(y 1).val, h1⟩) (⟨(y 2).val, h2⟩ : Fin 1024) : S8x4096x1024.Idx) := by
    unfold tok; blk_ext [idx t]
  rw [he]
  refine (congrArg (outsAt0 m c t) hy).trans ?_
  unfold outsAt0
  refine (out_apply _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (X0_9 m c t) (X0_10 m c t) (iblk m c 11 t) (iblk m c 12 t) (iblk m c 13 t) (iblk m c 14 t) (iblk m c 15 t) (iblk m c 16 t) (iblk m c 17 t) (iblk m c 18 t) _ _).trans ?_
  refine (congrArg (fun p => merged _ _ p _ _) (parts_eq (grid0.coords t 0) (grid0.coords t 1) _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t) (iblk m c 7 t) (iblk m c 8 t) (X0_9 m c t) (X0_10 m c t) (iblk m c 11 t) (iblk m c 14 t) (iblk m c 15 t) (iblk m c 16 t)
    (iblk0 m c t) (iblk1 m c t) (iblk2 m c t) (iblk3 m c t) (iblk4 m c t) (iblk5 m c t) (iblk6 m c t) (iblk7 m c t) (iblk8 m c t) (x9 m c t) (x10 m c t) (iblk11 m c t) (iblk14 m c t) (iblk15 m c t) (iblk16 m c t))).trans ?_
  show merged _ _ _ _ _ = merged _ _ _ _ _
  rw [iblk12, iblk13, funext fun k => funext (iblk17 m c t k), funext fun k => funext fun e => iblk18 m c t (gcol k e) _]
  rfl
end

/-- Over the extended reals the merging kernel and its reference end with equal results. -/
theorem algebraic : @Cert.algebraic_Kernel4Ideal_Reference4Ideal Cert.Kernel4Ideal.Gen.facts Cert.Reference4Ideal.Gen.facts := by
  intro m g m' g' hp ha
  refine ⟨fun c => whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)), ?_, ?_⟩
  · refine (θ_run defs _ _).mono (fun r h c => ⟨(h c).1.trans ?_, (h c).2⟩) (Cert.Kernel4Ideal.Value.run_blocks m g)
    exact arr_eq m c
  · refine (θ_run Cert.Reference4Ideal.defs _ _).mono (fun r h c => ⟨(h c).1.trans ?_, (h c).2⟩) (Cert.Reference4Ideal.Value.run m' g')
    obtain ⟨a0, a1, a2, a3, a4, a5, a6, a7, a8, a9, a10, a11⟩ := ha c
    rw [Cert.Reference4Ideal.Read.val_main_v85_eq, a0, a1, a2, a3, a4, a5, a6, a7, a8, a9, a10, a11]
    exact ref_eq _ _ _ _ _ _ _ _ _ _ _ _

/-- The reference runs, keeps its arguments and ends with every counter at zero. -/
theorem frame_ref : @Cert.quiescent_Reference4Ideal Cert.Reference4Ideal.Gen.facts := fun m g _ =>
  (θ_run Cert.Reference4Ideal.defs _ _).mono (fun r h => ⟨fun c => (h c).2, sem_eq_zero_of_no_sems (by decide) r.2⟩) (Cert.Reference4Ideal.Value.run m g)

end Cert.NM
end
-- ==== Proof.Ada.lean ====
/- The modulation's product: the padded rows, the kernel's block, its whole result, the reference and the claim. -/
module
public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Lib.Pipeline.ValueKit
public import Idealize.ShloMosaic.Lib.StableHlo.RunRead
public import Idealize.ShloMosaic.Lib.Pointwise
public import Idealize.ShloMosaic.Lib.Routing.OpsSet
public import Idealize.ShloMosaic.Lib.Routing.OpsOne
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NQ
open Cert.Kernel5Ideal Cert.Kernel5Ideal.Gen

/-- The rows: eight of the condition's, one of the context's, and seven of zeros. -/
def rows (c : Vec Ideal S8x1024 .f32) (x : Vec Ideal S1024 .f32) (r : Fin 16) (n : Fin 1024) : EReal :=
  if h : r.val < 8 then c (ix2 ⟨r.val, h⟩ n) else if _h : r.val - 8 < 1 then x (ix1 n) else 0

/-- A number times its logistic. -/
def silu (a : EReal) : EReal := a * Ideal.div 1 (1 + Ideal.exp (-a))

/-- What the body stores, at a row and a column. -/
theorem pay_apply (v0 : Vec Ideal S16x1024 .f32) (v4 : Vec Ideal S1x1024x1024 .f32) (v7 : Vec Ideal S1x1x1024 .f32) (r : Fin 16) (n : Fin 1024) :
    k0_pay1 v0 v4 v7 (ix3 0 r n) = (∑ e, silu (v0 (ix2 r e)) * v4 (ix3 0 e n)) + v7 (ix3 0 0 n) := by
  have h : ∀ a, silu a = a * Ideal.logistic a := fun _ => rfl
  simp only [h]
  pointwise [k0_pay1]

/-- The result from the four arguments. -/
def whole (c : Vec Ideal S8x1024 .f32) (x : Vec Ideal S1024 .f32) (w : Vec Ideal S2x1024x6144 .f32) (b : Vec Ideal S2x6144 .f32) : S2x16x6144.Idx → EReal :=
  fun i => (∑ e, silu (rows c x (i 1) e) * w (ix3 (i 0) e (i 2))) + b (ix2 (i 0) (i 2))

section
open Cert.Reference5Ideal.Read
variable (c : Vec Ideal S8x1024 .f32) (x : Vec Ideal S1024 .f32) (w : Vec Ideal S2x1024x6144 .f32) (b : Vec Ideal S2x6144 .f32)
theorem ref_rows (r : Fin 16) (n : Fin 1024) : val_main_v2 (F := Ideal) c x (ix2 r n) = rows c x r n := by
  unfold rows
  pointwise [val_main_v2, val_main_v1, val_main_v0, val_main_cst]
/-- The reference's first half. -/
theorem ref_0 (r : Fin 16) (n : Fin 6144) :
    val_main_v11 (F := Ideal) c x w b (ix2 r n) = (∑ e, silu (rows c x r e) * w (ix3 0 e n)) + b (ix2 0 n) := by
  simp only [← ref_rows]
  unfold silu
  pointwise [val_main_v11, val_main_v10, val_main_v9, val_main_v8, val_main_v7, val_main_v6, val_main_v5, val_main_v4, val_main_v3, val_main_call0_v5, val_main_call0_v4, val_main_call0_v3, val_main_call0_v2, val_main_call0_v1, val_main_call0_v0, val_main_call0_cst, val_main_call0_cst_0]
/-- The reference's second half. -/
theorem ref_1 (r : Fin 16) (n : Fin 6144) :
    val_main_v20 (F := Ideal) c x w b (ix2 r n) = (∑ e, silu (rows c x r e) * w (ix3 1 e n)) + b (ix2 1 n) := by
  simp only [← ref_rows]
  unfold silu
  pointwise [val_main_v20, val_main_v19, val_main_v18, val_main_v17, val_main_v16, val_main_v15, val_main_v14, val_main_v13, val_main_v12, val_main_call1_v5, val_main_call1_v4, val_main_call1_v3, val_main_call1_v2, val_main_call1_v1, val_main_call1_v0, val_main_call1_cst, val_main_call1_cst_0]
/-- The reference's result. -/
theorem ref_eq : val_main_v23 (F := Ideal) c x w b = whole c x w b := by
  funext i
  obtain ⟨z, r, n, rfl⟩ : ∃ (z : Fin 2) (r : Fin 16) (n : Fin 6144), i = ix3 z r n :=
    ⟨i 0, i 1, i 2, by funext d; fin_cases d <;> rfl⟩
  have h : val_main_v23 (F := Ideal) c x w b (ix3 z r n) = if _h : z.val < 1 then val_main_v11 c x w b (ix2 r n) else val_main_v20 c x w b (ix2 r n) := by
    pointwise [val_main_v23, val_main_v22, val_main_v21]
  rw [h, ref_0, ref_1]
  fin_cases z <;> rfl
end

/-! ## The padded rows on the host -/

/-- The first scatter writes the block of eight rows at the row its index names. -/
theorem lands8 (v : IVec S1 32) (h0 : (v (ix1 0)).toInt = 0) (a : Fin 8) (e : Fin 1024) (r : Fin 16) (n : Fin 1024) :
    scatter_S16x1024_S1_S8x1024_01_n_0_0.resultIdx? (ix2 a e) v = some (ix2 r n) ↔ a.val = r.val ∧ e = n := by
  have s0 : scatter_S16x1024_S1_S8x1024_01_n_0_0.start (ix2 a e : S8x1024.Idx) v 0 = 0 := h0 ▸ congrArg (fun z => (v z).toInt) (by funext d; match d with | ⟨0, _⟩ => exact Subsingleton.elim (α := Fin 1) _ _)
  have s1 : scatter_S16x1024_S1_S8x1024_01_n_0_0.start (ix2 a e : S8x1024.Idx) v 1 = 0 := rfl
  have w0 : scatter_S16x1024_S1_S8x1024_01_n_0_0.window (ix2 a e : S8x1024.Idx) 0 = a.val := rfl
  have w1 : scatter_S16x1024_S1_S8x1024_01_n_0_0.window (ix2 a e : S8x1024.Idx) 1 = e.val := rfl
  refine (Routing.resultIdx?_ix2 _ _ _ r n).trans ?_
  rw [s0, s1, w0, w1, Fin.ext_iff]
  omega

/-- The second scatter writes one row at the row its index names. -/
theorem lands1 (v : IVec S1 32) (h0 : (v (ix1 0)).toInt = 8) (e : Fin 1024) (r : Fin 16) (n : Fin 1024) :
    scatter_S16x1024_S1_S1024_0_0_0_0.resultIdx? (ix1 e) v = some (ix2 r n) ↔ r.val = 8 ∧ e = n := by
  have s0 : scatter_S16x1024_S1_S1024_0_0_0_0.start (ix1 e : S1024.Idx) v 0 = 8 := h0 ▸ congrArg (fun z => (v z).toInt) (by funext d; match d with | ⟨0, _⟩ => exact Subsingleton.elim (α := Fin 1) _ _)
  have s1 : scatter_S16x1024_S1_S1024_0_0_0_0.start (ix1 e : S1024.Idx) v 1 = 0 := rfl
  have w0 : scatter_S16x1024_S1_S1024_0_0_0_0.window (ix1 e : S1024.Idx) 0 = 0 := rfl
  have w1 : scatter_S16x1024_S1_S1024_0_0_0_0.window (ix1 e : S1024.Idx) 1 = e.val := rfl
  refine (Routing.resultIdx?_ix2 _ _ _ r n).trans ?_
  rw [s0, s1, w0, w1, Fin.ext_iff]
  omega

/-- The two scatters into zeros are the rows. -/
theorem padded (c : Vec Ideal S8x1024 .f32) (x : Vec Ideal S1024 .f32) (x0 : S16x1024.Idx → EReal) (hx : ∀ i, x0 i = 0) (u v : IVec S1 32)
    (hu : (u (ix1 0)).toInt = 0) (hv : (v (ix1 0)).toInt = 8) (r : Fin 16) (n : Fin 1024) :
    Host.scatter scatter_S16x1024_S1_S1024_0_0_0_0 (fun _ b => b) (Host.scatter scatter_S16x1024_S1_S8x1024_01_n_0_0 (fun _ b => b) x0 u c) v x (ix2 r n) = rows c x r n := by
  have e1 : ∀ k : S1024.Idx, k = ix1 (k 0) := fun k => by funext d; fin_cases d; rfl
  have e2 : ∀ k : S8x1024.Idx, k = ix2 (k 0) (k 1) := fun k => by funext d; fin_cases d <;> rfl
  unfold rows
  by_cases h8 : r.val < 8
  · rw [dif_pos h8, Routing.scatter_set_miss _ _ _ _ _ fun k hk => ?_, Routing.scatter_set_hit _ _ _ _ _ (c (ix2 ⟨r.val, h8⟩ n)) (fun k hk => ?_) (ix2 ⟨r.val, h8⟩ n) ((lands8 u hu _ _ _ _).2 ⟨rfl, rfl⟩)]
    · rw [e2 k] at hk ⊢
      obtain ⟨h1, h2⟩ := (lands8 u hu (k 0) (k 1) r n).1 hk
      exact congrArg c (congrArg₂ ix2 (Fin.ext h1) h2)
    · rw [e1 k] at hk
      have := ((lands1 v hv (k 0) r n).1 hk).1
      omega
  · rw [dif_neg h8]
    by_cases h9 : r.val - 8 < 1
    · rw [dif_pos h9]
      refine Routing.scatter_set_hit _ _ _ _ _ _ (fun k hk => ?_) (ix1 n) ((lands1 v hv _ _ _).2 ⟨by omega, rfl⟩)
      rw [e1 k] at hk ⊢
      exact congrArg x (congrArg ix1 ((lands1 v hv (k 0) r n).1 hk).2)
    · rw [dif_neg h9, Routing.scatter_set_miss _ _ _ _ _ fun k hk => ?_, Routing.scatter_set_miss _ _ _ _ _ fun k hk => ?_, hx]
      · rw [e2 k] at hk
        have := ((lands8 u hu (k 0) (k 1) r n).1 hk).1
        have h : (k 0).val < 8 := (k 0).isLt
        omega
      · rw [e1 k] at hk
        have := ((lands1 v hv (k 0) r n).1 hk).1
        omega

section
variable (m : (ℓ : Loc nD τ sig) → Buf (Elt Ideal) ℓ) (c : Dev nD)

/-- The block each window is on at a grid point. -/
theorem idx : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val] :=
  (by decide +kernel : ∀ t : Fin grid0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val])

/-- The column a block's column is. -/
def col (j : Fin 6) (n : Fin 1024) : Fin 6144 := ⟨j.val * 1024 + n.val, by omega⟩

theorem bias_row (b : Vec Ideal S2x6144 .f32) (z : Fin 2) (n : Fin 6144) : shapeCast S2x1x6144 b shapeCasts_S2x6144_S2x1x6144 (ix3 z 0 n) = b (ix2 z n) := by
  pointwise []
theorem iblk0 (t : Fin cfg0.N) (r : Fin 16) (e : Fin 1024) :
    iblk m c 0 t (ix2 r e) = rows (m ((c : Thread nD τ).loc main_arg0)) (m ((c : Thread nD τ).loc main_arg1)) r e := by
  have h : (V m c main_v4 : S16x1024.Idx → EReal) = Host.scatter scatter_S16x1024_S1_S1024_0_0_0_0 (fun _ b => b)
      (Host.scatter scatter_S16x1024_S1_S8x1024_01_n_0_0 (fun _ b => b) (broadcastInDim S16x1024 ![] bcast_S_S16x1024 (constant (F := Ideal) S_ .f32 0x00000000#32))
        (broadcastInDim S1 ![] bcast_S_S1 (constantI S_ 32 0#32)) (m ((c : Thread nD τ).loc main_arg0)))
      (broadcastInDim S1 ![] bcast_S_S1 (constantI S_ 32 8#32)) (m ((c : Thread nD τ).loc main_arg1)) := by
    unfold_abbrev_sides
    after_reads_simp
  have h2 : iblk m c 0 t (ix2 r e) = V m c main_v4 (ix2 r e) := by blk_ext [iblk, idx t]
  refine h2.trans ((congrFun h _).trans (padded _ _ _ (fun i => ?_) _ _ rfl rfl r e))
  show Ideal.ofBits FTy.f32 0#32 = 0
  simp [Ideal.ofBits, Ideal.ieee]
theorem iblk1 (t : Fin cfg0.N) (e n : Fin 1024) :
    iblk m c 1 t (ix3 0 e n) = m ((c : Thread nD τ).loc main_arg2) (ix3 (grid0.coords t 0 : Fin 2) e (col (grid0.coords t 1) n)) := by
  have h2 : iblk m c 1 t (ix3 0 e n) = V m c main_arg2 (ix3 (grid0.coords t 0 : Fin 2) e (col (grid0.coords t 1) n)) := by
    unfold col; blk_ext [iblk, idx t]
  exact h2.trans (congrFun (V_main_arg2 m c) _)
theorem iblk2 (t : Fin cfg0.N) (n : Fin 1024) :
    iblk m c 2 t (ix3 0 0 n) = m ((c : Thread nD τ).loc main_arg3) (ix2 (grid0.coords t 0 : Fin 2) (col (grid0.coords t 1) n)) := by
  have h : V m c main_v5 = shapeCast S2x1x6144 (m ((c : Thread nD τ).loc main_arg3)) shapeCasts_S2x6144_S2x1x6144 := by
    unfold_abbrev_sides
    after_reads_simp
    rfl
  have h2 : iblk m c 2 t (ix3 0 0 n) = V m c main_v5 (ix3 (grid0.coords t 0 : Fin 2) 0 (col (grid0.coords t 1) n)) := by unfold col; blk_ext [iblk, idx t]
  rw [h2, h]; exact bias_row _ _ _

/-- The result array after the run. -/
theorem arr_eq : (dats m 0 c).arrAt 3 cfg0.N
    = whole (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  frame_out
  have h0 : (y 0).val < 1 := (y 0).isLt
  have h1 : (y 1).val < 16 := (y 1).isLt
  have h2 : (y 2).val < 1024 := (y 2).isLt
  have hy : (cfg0.win 3).xinj (cfg0.grid.coords t) y = ix3 0 ⟨(y 1).val, h1⟩ ⟨(y 2).val, h2⟩ := by
    funext a; apply Fin.ext; fin_cases a
    · show (y 0).val = 0; omega
    · rfl
    · rfl
  have he : ((cfg0.win 3).blk t).view.emb y
      = (ix3 (grid0.coords t 0 : Fin 2) (⟨(y 1).val, h1⟩ : Fin 16) (col (grid0.coords t 1) ⟨(y 2).val, h2⟩) : S2x16x6144.Idx) := by
    unfold col; blk_ext [idx t]
  rw [he]
  refine (congrArg (k0_pay1 (iblk m c 0 t) (iblk m c 1 t) (iblk m c 2 t)) hy).trans ?_
  rw [pay_apply, iblk2]
  exact congrArg₂ (· + ·) (Finset.sum_congr rfl fun e _ => by rw [iblk0, iblk1]; rfl) rfl
end

/-- Over the extended reals the modulation's kernel and its reference end with equal results. -/
theorem algebraic : @Cert.algebraic_Kernel5Ideal_Reference5Ideal Cert.Kernel5Ideal.Gen.facts Cert.Reference5Ideal.Gen.facts := by
  intro m g m' g' hp ha
  refine ⟨fun c => whole (m ((c.tc : Thread nD τ).loc main_arg0)) (m ((c.tc : Thread nD τ).loc main_arg1)) (m ((c.tc : Thread nD τ).loc main_arg2))
      (m ((c.tc : Thread nD τ).loc main_arg3)), ?_, ?_⟩
  · refine (θ_run defs _ _).mono (fun r h c => ⟨(h c).1.trans ?_, (h c).2⟩) (Cert.Kernel5Ideal.Value.run_blocks m g)
    exact arr_eq m c
  · refine (θ_run Cert.Reference5Ideal.defs _ _).mono (fun r h c => ⟨(h c).1.trans ?_, (h c).2⟩) (Cert.Reference5Ideal.Value.run m' g')
    obtain ⟨a0, a1, a2, a3⟩ := ha c
    rw [Cert.Reference5Ideal.Read.val_main_v23_eq, a0, a1, a2, a3]
    exact ref_eq _ _ _ _

/-- The reference runs, keeps its arguments and ends with every counter at zero. -/
theorem frame_ref : @Cert.quiescent_Reference5Ideal Cert.Reference5Ideal.Gen.facts := fun m g _ =>
  (θ_run Cert.Reference5Ideal.defs _ _).mono (fun r h => ⟨fun c => (h c).2, sem_eq_zero_of_no_sems (by decide) r.2⟩) (Cert.Reference5Ideal.Value.run m g)

end Cert.NQ
end
-- ==== Proof.Ctx.lean ====
/- The context's attention: the kernel's payloads read at an index. -/
module
public import proofs.«01_k».proof.Proof.Head
public import proofs.«01_k».proof.Proof.Gen.Kernel6Ideal.Value
public import Idealize.ShloMosaic.Lib.Pipeline.ValueKit
public import Idealize.ShloMosaic.Lib.StableHlo.RunRead
public import Idealize.ShloMosaic.Lib.Pointwise
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NX
open Cert.Kernel6Ideal Cert.Kernel6Ideal.Gen

/-- The greatest score, from negative infinity on. -/
def ctop (T : Fin 256 → EReal) : EReal := Finset.fold max (Ideal.ofBits FTy.f32 4286578688#32) T Finset.univ

/-- The values weighted by the exponentials of the scores, times one over the weights' sum. -/
def catt (T W : Fin 256 → EReal) : EReal :=
  (∑ x, Ideal.exp (T x - ctop T) * W x) * Ideal.div 1 (∑ x, Ideal.exp (T x - ctop T))

/-- One head at one query row. -/
def chead (lo hi : BitVec 32) (q : Fin 256 → EReal) (k : Fin 256 → Fin 256 → EReal) (W : Fin 256 → EReal) : EReal :=
  catt (fun i => Cert.NA.score lo hi q (k i)) W

section
variable (x0 x1 x2 : Vec Ideal S1x256x256 .bf16) (r l : Fin 256)

/-- One head kept on its own lanes. -/
def lane (lo hi : BitVec 32) : EReal :=
  Scalar.select (Cert.NA.lanes lo hi l) (chead lo hi (fun x => x0 (ix3 0 r x)) (fun k x => x1 (ix3 0 k x)) (fun k => x2 (ix3 0 k l))) 0

/-- The first head's payload at an index. -/
theorem pay5_apply : k0_pay5 x0 x1 x2 (ix2 r l) = lane x0 x1 x2 r l 0#32 64#32 := by
  pointwise [k0_pay5, k0_pay2, k0_pay3, k0_pay4, lane, chead, catt, ctop, Cert.NA.score, Cert.NA.lanes]
/-- The second head's payload at an index. -/
theorem pay6_apply (o : FVec Ideal S256x256 .f32) : k0_pay6 (k0_pay2 x0) (k0_pay3 x1) (k0_pay4 x2) (iota .tc S1x256 32 [1] iota_S1x256_d1_w32) o 64#32 (ix2 r l)
    = o (ix2 r l) + lane x0 x1 x2 r l 64#32 128#32 := by
  pointwise [k0_pay6, k0_pay2, k0_pay3, k0_pay4, lane, chead, catt, ctop, Cert.NA.score, Cert.NA.lanes]
/-- The third and fourth heads' payloads at an index. -/
theorem pay10_apply (o : FVec Ideal S256x256 .f32) : k0_pay1 (k0_pay10 (k0_pay2 x0) (k0_pay3 x1) (k0_pay4 x2) (iota .tc S1x256 32 [1] iota_S1x256_d1_w32) o
      (k0_pay7 (iota .tc S1x256 32 [1] iota_S1x256_d1_w32)) (k0_pay8 (k0_pay2 x0) (k0_pay3 x1) (iota .tc S1x256 32 [1] iota_S1x256_d1_w32))
      (k0_pay9 (k0_pay2 x0) (k0_pay3 x1) (iota .tc S1x256 32 [1] iota_S1x256_d1_w32))) (ix3 0 r l)
    = o (ix2 r l) + lane x0 x1 x2 r l 128#32 192#32 + lane x0 x1 x2 r l 192#32 256#32 := by
  pointwise [k0_pay1, k0_pay10, k0_pay9, k0_pay8, k0_pay7, k0_pay2, k0_pay3, k0_pay4, lane, chead, catt, ctop, Cert.NA.score, Cert.NA.lanes]
end
end Cert.NX
end
-- ==== Proof.CtxF.lean ====
/- The context's attention: the kernel's block, its whole result, the reference and the claim. -/
module
public import proofs.«01_k».proof.Defs
public import proofs.«01_k».proof.Proof.Ctx
public import proofs.«01_k».proof.Proof.Equal
public import proofs.«01_k».proof.Proof.Final
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim
public import Idealize.ShloMosaic.Lib.Pipeline.ValueKit
public import Idealize.ShloMosaic.Lib.StableHlo.RunRead
public import Idealize.ShloMosaic.Lib.Pointwise
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NX
open Cert.Kernel6Ideal Cert.Kernel6Ideal.Gen

/-- The output block at a row and a lane: the four heads, each kept on its own lanes, summed. -/
def block (x0 x1 x2 : Vec Ideal S1x256x256 .bf16) (r l : Fin 256) : EReal :=
  lane x0 x1 x2 r l 0#32 64#32 + lane x0 x1 x2 r l 64#32 128#32 + lane x0 x1 x2 r l 128#32 192#32 + lane x0 x1 x2 r l 192#32 256#32

theorem hz3 : (![0, 0, 0] : Fin 3 → Nat) = fun _ => 0 := funext fun a => by fin_cases a <;> rfl
/-- What the body leaves in the output's block. -/
theorem out_apply (x0 x1 x2 : Vec Ideal S1x256x256 .bf16) (r l : Fin 256) : out0_3 x0 x1 x2 (ix3 0 r l) = block x0 x1 x2 r l := by
  have h : out0_3 x0 x1 x2 = k0_pay1 (k0_pay10 (k0_pay2 x0) (k0_pay3 x1) (k0_pay4 x2) (iota .tc S1x256 32 [1] iota_S1x256_d1_w32)
      (k0_pay6 (k0_pay2 x0) (k0_pay3 x1) (k0_pay4 x2) (iota .tc S1x256 32 [1] iota_S1x256_d1_w32) (k0_pay5 x0 x1 x2) 64#32)
      (k0_pay7 (iota .tc S1x256 32 [1] iota_S1x256_d1_w32)) (k0_pay8 (k0_pay2 x0) (k0_pay3 x1) (iota .tc S1x256 32 [1] iota_S1x256_d1_w32))
      (k0_pay9 (k0_pay2 x0) (k0_pay3 x1) (iota .tc S1x256 32 [1] iota_S1x256_d1_w32))) := by
    frame_out
    unfold k0_pay14 k0_pay13 k0_pay12 k0_pay11
    rw [show View.ld x0 r0_0 = x0 from View.ld_unit_zero hz3 _ x0, show View.ld x1 r0_0 = x1 from View.ld_unit_zero hz3 _ x1, show View.ld x2 r0_0 = x2 from View.ld_unit_zero hz3 _ x2]
  rw [h, pay10_apply, pay6_apply, pay5_apply]
  rfl

/-- At a lane of head `n` a block is that head. -/
theorem block_eq (x0 x1 x2 : Vec Ideal S1x256x256 .bf16) (r l : Fin 256) (n : Fin 4) (hn : l.val / 64 = n.val) :
    block x0 x1 x2 r l = chead (Cert.NA.loN n) (Cert.NA.hiN n) (fun x => x0 (ix3 0 r x)) (fun k x => x1 (ix3 0 k x)) (fun k => x2 (ix3 0 k l)) := by
  have h (i : Fin 4) : Cert.NA.lanes (Cert.NA.loN i) (Cert.NA.hiN i) l = if n = i then 1#1 else 0#1 := by
    rw [Cert.NA.lanes_fact, hn]; simp only [Fin.ext_iff]
  have h0 := h 0
  have h1 := h 1
  have h2 := h 2
  have h3 := h 3
  rw [show Cert.NA.loN 0 = 0#32 from rfl, show Cert.NA.hiN 0 = 64#32 from rfl] at h0
  rw [show Cert.NA.loN 1 = 64#32 from rfl, show Cert.NA.hiN 1 = 128#32 from rfl] at h1
  rw [show Cert.NA.loN 2 = 128#32 from rfl, show Cert.NA.hiN 2 = 192#32 from rfl] at h2
  rw [show Cert.NA.loN 3 = 192#32 from rfl, show Cert.NA.hiN 3 = 256#32 from rfl] at h3
  unfold block lane
  rw [h0, h1, h2, h3]
  have s1 (a : EReal) : Scalar.select 1#1 a 0 = a := rfl
  have s0 (a : EReal) : Scalar.select 0#1 a 0 = 0 := rfl
  clear h h0 h1 h2 h3
  fin_cases n <;> simp [s1, s0] <;> rfl

/-- Dividing once at the end is dividing every weight, where the scores are real numbers. -/
theorem catt_eq (T W : Fin 256 → EReal) (hT : ∀ k, ∃ p : ℝ, T k = (p : EReal)) {M L : EReal}
    (hM : M = max (Ideal.ofBits FTy.f32 4286578688#32) (Finset.fold max (Ideal.ofBits FTy.f32 4286578688#32) T Finset.univ))
    (hL : L = ∑ k, Ideal.exp (T k - M)) : catt T W = ∑ k, Ideal.div (Ideal.exp (T k - M)) L * W k := by
  have hM' : M = Finset.univ.sup T := by rw [hM, Cert.NA.fold_eq, Cert.NA.negInf_eq, max_eq_right bot_le]
  have htop : ctop T = M := by rw [hM', ctop, Cert.NA.fold_eq]
  have hMt : M ≠ ⊤ := by
    rw [hM']
    exact ((Finset.sup_lt_iff (by simp)).2 fun k _ => by obtain ⟨p, ep⟩ := hT k; rw [ep]; exact EReal.coe_lt_top p).ne
  have hMb : M ≠ ⊥ := by
    intro h
    obtain ⟨p, ep⟩ := hT 0
    have h1 : T 0 ≤ M := hM' ▸ Finset.le_sup (f := T) (Finset.mem_univ 0)
    rw [h, ep] at h1
    exact EReal.coe_ne_bot p (le_bot_iff.1 h1)
  clear hM hM'
  lift M to ℝ using ⟨hMt, hMb⟩
  have hp (k) : ∃ p : ℝ, 0 < p ∧ Ideal.exp (T k - (M : EReal)) = (p : EReal) := by
    obtain ⟨p, ep⟩ := hT k
    exact ⟨Real.exp (p - M), Real.exp_pos _, by rw [ep, ← EReal.coe_sub]; rfl⟩
  obtain ⟨l, hl0, hl⟩ : ∃ l : ℝ, 0 < l ∧ L = (l : EReal) := by
    obtain ⟨b, hb, eb⟩ := Cert.NA.sum_real Finset.univ (fun k => Ideal.exp (T k - (M : EReal))) fun k => (hp k).imp fun p h => ⟨h.1.le, h.2⟩
    refine ⟨b, ?_, by rw [hL, eb]⟩
    obtain ⟨p, hp0, ep⟩ := hp 0
    have h2 : Ideal.exp (T 0 - (M : EReal)) ≤ ∑ k, Ideal.exp (T k - (M : EReal)) :=
      Finset.single_le_sum (f := fun k => Ideal.exp (T k - (M : EReal))) (fun k _ => by
        obtain ⟨p, hp, ep⟩ := hp k
        simp only [ep]; exact_mod_cast hp.le) (Finset.mem_univ 0)
    rw [eb, ep] at h2
    exact hp0.trans_le (EReal.coe_le_coe_iff.1 h2)
  have hl' : L ≠ 0 := by rw [hl]; exact_mod_cast hl0.ne'
  have hinv : L⁻¹ = ((l⁻¹ : ℝ) : EReal) := by rw [hl, EReal.coe_inv]
  have h0 : 0 ≤ L⁻¹ := by rw [hinv]; exact_mod_cast (inv_pos.2 hl0).le
  have ht : L⁻¹ ≠ ⊤ := by rw [hinv]; exact EReal.coe_ne_top _
  have hd (x : EReal) : Ideal.div x L = x * L⁻¹ := by rw [Ideal.div, if_neg hl']
  rw [catt, htop, ← hL]
  simp only [hd, one_mul]
  rw [Cert.NA.sum_mul_real _ _ h0 ht]
  exact Finset.sum_congr rfl fun _ _ => mul_right_comm _ _ _

/-- A batch's queries, keys and values as the kernel's blocks. -/
def qb (x : Vec Ideal S8x256x2048 .bf16) (b : Fin 8) : Vec Ideal S1x256x256 .bf16 := fun i => x (ix3 b (i 1) ⟨(i 2).val, by have : (i 2).val < 256 := (i 2).isLt; omega⟩)
def kb (x : Vec Ideal S8x256x2048 .bf16) (b : Fin 8) : Vec Ideal S1x256x256 .bf16 := fun i => x (ix3 b (i 1) ⟨256 + (i 2).val, by have : (i 2).val < 256 := (i 2).isLt; omega⟩)
def vb (x : Vec Ideal S8x256x2048 .bf16) (b : Fin 8) : Vec Ideal S1x256x256 .bf16 := fun i => x (ix3 b (i 1) ⟨512 + (i 2).val, by have : (i 2).val < 256 := (i 2).isLt; omega⟩)

/-- The result from the argument. -/
def whole (x : Vec Ideal S8x256x2048 .bf16) : S8x256x256.Idx → EReal := fun i => block (qb x (i 0)) (kb x (i 0)) (vb x (i 0)) (i 1) (i 2)

section
variable (m : (ℓ : Loc nD τ sig) → Buf (Elt Ideal) ℓ) (c : Dev nD)

/-- The block each window is on at a grid point. -/
theorem idx : ∀ t : Fin cfg0.N, win0_0.index t = ![(grid0.coords t 0).val, 0, 0] ∧ win0_1.index t = ![(grid0.coords t 0).val, 0, 1]
    ∧ win0_2.index t = ![(grid0.coords t 0).val, 0, 2] ∧ win0_3.index t = ![(grid0.coords t 0).val, 0, 0] :=
  (by decide +kernel : ∀ t : Fin grid0.N, win0_0.index t = ![(grid0.coords t 0).val, 0, 0] ∧ win0_1.index t = ![(grid0.coords t 0).val, 0, 1]
    ∧ win0_2.index t = ![(grid0.coords t 0).val, 0, 2] ∧ win0_3.index t = ![(grid0.coords t 0).val, 0, 0])

theorem split (y : S1x256x256.Idx) : ∃ r l : Fin 256, y = ix3 0 r l :=
  ⟨y 1, y 2, by funext a; apply Fin.ext; fin_cases a; · (have : (y 0).val < 1 := (y 0).isLt); show (y 0).val = 0; omega
                · rfl
                · rfl⟩
theorem iblk0 (t : Fin cfg0.N) : iblk m c 0 t = qb (m ((c : Thread nD τ).loc main_arg0)) (grid0.coords t 0 : Fin 8) := by
  funext y
  obtain ⟨r, l, rfl⟩ := split y
  have h2 : iblk m c 0 t (ix3 0 r l) = V m c main_arg0 (ix3 (grid0.coords t 0 : Fin 8) r ⟨l.val, by omega⟩) := by blk_ext [iblk, idx t]
  exact h2.trans (congrFun (V_main_arg0 m c) _)
theorem iblk1 (t : Fin cfg0.N) : iblk m c 1 t = kb (m ((c : Thread nD τ).loc main_arg0)) (grid0.coords t 0 : Fin 8) := by
  funext y
  obtain ⟨r, l, rfl⟩ := split y
  have h2 : iblk m c 1 t (ix3 0 r l) = V m c main_arg0 (ix3 (grid0.coords t 0 : Fin 8) r ⟨256 + l.val, by omega⟩) := by blk_ext [iblk, idx t]
  exact h2.trans (congrFun (V_main_arg0 m c) _)
theorem iblk2 (t : Fin cfg0.N) : iblk m c 2 t = vb (m ((c : Thread nD τ).loc main_arg0)) (grid0.coords t 0 : Fin 8) := by
  funext y
  obtain ⟨r, l, rfl⟩ := split y
  have h2 : iblk m c 2 t (ix3 0 r l) = V m c main_arg0 (ix3 (grid0.coords t 0 : Fin 8) r ⟨512 + l.val, by omega⟩) := by blk_ext [iblk, idx t]
  exact h2.trans (congrFun (V_main_arg0 m c) _)

/-- The result array after the run. -/
theorem arr_eq : (dats m 0 c).arrAt 3 cfg0.N = whole (m ((c : Thread nD τ).loc main_arg0)) := by
  refine (dats m 0 c).arrAt_eq_of_covers 3 _ (by decide +kernel) fun t hf y => ?_
  blk_simp
  rw [after0_3]
  have h0 : (y 0).val < 1 := (y 0).isLt
  have h1 : (y 1).val < 256 := (y 1).isLt
  have h2 : (y 2).val < 256 := (y 2).isLt
  have hy : (cfg0.win 3).xinj (cfg0.grid.coords t) y = ix3 0 ⟨(y 1).val, h1⟩ ⟨(y 2).val, h2⟩ := by
    funext a; apply Fin.ext; fin_cases a
    · show (y 0).val = 0; omega
    · rfl
    · rfl
  have he : ((cfg0.win 3).blk t).view.emb y
      = (ix3 (grid0.coords t 0 : Fin 8) (⟨(y 1).val, h1⟩ : Fin 256) (⟨(y 2).val, h2⟩ : Fin 256) : S8x256x256.Idx) := by
    blk_ext [idx t]
  rw [he]
  refine (congrArg (out0_3 (iblk m c 0 t) (iblk m c 1 t) (iblk m c 2 t)) hy).trans ?_
  rw [out_apply, iblk0, iblk1, iblk2]
  rfl
end

section
open Cert.Reference6Ideal.Read
variable (x : Vec Ideal S8x256x2048 .bf16) (b : Fin 8) (n : Fin 4) (r k : Fin 256) (d : Fin 64)
/-- The reference's scores. -/
theorem ref_s : val_main_v12 (F := Ideal) x (ix4 b n r k) = Cert.NR.dotp n (fun y => x (ix3 b r y)) (fun y => x (ix3 b k y)) := by
  unfold Cert.NR.dotp
  pointwise [val_main_v12, val_main_v11, val_main_v10, val_main_v9, val_main_v8, val_main_v5, val_main_v4, val_main_v2, val_main_v1, val_main_v0, val_main_cst]
/-- The greatest of the reference's scores of a row. -/
def rtop : EReal := max (Ideal.ofBits FTy.f32 4286578688#32)
  (Finset.fold max (Ideal.ofBits FTy.f32 4286578688#32) (fun j => val_main_v12 (F := Ideal) x (ix4 b n r j)) Finset.univ)
/-- The reference's result. -/
theorem ref_o (l : Fin 256) (n : Fin 4) (hn : n = ⟨l.val / 64, by omega⟩) : val_main_v27 (F := Ideal) x (ix3 b r l)
    = ∑ k : Fin 256, Ideal.div (Ideal.exp (val_main_v12 (F := Ideal) x (ix4 b n r k) - rtop x b n r)) (∑ k : Fin 256, Ideal.exp (val_main_v12 (F := Ideal) x (ix4 b n r k) - rtop x b n r))
        * x (ix3 b k ⟨512 + l.val, by omega⟩) := by
  subst hn
  unfold rtop
  pointwise [val_main_v27, val_main_v26, val_main_v25, val_main_v24, val_main_v23, val_main_v22, val_main_v21, val_main_v20, val_main_v19, val_main_v18, val_main_v17, val_main_v16, val_main_v15, val_main_v14, val_main_v13, val_main_v7, val_main_v6, val_main_v3, val_main_v0, val_main_cst_0, val_main_cst_1, val_main_cst_2]

/-- The kernel's result and the reference's are equal where queries and keys are finite. -/
theorem whole_at (hx : ∀ b L y, y.val < 512 → ∃ p : ℝ, x (ix3 b L y) = (p : EReal)) (l : Fin 256) :
    whole x (ix3 b r l) = val_main_v27 (F := Ideal) x (ix3 b r l) := by
  rw [ref_o x b r l ⟨l.val / 64, by omega⟩ rfl]
  show block (qb x b) (kb x b) (vb x b) r l = _
  rw [block_eq _ _ _ _ _ ⟨l.val / 64, by omega⟩ rfl, chead]
  have hs (k : Fin 256) : Cert.NA.score (Cert.NA.loN ⟨l.val / 64, by omega⟩) (Cert.NA.hiN ⟨l.val / 64, by omega⟩) (fun y => qb x b (ix3 0 r y)) (fun y => kb x b (ix3 0 k y))
      = val_main_v12 (F := Ideal) x (ix4 b ⟨l.val / 64, by omega⟩ r k) := by
    rw [Cert.NA.score_eq, ref_s]; rfl
  simp only [hs]
  refine catt_eq _ _ (fun k => ?_) rfl rfl
  rw [ref_s]
  exact Cert.NA.dotp_real _ _ _ (fun y h => hx _ _ y h) (fun y _ h => hx _ _ y h)
end

/-- The condition's shape relations. -/
theorem finite_facts : Cert.Pre_finite_ctx.Facts := ⟨by decide, by decide⟩

section
attribute [local instance] finite_facts
/-- Under the condition every query and key is a real number. -/
theorem real_x {x : FVec Ideal Cert.Pre_finite_ctx.S8x256x2048 .bf16} (h : Cert.Pre_finite_ctx.fn (F := Ideal) x = fun _ => 1#1) (b : Fin 8) (L : Fin 256) (y : Fin 2048) (hy : y.val < 512) :
    ∃ p : ℝ, x (ix3 b L y) = (p : EReal) := by
  have h' := congrFun h (ix3 b L ⟨y.val, hy⟩)
  unfold Cert.Pre_finite_ctx.fn at h'
  have e : x (ix3 b L y) = extractStridedSlice Cert.Pre_finite_ctx.S8x256x512 ![0, 0, 0] x Cert.Pre_finite_ctx.Facts.slices_S8x256x2048_S8x256x512_0_0_0 (ix3 b L ⟨y.val, hy⟩) := by
    pointwise
    try exact congrArg (fun z => x (ix3 b L z)) (Fin.ext (by show y.val = 0 + y.val; omega))
  rw [e]
  exact Cert.NA.real_of_lt h'
end

/-- Over the extended reals the context's kernel and its reference end with equal results where the condition holds. -/
theorem algebraic : @Cert.algebraic_Kernel6Ideal_Reference6Ideal_pre_finite_ctx Cert.Kernel6Ideal.Gen.facts Cert.Reference6Ideal.Gen.facts finite_facts := by
  intro m g m' g' hp ha
  refine ⟨fun c => whole (m ((c.tc : Thread nD τ).loc main_arg0)), ?_, ?_⟩
  · refine (θ_run defs _ _).mono (fun r h c => ⟨(h c).1.trans ?_, (h c).2⟩) (Cert.Kernel6Ideal.Value.run_blocks m g)
    exact arr_eq m c
  · refine (θ_run Cert.Reference6Ideal.defs _ _).mono (fun r h c => ⟨(h c).1.trans ?_, (h c).2⟩) (Cert.Reference6Ideal.Value.run m' g')
    have a0 := ha c
    have p0 := hp c
    rw [Cert.Reference6Ideal.Read.val_main_v27_eq, a0]
    funext i
    obtain ⟨b, r, l, rfl⟩ : ∃ (b : Fin 8) (r l : Fin 256), i = ix3 b r l := ⟨i 0, i 1, i 2, by funext d; fin_cases d <;> rfl⟩
    exact (whole_at _ b r (real_x p0) l).symm

/-- The reference runs, keeps its argument and ends with every counter at zero. -/
theorem frame_ref : @Cert.quiescent_Reference6Ideal Cert.Reference6Ideal.Gen.facts := fun m g _ =>
  (θ_run Cert.Reference6Ideal.defs _ _).mono (fun r h => ⟨fun c => (h c).2, sem_eq_zero_of_no_sems (by decide) r.2⟩) (Cert.Reference6Ideal.Value.run m g)
/-- The same under the condition. -/
theorem frame_ref_fin : @Cert.quiescent_Reference6Ideal_pre_finite_ctx Cert.Reference6Ideal.Gen.facts finite_facts := fun m g _ =>
  (θ_run Cert.Reference6Ideal.defs _ _).mono (fun r h => ⟨fun c => (h c).2, sem_eq_zero_of_no_sems (by decide) r.2⟩) (Cert.Reference6Ideal.Value.run m g)

end Cert.NX
end
-- ==== Proof.ChanT.lean ====
/- The channel transform's tables, as the host operations before the call compute them. -/
module
public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim
public import Idealize.ShloMosaic.Lib.Pipeline.ValueKit
public import Idealize.ShloMosaic.Lib.StableHlo.RunRead
public import Idealize.ShloMosaic.Lib.Pointwise
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NC
open Cert.Kernel7Ideal Cert.Kernel7Ideal.Gen

/-- The identity of the heads. -/
def eye : FVec Ideal S4x4 .f32 :=
  uitofp .f32 (cmpi .eq (addi (iotaInDim S4x4 32 0) (broadcastInDim S4x4 ![] bcast_S_S4x4 (constantI S_ 32 0#32))) (iotaInDim S4x4 32 1))
/-- A table of one head repeated on the diagonal. -/
def kron (a : FVec Ideal S64x64 .f32) : FVec Ideal S256x256 .bf16 :=
  truncf .bf16 (shapeCast S256x256 (mulf
    (broadcastInDim S4x64x4x64 ![0, 1, 2, 3] bcast_S4x1x4x1_S4x64x4x64_0_1_2_3 (broadcastInDim S4x1x4x1 ![0, 2] bcast_S4x4_S4x1x4x1_0_2 eye))
    (broadcastInDim S4x64x4x64 ![0, 1, 2, 3] bcast_S1x64x1x64_S4x64x4x64_0_1_2_3 (broadcastInDim S1x64x1x64 ![1, 3] bcast_S64x64_S1x64x1x64_1_3 a)))
    shapeCasts_S4x64x4x64_S256x256) bitsLt_bf16_f32
theorem uito (a b : ℕ) (ha : a < 2 ^ 32) (hb : b < 2 ^ 32) :
    (FloatOps.uitofp FTy.f32 (IntOp.cmpi CmpIPredicate.eq (IntOp.addi (BitVec.ofNat 32 a) 0#32) (BitVec.ofNat 32 b)) : Ideal .f32)
      = if a = b then (1 : EReal) else 0 := by
  have e : IntOp.addi (BitVec.ofNat 32 a) 0#32 = BitVec.ofNat 32 a := BitVec.add_zero _
  rw [e]
  by_cases h : a = b
  · subst h
    rw [if_pos rfl]
    show (((BitVec.ofBool (BitVec.ofNat 32 a == BitVec.ofNat 32 a)).toNat : ℝ) : EReal) = 1
    simp
  · rw [if_neg h]
    have hne : BitVec.ofNat 32 a ≠ BitVec.ofNat 32 b := fun hh => h (by
      have := congrArg BitVec.toNat hh
      rwa [BitVec.toNat_ofNat, BitVec.toNat_ofNat, Nat.mod_eq_of_lt ha, Nat.mod_eq_of_lt hb] at this)
    show (((BitVec.ofBool (BitVec.ofNat 32 a == BitVec.ofNat 32 b)).toNat : ℝ) : EReal) = 0
    rw [beq_false_of_ne hne]
    simp
/-- The repeated table is the one head's table where the two lanes are of one head, and zero elsewhere. -/
theorem kron_apply (a : FVec Ideal S64x64 .f32) (p q : Fin 256) :
    kron a (ix2 p q) = (if p.val / 64 = q.val / 64 then (1 : EReal) else 0) * a (ix2 ⟨p.val % 64, by omega⟩ ⟨q.val % 64, by omega⟩) := by
  rw [← uito (p.val / 64) (q.val / 64) (by omega) (by omega)]
  pointwise [kron, eye]

/-- A product with the repeated table sums over the lanes of the column's own head. -/
theorem sum_kron (a : FVec Ideal S64x64 .f32) (z : Fin 256 → EReal) (n : Fin 256) :
    (∑ x, z x * kron a (ix2 x n)) = ∑ x : Fin 64, z ⟨n.val / 64 * 64 + x.val, by omega⟩ * a (ix2 x ⟨n.val % 64, by omega⟩) := by
  rw [← Equiv.sum_comp (finProdFinEquiv (m := 4) (n := 64)) fun x : Fin 256 => z x * kron a (ix2 x n), Fintype.sum_prod_type,
    Finset.sum_eq_single (⟨n.val / 64, by omega⟩ : Fin 4) (fun h _ hne => ?_) fun h => absurd (Finset.mem_univ _) h]
  · refine Finset.sum_congr rfl fun x _ => ?_
    have hv : (finProdFinEquiv ((⟨n.val / 64, by omega⟩ : Fin 4), x) : Fin 256).val = x.val + 64 * (n.val / 64) := rfl
    rw [kron_apply, if_pos (by rw [hv]; omega), one_mul]
    refine congrArg₂ (· * ·) (congrArg z (Fin.ext (by rw [hv]; show _ = n.val / 64 * 64 + x.val; omega))) (congrArg a (congrArg (ix2 · _) (Fin.ext ?_)))
    show (finProdFinEquiv ((⟨n.val / 64, by omega⟩ : Fin 4), x) : Fin 256).val % 64 = x.val
    rw [hv]; omega
  · refine Finset.sum_eq_zero fun x _ => ?_
    have hv : (finProdFinEquiv (h, x) : Fin 256).val = x.val + 64 * h.val := rfl
    have hh : h.val ≠ n.val / 64 := fun e => hne (Fin.ext e)
    rw [kron_apply, if_neg (by rw [hv]; omega), zero_mul, mul_zero]

section
variable (m : (ℓ : Loc nD τ sig) → Buf (Elt Ideal) ℓ) (c : Dev nD)
theorem tabc : V m c main_v18 = kron (Cert.Reference7Ideal.Read.val_main_v13 (F := Ideal)) := by
  unfold_abbrev_sides
  simp only [List.flatten_cons, List.flatten_nil, List.append_nil, List.cons_append, List.nil_append, TRef.binary, TRef.ternary, TRef.unary, TRef.reshape, TRef.toBuf, TRef.ofBuf, cast_eq, id]
  after_reads_simp
  rfl
theorem tabs : V m c main_v21 = kron (Cert.Reference7Ideal.Read.val_main_v16 (F := Ideal)) := by
  unfold_abbrev_sides
  simp only [List.flatten_cons, List.flatten_nil, List.append_nil, List.cons_append, List.nil_append, TRef.binary, TRef.ternary, TRef.unary, TRef.reshape, TRef.toBuf, TRef.ofBuf, cast_eq, id]
  after_reads_simp
  rfl
end
end Cert.NC
end
-- ==== Proof.Chan.lean ====
/- The channel transform's product: the kernel's block, its whole result, the reference and the claim. -/
module
public import proofs.«01_k».proof.Proof.ChanT
public import Idealize.ShloMosaic.Lib.Claim
public import Idealize.ShloMosaic.Lib.Pipeline.ValueKit
public import Idealize.ShloMosaic.Lib.StableHlo.RunRead
public import Idealize.ShloMosaic.Lib.Pointwise
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NC
open Cert.Kernel7Ideal Cert.Kernel7Ideal.Gen

/-- A number held between the narrow format's bounds. -/
def clip (a : EReal) : EReal := min (Ideal.ofBits FTy.f32 1138753536#32) (max (Ideal.ofBits FTy.f32 3286237184#32) a)

theorem pay2_apply (v0 : Vec Ideal S1x4096x256 .bf16) (v2 : Vec Ideal S256x256 .bf16) (r : Fin 4096) (n : Fin 256) :
    k0_pay2 v0 v2 (ix3 0 r n) = clip (∑ x, v0 (ix3 0 r x) * v2 (ix2 x n)) := by
  pointwise [k0_pay2, k0_pay1, clip]
theorem pay3_apply (v0 : Vec Ideal S1x4096x256 .bf16) (v2 : Vec Ideal S256x256 .bf16) (r : Fin 4096) (n : Fin 256) :
    k0_pay3 v0 v2 (ix3 0 r n) = clip (0 - ∑ x, v0 (ix3 0 r x) * v2 (ix2 x n)) := by
  pointwise [k0_pay3, k0_pay1, clip]

/-- The output block: the rows' real halves above their imaginary halves. -/
def blk (x0 : Vec Ideal S1x4096x256 .bf16) (x1 x2 : Vec Ideal S256x256 .bf16) : S1x8192x256.Idx → EReal := fun i =>
  clip (if h : (i 1).val < 4096 then ∑ x, x0 (ix3 0 ⟨(i 1).val, h⟩ x) * x1 (ix2 x (i 2))
    else 0 - ∑ x, x0 (ix3 0 ⟨(i 1).val - 4096, by have h : (i 1).val < 8192 := (i 1).isLt; omega⟩ x) * x2 (ix2 x (i 2)))

theorem hz2 : (![0, 0] : Fin 2 → Nat) = fun _ => 0 := funext fun a => by fin_cases a <;> rfl
theorem hz3 : (![0, 0, 0] : Fin 3 → Nat) = fun _ => 0 := funext fun a => by fin_cases a <;> rfl

/-- The two stores leave the block. -/
theorem out_apply (x0 : Vec Ideal S1x4096x256 .bf16) (x1 x2 : Vec Ideal S256x256 .bf16) (y : S1x8192x256.Idx) : out0_3 x0 x1 x2 y = blk x0 x1 x2 y := by
  unfold out0_3
  rw [show View.ld x0 r0_0 = x0 from View.ld_unit_zero hz3 _ x0, show View.ld x1 r0_1 = x1 from View.ld_unit_zero hz2 _ x1, show View.ld x2 r0_1 = x2 from View.ld_unit_zero hz2 _ x2]
  refine View.canon_apply_of_pieces (Val := Elt Ideal) _ _ (fun p hp => ?_) y (cover0_3 _ _ y)
  rcases List.mem_cons.1 hp with rfl | hp
  · intro x
    obtain ⟨r, n, rfl⟩ : ∃ (r : Fin 4096) (n : Fin 256), x = (ix3 0 r n : S1x4096x256.Idx) :=
      ⟨x 1, x 2, by funext d; fin_cases d; exacts [Subsingleton.elim (α := Fin 1) _ _, rfl, rfl]⟩
    have h1 : (r0_3.emb (ix3 0 r n : S1x4096x256.Idx) 1).val = 4096 + r.val := ValueKit.rect_emb_unit_val _ _ _ _ _
    have h2 : r0_3.emb (ix3 0 r n : S1x4096x256.Idx) 2 = n := Fin.ext ((ValueKit.rect_emb_unit_val _ _ _ _ _).trans (Nat.zero_add _))
    refine (pay3_apply x0 x2 r n).trans (congrArg clip ?_)
    rw [dif_neg (by rw [h1]; omega), h2]
    refine congrArg (0 - ·) (Finset.sum_congr rfl fun x _ => congrArg (· * _) (congrArg (fun r => x0 (ix3 0 r x)) (Fin.ext ?_)))
    show r.val = (r0_3.emb (ix3 0 r n : S1x4096x256.Idx) 1).val - 4096
    rw [h1]; omega
  · obtain rfl := List.mem_singleton.1 hp
    intro x
    obtain ⟨r, n, rfl⟩ : ∃ (r : Fin 4096) (n : Fin 256), x = (ix3 0 r n : S1x4096x256.Idx) :=
      ⟨x 1, x 2, by funext d; fin_cases d; exacts [Subsingleton.elim (α := Fin 1) _ _, rfl, rfl]⟩
    have h1 : (r0_2.emb (ix3 0 r n : S1x4096x256.Idx) 1).val = r.val := (ValueKit.rect_emb_unit_val _ _ _ _ _).trans (Nat.zero_add _)
    have h2 : r0_2.emb (ix3 0 r n : S1x4096x256.Idx) 2 = n := Fin.ext ((ValueKit.rect_emb_unit_val _ _ _ _ _).trans (Nat.zero_add _))
    refine (pay2_apply x0 x1 r n).trans (congrArg clip ?_)
    rw [dif_pos (by rw [h1]; exact r.isLt), h2]
    refine Finset.sum_congr rfl fun x _ => congrArg (· * _) (congrArg (fun r => x0 (ix3 0 r x)) (Fin.ext ?_))
    exact h1.symm

/-- One head's transform by a table, at a token and a lane of the group. -/
def dft (y : Vec Ideal S8x4096x2048 .bf16) (t : FVec Ideal S64x64 .f32) (b : Fin 8) (r : Fin 4096) (n : Fin 256) : EReal :=
  ∑ x : Fin 64, y (ix3 b r ⟨1536 + (n.val / 64 * 64 + x.val), by omega⟩) * t (ix2 x ⟨n.val % 64, by omega⟩)

/-- The result from the argument. -/
def whole (y : Vec Ideal S8x4096x2048 .bf16) : S8x8192x256.Idx → EReal := fun i =>
  clip (if h : (i 1).val < 4096 then dft y (Cert.Reference7Ideal.Read.val_main_v13 (F := Ideal)) (i 0) ⟨(i 1).val, h⟩ (i 2)
    else -dft y (Cert.Reference7Ideal.Read.val_main_v16 (F := Ideal)) (i 0) ⟨(i 1).val - 4096, by have h : (i 1).val < 8192 := (i 1).isLt; omega⟩ (i 2))

section
open Cert.Reference7Ideal.Read
/-- The reference's result. -/
theorem ref_eq (y : Vec Ideal S8x4096x2048 .bf16) : val_main_v22 (F := Ideal) y = whole y := by
  funext i
  obtain ⟨b, L, n, rfl⟩ : ∃ (b : Fin 8) (L : Fin 8192) (n : Fin 256), i = ix3 b L n :=
    ⟨i 0, i 1, i 2, by funext d; fin_cases d <;> rfl⟩
  show _ = clip (if h : L.val < 4096 then dft y (val_main_v13 (F := Ideal)) b ⟨L.val, h⟩ n else -dft y (val_main_v16 (F := Ideal)) b ⟨L.val - 4096, _⟩ n)
  unfold clip dft
  pointwise [val_main_v22,val_main_v21,val_main_call1_v4,val_main_call1_v3,val_main_call1_v2,val_main_call1_v1,val_main_call1_v0,val_main_cst_1,val_main_cst_0,val_main_v20,val_main_v19,val_main_v18,val_main_v17,val_main_v15,val_main_v14,val_main_v2,val_main_v1,val_main_v0]
  rfl
end

section
variable (m : (ℓ : Loc nD τ sig) → Buf (Elt Ideal) ℓ) (c : Dev nD)

/-- The block each window is on at a grid point. -/
theorem idx : ∀ t : Fin cfg0.N, win0_0.index t = ![(grid0.coords t 0).val, 0, 6] ∧ win0_1.index t = ![0, 0]
    ∧ win0_2.index t = ![0, 0] ∧ win0_3.index t = ![(grid0.coords t 0).val, 0, 0] :=
  (by decide +kernel : ∀ t : Fin grid0.N, win0_0.index t = ![(grid0.coords t 0).val, 0, 6] ∧ win0_1.index t = ![0, 0]
    ∧ win0_2.index t = ![0, 0] ∧ win0_3.index t = ![(grid0.coords t 0).val, 0, 0])

theorem iblk0 (t : Fin cfg0.N) (r : Fin 4096) (x : Fin 256) :
    iblk m c 0 t (ix3 0 r x) = m ((c : Thread nD τ).loc main_arg0) (ix3 (grid0.coords t 0 : Fin 8) r (⟨1536 + x.val, by omega⟩ : Fin 2048)) := by
  have h2 : iblk m c 0 t (ix3 0 r x) = V m c main_arg0 (ix3 (grid0.coords t 0 : Fin 8) r (⟨1536 + x.val, by omega⟩ : Fin 2048)) := by
    blk_ext [iblk, idx t]
  exact h2.trans (congrFun (V_main_arg0 m c) _)
theorem iblk1 (t : Fin cfg0.N) (p q : Fin 256) : iblk m c 1 t (ix2 p q) = kron (Cert.Reference7Ideal.Read.val_main_v13 (F := Ideal)) (ix2 p q) := by
  have h2 : iblk m c 1 t (ix2 p q) = V m c main_v18 (ix2 p q) := by blk_ext [iblk, idx t]
  exact h2.trans (congrFun (tabc m c) _)
theorem iblk2 (t : Fin cfg0.N) (p q : Fin 256) : iblk m c 2 t (ix2 p q) = kron (Cert.Reference7Ideal.Read.val_main_v16 (F := Ideal)) (ix2 p q) := by
  have h2 : iblk m c 2 t (ix2 p q) = V m c main_v21 (ix2 p q) := by blk_ext [iblk, idx t]
  exact h2.trans (congrFun (tabs m c) _)

/-- The result array after the run. -/
theorem arr_eq : (dats m 0 c).arrAt 3 cfg0.N = whole (m ((c : Thread nD τ).loc main_arg0)) := by
  refine (dats m 0 c).arrAt_eq_of_covers 3 _ (by decide +kernel) fun t hf y => ?_
  blk_simp
  rw [after0_3]
  refine (out_apply _ _ _ _).trans ?_
  have h0 : (y 0).val < 1 := (y 0).isLt
  have h1 : (y 1).val < 8192 := (y 1).isLt
  have h2 : (y 2).val < 256 := (y 2).isLt
  have hy : (cfg0.win 3).xinj (cfg0.grid.coords t) y = ix3 0 ⟨(y 1).val, h1⟩ ⟨(y 2).val, h2⟩ := by
    funext a; apply Fin.ext; fin_cases a
    · show (y 0).val = 0; omega
    · rfl
    · rfl
  have he : ((cfg0.win 3).blk t).view.emb y
      = (ix3 (grid0.coords t 0 : Fin 8) (⟨(y 1).val, h1⟩ : Fin 8192) (⟨(y 2).val, h2⟩ : Fin 256) : S8x8192x256.Idx) := by
    blk_ext [idx t]
  rw [he]
  refine (congrArg (blk (iblk m c 0 t) (iblk m c 1 t) (iblk m c 2 t)) hy).trans (congrArg clip ?_)
  by_cases h : (y 1).val < 4096
  · refine (dif_pos h).trans (Eq.trans ?_ (dif_pos h).symm)
    refine Eq.trans (Finset.sum_congr rfl fun x _ => congrArg₂ (· * ·) (iblk0 m c t _ x) (iblk1 m c t x _)) ?_
    exact sum_kron _ (fun x => m ((c : Thread nD τ).loc main_arg0) (ix3 (grid0.coords t 0 : Fin 8) ⟨(y 1).val, h⟩ (⟨1536 + x.val, by omega⟩ : Fin 2048))) _
  · refine (dif_neg h).trans (Eq.trans ?_ (dif_neg h).symm)
    rw [zero_sub]
    refine congrArg (- ·) (Eq.trans (Finset.sum_congr rfl fun x _ => congrArg₂ (· * ·) (iblk0 m c t _ x) (iblk2 m c t x _)) ?_)
    exact sum_kron _ (fun x => m ((c : Thread nD τ).loc main_arg0) (ix3 (grid0.coords t 0 : Fin 8) ⟨(y 1).val - 4096, by omega⟩ (⟨1536 + x.val, by omega⟩ : Fin 2048))) _
end

/-- Over the extended reals the channel transform's kernel and its reference end with equal results. -/
theorem algebraic : @Cert.algebraic_Kernel7Ideal_Reference7Ideal Cert.Kernel7Ideal.Gen.facts Cert.Reference7Ideal.Gen.facts := by
  intro m g m' g' hp ha
  refine ⟨fun c => whole (m ((c.tc : Thread nD τ).loc main_arg0)), ?_, ?_⟩
  · refine (θ_run defs _ _).mono (fun r h c => ⟨(h c).1.trans ?_, (h c).2⟩) (Cert.Kernel7Ideal.Value.run_blocks m g)
    exact arr_eq m c
  · refine (θ_run Cert.Reference7Ideal.defs _ _).mono (fun r h c => ⟨(h c).1.trans ?_, (h c).2⟩) (Cert.Reference7Ideal.Value.run m' g')
    rw [Cert.Reference7Ideal.Read.val_main_v22_eq, ha c]
    exact ref_eq _

/-- The reference runs, keeps its arguments and ends with every counter at zero. -/
theorem frame_ref : @Cert.quiescent_Reference7Ideal Cert.Reference7Ideal.Gen.facts := fun m g _ =>
  (θ_run Cert.Reference7Ideal.defs _ _).mono (fun r h => ⟨fun c => (h c).2, sem_eq_zero_of_no_sems (by decide) r.2⟩) (Cert.Reference7Ideal.Value.run m g)

end Cert.NC
end
-- ==== Proof.PosT.lean ====
/- The position transform's tables, as the host operations before the call compute them. -/
module
public import proofs.«01_k».proof.Defs
public import proofs.«01_k».proof.Proof.Gen.Kernel8Ideal.Value
public import Idealize.ShloMosaic.Lib.Claim
public import Idealize.ShloMosaic.Lib.Pipeline.ValueKit
public import Idealize.ShloMosaic.Lib.StableHlo.RunRead
public import Idealize.ShloMosaic.Lib.Pointwise
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NG
open Cert.Kernel8Ideal Cert.Kernel8Ideal.Gen

/-- The remainder of the host's integer arrays by a number. -/
def remV (x : IVec S4096x64 32) (n : BitVec 32) : IVec S4096x64 32 :=
  let d0 : IVec S_ 32 := constantI S_ 32 n
  let d : IVec S_ 32 := select (cmpi .eq d0 (constantI S_ 32 0#32)) (constantI S_ 32 1#32) d0
  let D : IVec S4096x64 32 := broadcastInDim S4096x64 ![] bcast_S_S4096x64 d
  let r : IVec S4096x64 32 := Host.remsi x D
  let z : IVec S4096x64 32 := broadcastInDim S4096x64 ![] bcast_S_S4096x64 (constantI S_ 32 0#32)
  select (andi (cmpi .ne (cmpi .slt r z) (broadcastInDim S4096x64 ![] bcast_S_S4096x64 (cmpi .slt d (constantI S_ 32 0#32)))) (cmpi .ne r z)) (addi r D) r
/-- The step of the angle. -/
def unit : FVec Ideal S_ .f32 := Host.divf (mulf (constant S_ .f32 0x41000000#32) (Host.atan (constant S_ .f32 0x3F800000#32))) (constant S_ .f32 0x45800000#32)
/-- The angles of a row's number times each of sixty-four numbers. -/
def ang (k : IVec S64 32) : FVec Ideal S4096x64 .f32 :=
  mulf (broadcastInDim S4096x64 ![] bcast_S_S4096x64 unit) (sitofp .f32 (remV
    (muli (broadcastInDim S4096x64 ![0, 1] bcast_S4096x1_S4096x64_0_1 (broadcastInDim S4096x1 ![0] bcast_S4096_S4096x1_0 (iotaInDim S4096 32 0)))
      (broadcastInDim S4096x64 ![0, 1] bcast_S1x64_S4096x64_0_1 (broadcastInDim S1x64 ![1] bcast_S64_S1x64_1 k))) 4096#32))
/-- The multiples of sixty-four. -/
def kHi : IVec S64 32 := muli (iotaInDim S64 32 0) (broadcastInDim S64 ![] bcast_S_S64 (constantI S_ 32 64#32))
/-- A table of the first angle along the second axis. -/
def onHi (a : FVec Ideal S4096x64 .f32) : FVec Ideal S4096x64x64 .f32 :=
  broadcastInDim S4096x64x64 ![0, 1, 2] bcast_S4096x64x1_S4096x64x64_0_1_2 (broadcastInDim S4096x64x1 ![0, 1] bcast_S4096x64_S4096x64x1_0_1 a)
/-- A table of the second angle along the third axis. -/
def onLo (a : FVec Ideal S4096x64 .f32) : FVec Ideal S4096x64x64 .f32 :=
  broadcastInDim S4096x64x64 ![0, 1, 2] bcast_S4096x1x64_S4096x64x64_0_1_2 (broadcastInDim S4096x1x64 ![0, 2] bcast_S4096x64_S4096x1x64_0_2 a)
/-- The table of cosines. -/
def cosT : FVec Ideal S4096x4096 .fp8e4m3 :=
  shapeCast S4096x4096 (Host.convertf .fp8e4m3 (subf (mulf (onHi (Host.cos (ang kHi))) (onLo (Host.cos (ang (iotaInDim S64 32 0)))))
    (mulf (onHi (Host.sin (ang kHi))) (onLo (Host.sin (ang (iotaInDim S64 32 0))))))) shapeCasts_S4096x64x64_S4096x4096
/-- The table of sines. -/
def sinT : FVec Ideal S4096x4096 .fp8e4m3 :=
  shapeCast S4096x4096 (Host.convertf .fp8e4m3 (addf (mulf (onHi (Host.sin (ang kHi))) (onLo (Host.cos (ang (iotaInDim S64 32 0)))))
    (mulf (onHi (Host.cos (ang kHi))) (onLo (Host.sin (ang (iotaInDim S64 32 0))))))) shapeCasts_S4096x64x64_S4096x4096

/-- The remainder of one number by 4096, as the host's operations write it. -/
def remS (x : BitVec 32) : BitVec 32 :=
  let d := Scalar.select (IntOp.cmpi CmpIPredicate.eq 4096#32 0#32) 1#32 4096#32
  let r := IntOp.remsi ArithUnit.host x d
  Scalar.select (IntOp.andi (IntOp.cmpi CmpIPredicate.ne (IntOp.cmpi CmpIPredicate.slt r 0#32) (IntOp.cmpi CmpIPredicate.slt d 0#32))
    (IntOp.cmpi CmpIPredicate.ne r 0#32)) (IntOp.addi r d) r
/-- The angle of a number's remainder. -/
def angS (x : BitVec 32) : EReal :=
  Ideal.div (Ideal.ofBits FTy.f32 1090519040#32 * Ideal.atan 1) (Ideal.ofBits FTy.f32 1166016512#32) * FloatOps.sitofp (F := Ideal) FTy.f32 (remS x)

/-- Of a nonnegative number it is the remainder. -/
theorem remS_toInt (x : BitVec 32) (hx : 2 * x.toNat < 2 ^ 32) : (remS x).toInt = ((x.toNat % 4096 : ℕ) : ℤ) := by
  have hd : Scalar.select (IntOp.cmpi CmpIPredicate.eq 4096#32 0#32) 1#32 4096#32 = 4096#32 := by decide
  have hr : (IntOp.remsi ArithUnit.host x 4096#32).toNat = x.toNat % 4096 := IntOp.toNat_remsi _ hx 4096 (by omega) (by omega)
  unfold remS
  simp only [hd]
  generalize IntOp.remsi ArithUnit.host x 4096#32 = r at hr
  have hi : r.toInt = ((x.toNat % 4096 : ℕ) : ℤ) := by rw [BitVec.toInt_eq_toNat_of_lt (by omega), hr]
  have h0 : IntOp.cmpi CmpIPredicate.slt r 0#32 = 0#1 := by
    show BitVec.ofBool (r.slt 0#32) = 0#1
    have : r.slt 0#32 = false := by
      rw [BitVec.slt, decide_eq_false_iff_not, hi, BitVec.toInt_zero]
      omega
    rw [this]; rfl
  have h1 : IntOp.cmpi CmpIPredicate.slt 4096#32 0#32 = 0#1 := by decide
  have h2 : IntOp.cmpi CmpIPredicate.ne 0#1 0#1 = 0#1 := by decide
  rw [h0, h1, h2]
  have h3 : ∀ b : BitVec 1, IntOp.andi 0#1 b = 0#1 := by decide
  rw [h3]
  exact hi

/-- The angle is the number's remainder times a turn's 4096th part. -/
theorem angS_eq (x : BitVec 32) (hx : 2 * x.toNat < 2 ^ 32) : angS x = ((2 * Real.pi / 4096 * ((x.toNat % 4096 : ℕ) : ℝ) : ℝ) : EReal) := by
  have h8 : Ideal.ofBits FTy.f32 1090519040#32 = ((8 : ℝ) : EReal) := by simp [Ideal.ofBits, Ideal.ieee]; rw [← EReal.coe_mul]; congr 1; norm_num
  have h4 : Ideal.ofBits FTy.f32 1166016512#32 = ((4096 : ℝ) : EReal) := by simp [Ideal.ofBits, Ideal.ieee]; rw [← EReal.coe_mul]; congr 1; norm_num
  have ha : Ideal.atan 1 = ((Real.pi / 4 : ℝ) : EReal) := by
    show ((Real.arctan 1 : ℝ) : EReal) = _
    rw [Real.arctan_one]
  have hs : (FloatOps.sitofp (F := Ideal) FTy.f32 (remS x) : EReal) = (((x.toNat % 4096 : ℕ) : ℝ) : EReal) := by
    show (((remS x).toInt : ℝ) : EReal) = _
    rw [remS_toInt x hx]; norm_cast
  unfold angS
  rw [h8, h4, ha, hs, Ideal.div, if_neg (by norm_cast), ← EReal.coe_inv, ← EReal.coe_mul, ← EReal.coe_mul, ← EReal.coe_mul]
  congr 1
  ring

/-- Whole turns leave the cosine and the sine. -/
theorem turn (N : ℕ) : 2 * Real.pi / 4096 * (N : ℝ) = 2 * Real.pi / 4096 * ((N % 4096 : ℕ) : ℝ) + ((N / 4096 : ℕ) : ℝ) * (2 * Real.pi) := by
  have h : (N : ℝ) = 4096 * ((N / 4096 : ℕ) : ℝ) + ((N % 4096 : ℕ) : ℝ) := by exact_mod_cast (Nat.div_add_mod N 4096).symm
  rw [h]; ring
theorem cos_turn (N : ℕ) : Real.cos (2 * Real.pi / 4096 * ((N % 4096 : ℕ) : ℝ)) = Real.cos (2 * Real.pi / 4096 * (N : ℝ)) := by
  rw [turn N, Real.cos_add_nat_mul_two_pi]
theorem sin_turn (N : ℕ) : Real.sin (2 * Real.pi / 4096 * ((N % 4096 : ℕ) : ℝ)) = Real.sin (2 * Real.pi / 4096 * (N : ℝ)) := by
  rw [turn N, Real.sin_add_nat_mul_two_pi]
theorem cos_ang (x : BitVec 32) (hx : 2 * x.toNat < 2 ^ 32) : Ideal.cos (angS x) = ((Real.cos (2 * Real.pi / 4096 * (x.toNat : ℝ)) : ℝ) : EReal) := by
  rw [angS_eq x hx, ← cos_turn]; rfl
theorem sin_ang (x : BitVec 32) (hx : 2 * x.toNat < 2 ^ 32) : Ideal.sin (angS x) = ((Real.sin (2 * Real.pi / 4096 * (x.toNat : ℝ)) : ℝ) : EReal) := by
  rw [angS_eq x hx, ← sin_turn]; rfl

/-- The two tables of the kernel's angles, at a row and a column. -/
theorem ang_apply (k : IVec S64 32) (p : Fin 4096) (q : Fin 64) : ang k (ix2 p q) = angS (IntOp.muli (BitVec.ofNat 32 p.val) (k (ix1 q))) := by
  unfold angS remS
  pointwise [ang, remV, unit]
theorem kHi_apply (q : Fin 64) : kHi (ix1 q) = IntOp.muli (BitVec.ofNat 32 q.val) 64#32 := by
  pointwise [kHi]
theorem kLo_apply (q : Fin 64) : (iotaInDim S64 32 0) (ix1 q) = BitVec.ofNat 32 q.val := by
  pointwise []
theorem mul_toNat (a b : ℕ) (h : a * b < 2 ^ 31) : (IntOp.muli (BitVec.ofNat 32 a) (BitVec.ofNat 32 b)).toNat = a * b := by
  show (BitVec.ofNat 32 a * BitVec.ofNat 32 b).toNat = a * b
  rw [BitVec.toNat_mul, BitVec.toNat_ofNat, BitVec.toNat_ofNat, ← Nat.mul_mod]
  exact Nat.mod_eq_of_lt (by omega)
theorem le_hi (p : Fin 4096) (q : ℕ) (hq : q < 4096) : p.val * q < 2 ^ 31 :=
  lt_of_le_of_lt (Nat.mul_le_mul (Nat.le_of_lt p.isLt) (Nat.le_of_lt hq)) (by norm_num)
theorem ang_hi (p : Fin 4096) (q : Fin 64) : ang kHi (ix2 p q) = angS (IntOp.muli (BitVec.ofNat 32 p.val) (BitVec.ofNat 32 (q.val * 64))) := by
  have h : IntOp.muli (BitVec.ofNat 32 q.val) 64#32 = BitVec.ofNat 32 (q.val * 64) := by
    apply BitVec.eq_of_toNat_eq
    rw [mul_toNat q.val 64 (by omega), BitVec.toNat_ofNat, Nat.mod_eq_of_lt (by omega)]
  rw [ang_apply, kHi_apply, h]
theorem ang_lo (p : Fin 4096) (q : Fin 64) : ang (iotaInDim S64 32 0) (ix2 p q) = angS (IntOp.muli (BitVec.ofNat 32 p.val) (BitVec.ofNat 32 q.val)) := by
  rw [ang_apply, kLo_apply]

/-- The angle of a row's number times a column's number, added up from its two parts. -/
theorem parts (p q : Fin 4096) : 2 * Real.pi / 4096 * ((p.val * (q.val / 64 * 64) : ℕ) : ℝ) + 2 * Real.pi / 4096 * ((p.val * (q.val % 64) : ℕ) : ℝ)
    = 2 * Real.pi / 4096 * ((p.val * q.val : ℕ) : ℝ) := by
  have h : p.val * q.val = p.val * (q.val / 64 * 64) + p.val * (q.val % 64) := by rw [← Nat.mul_add, Nat.div_add_mod']
  rw [h]; push_cast; ring

/-- The cosine at a row and a column. -/
theorem cosT_apply (p q : Fin 4096) : cosT (ix2 p q) = Ideal.cos (angS (IntOp.muli (BitVec.ofNat 32 p.val) (BitVec.ofNat 32 q.val))) := by
  have h1 : q.val / 64 * 64 < 4096 := by omega
  have h2 : q.val % 64 < 4096 := by omega
  have h : cosT (ix2 p q) = Ideal.cos (ang kHi (ix2 p ⟨q.val / 64, by omega⟩)) * Ideal.cos (ang (iotaInDim S64 32 0) (ix2 p ⟨q.val % 64, by omega⟩))
      - Ideal.sin (ang kHi (ix2 p ⟨q.val / 64, by omega⟩)) * Ideal.sin (ang (iotaInDim S64 32 0) (ix2 p ⟨q.val % 64, by omega⟩)) := by
    pointwise [cosT, onHi, onLo]
  rw [h, ang_hi, ang_lo, cos_ang _ (by rw [mul_toNat _ _ (le_hi p _ h1)]; have := le_hi p _ h1; omega), cos_ang _ (by rw [mul_toNat _ _ (le_hi p _ h2)]; have := le_hi p _ h2; omega),
    sin_ang _ (by rw [mul_toNat _ _ (le_hi p _ h1)]; have := le_hi p _ h1; omega), sin_ang _ (by rw [mul_toNat _ _ (le_hi p _ h2)]; have := le_hi p _ h2; omega),
    cos_ang _ (by rw [mul_toNat _ _ (le_hi p _ q.isLt)]; have := le_hi p _ q.isLt; omega),
    mul_toNat _ _ (le_hi p _ h1), mul_toNat _ _ (le_hi p _ h2), mul_toNat _ _ (le_hi p _ q.isLt), ← parts, Real.cos_add]
  norm_cast
/-- The sine at a row and a column. -/
theorem sinT_apply (p q : Fin 4096) : sinT (ix2 p q) = Ideal.sin (angS (IntOp.muli (BitVec.ofNat 32 p.val) (BitVec.ofNat 32 q.val))) := by
  have h1 : q.val / 64 * 64 < 4096 := by omega
  have h2 : q.val % 64 < 4096 := by omega
  have h : sinT (ix2 p q) = Ideal.sin (ang kHi (ix2 p ⟨q.val / 64, by omega⟩)) * Ideal.cos (ang (iotaInDim S64 32 0) (ix2 p ⟨q.val % 64, by omega⟩))
      + Ideal.cos (ang kHi (ix2 p ⟨q.val / 64, by omega⟩)) * Ideal.sin (ang (iotaInDim S64 32 0) (ix2 p ⟨q.val % 64, by omega⟩)) := by
    pointwise [sinT, onHi, onLo]
  rw [h, ang_hi, ang_lo, sin_ang _ (by rw [mul_toNat _ _ (le_hi p _ h1)]; have := le_hi p _ h1; omega), cos_ang _ (by rw [mul_toNat _ _ (le_hi p _ h2)]; have := le_hi p _ h2; omega),
    cos_ang _ (by rw [mul_toNat _ _ (le_hi p _ h1)]; have := le_hi p _ h1; omega), sin_ang _ (by rw [mul_toNat _ _ (le_hi p _ h2)]; have := le_hi p _ h2; omega),
    sin_ang _ (by rw [mul_toNat _ _ (le_hi p _ q.isLt)]; have := le_hi p _ q.isLt; omega),
    mul_toNat _ _ (le_hi p _ h1), mul_toNat _ _ (le_hi p _ h2), mul_toNat _ _ (le_hi p _ q.isLt), ← parts, Real.sin_add]
  norm_cast

section
variable (m : (ℓ : Loc nD τ sig) → Buf (Elt Ideal) ℓ) (c : Dev nD)
theorem tabc : V m c main_v44 = cosT := by
  unfold_abbrev_sides
  simp only [List.flatten_cons, List.flatten_nil, List.append_nil, List.cons_append, List.nil_append, TRef.binary, TRef.ternary, TRef.unary, TRef.reshape, TRef.toBuf, TRef.ofBuf, cast_eq, id]
  after_reads_simp
  rfl
theorem tabs : V m c main_v53 = sinT := by
  unfold_abbrev_sides
  simp only [List.flatten_cons, List.flatten_nil, List.append_nil, List.cons_append, List.nil_append, TRef.binary, TRef.ternary, TRef.unary, TRef.reshape, TRef.toBuf, TRef.ofBuf, cast_eq, id]
  after_reads_simp
  rfl
end
end Cert.NG
end
-- ==== Proof.Pos.lean ====
/- The position transform's product: the kernel's block, its whole result, the reference and the claim. -/
module
public import proofs.«01_k».proof.Proof.PosT
public import proofs.«01_k».proof.Proof.Gen.Reference8Ideal.Run
public import proofs.«01_k».proof.Proof.Gen.Reference8Ideal.Read
public import Idealize.ShloMosaic.Lib.Claim
public import Idealize.ShloMosaic.Lib.Pipeline.ValueKit
public import Idealize.ShloMosaic.Lib.StableHlo.RunRead
public import Idealize.ShloMosaic.Lib.Pointwise
@[expose] public section
set_option maxRecDepth 16384
noncomputable section
open Idealize.ShloMosaic Idealize.ShloMosaic.TcCoe Idealize.ShloMosaic.Tactic Idealize.SL.Sem Idealize.ShloMosaic.StableHlo
open Idealize.ShloMosaic.Pipeline (Dat)
namespace Cert.NG
open Cert.Kernel8Ideal Cert.Kernel8Ideal.Gen

/-- What the body stores, at a row and a channel. -/
theorem pay_apply (v0 : Vec Ideal S512x4096 .fp8e4m3) (v2 : Vec Ideal S1x4096x256 .fp8e4m3) (v5 : Vec Ideal S512x4096 .fp8e4m3) (v7 : Vec Ideal S1x4096x256 .fp8e4m3)
    (r : Fin 512) (n : Fin 256) : k0_pay1 v0 v2 v5 v7 (ix3 0 r n)
      = ((∑ x, v0 (ix2 r x) * v2 (ix3 0 x n)) + ∑ x, v5 (ix2 r x) * v7 (ix3 0 x n)) * Ideal.ofBits FTy.f32 989855744#32 := by
  pointwise [k0_pay1]

/-- The angle of a row and a position. -/
def an (p x : Fin 4096) : EReal := angS (IntOp.muli (BitVec.ofNat 32 p.val) (BitVec.ofNat 32 x.val))

/-- The result from the argument. -/
def whole (z : Vec Ideal S8x8192x256 .f32) : S8x4096x256.Idx → EReal := fun i =>
  ((∑ x : Fin 4096, z (ix3 (i 0) ⟨x.val, by omega⟩ (i 2)) * Ideal.cos (an (i 1) x))
    + ∑ x : Fin 4096, z (ix3 (i 0) ⟨4096 + x.val, by omega⟩ (i 2)) * Ideal.sin (an (i 1) x)) * Ideal.ofBits FTy.f32 989855744#32

section
open Cert.Reference8Ideal.Read
theorem ref_ang (p q : Fin 4096) : val_main_v12 (F := Ideal) (ix2 p q) = an p q := by
  unfold an angS remS
  pointwise [val_main_v12,val_main_v11,val_main_v10,val_main_v9,val_main_call0_v14,val_main_call0_v13,val_main_call0_v12,val_main_call0_v11,val_main_call0_v10,val_main_call0_v9,val_main_call0_c_3,val_main_call0_v8,val_main_call0_v7,val_main_call0_c_2,val_main_call0_v6,val_main_call0_v5,val_main_call0_c_1,val_main_call0_v4,val_main_call0_v3,val_main_call0_v2,val_main_call0_c_0,val_main_call0_v1,val_main_call0_c,val_main_call0_v0,val_main_c,val_main_v8,val_main_v7,val_main_v6,val_main_v5,val_main_v4,val_main_v3,val_main_cst_1,val_main_v2,val_main_v1,val_main_cst_0,val_main_v0,val_main_cst]
  rfl
/-- The reference's result. -/
theorem ref_eq (z : Vec Ideal S8x8192x256 .f32) : val_main_v24 (F := Ideal) z = whole z := by
  funext i
  obtain ⟨b, L, n, rfl⟩ : ∃ (b : Fin 8) (L : Fin 4096) (n : Fin 256), i = ix3 b L n :=
    ⟨i 0, i 1, i 2, by funext d; fin_cases d <;> rfl⟩
  show _ = ((∑ x : Fin 4096, z (ix3 b ⟨x.val, _⟩ n) * Ideal.cos (an L x)) + ∑ x : Fin 4096, z (ix3 b ⟨4096 + x.val, _⟩ n) * Ideal.sin (an L x)) * Ideal.ofBits FTy.f32 989855744#32
  simp only [← ref_ang]
  pointwise [val_main_v24,val_main_v23,val_main_v22,val_main_cst_2,val_main_v21,val_main_v20,val_main_v19,val_main_v18,val_main_v17,val_main_v16,val_main_v15,val_main_v14,val_main_v13]
end

theorem hz2 : (![0, 0] : Fin 2 → Nat) = fun _ => 0 := funext fun a => by fin_cases a <;> rfl
theorem ld_lo (x2 : Vec Ideal S1x8192x256 .fp8e4m3) (x : Fin 4096) (n : Fin 256) :
    View.ld x2 r0_1 (ix3 0 x n : S1x4096x256.Idx) = x2 (ix3 0 (⟨x.val, by omega⟩ : Fin 8192) n) := by
  refine congrArg x2 (funext fun a => Fin.ext ((ValueKit.rect_emb_unit_val _ _ _ _ _).trans ?_))
  fin_cases a
  exacts [rfl, Nat.zero_add _, Nat.zero_add _]
theorem ld_hi (x2 : Vec Ideal S1x8192x256 .fp8e4m3) (x : Fin 4096) (n : Fin 256) :
    View.ld x2 r0_2 (ix3 0 x n : S1x4096x256.Idx) = x2 (ix3 0 (⟨4096 + x.val, by omega⟩ : Fin 8192) n) := by
  refine congrArg x2 (funext fun a => Fin.ext ((ValueKit.rect_emb_unit_val _ _ _ _ _).trans ?_))
  fin_cases a
  exacts [rfl, rfl, Nat.zero_add _]

theorem hz3 : (![0, 0, 0] : Fin 3 → Nat) = fun _ => 0 := funext fun a => by fin_cases a <;> rfl
/-- The output block at a row and a channel. -/
theorem out_apply (x0 x1 : Vec Ideal S512x4096 .fp8e4m3) (x2 : Vec Ideal S1x8192x256 .fp8e4m3) (r : Fin 512) (n : Fin 256) : out0_3 x0 x1 x2 (ix3 0 r n)
    = ((∑ x : Fin 4096, x0 (ix2 r x) * x2 (ix3 0 (⟨x.val, by omega⟩ : Fin 8192) n))
      + ∑ x : Fin 4096, x1 (ix2 r x) * x2 (ix3 0 (⟨4096 + x.val, by omega⟩ : Fin 8192) n)) * Ideal.ofBits FTy.f32 989855744#32 := by
  unfold out0_3
  rw [View.canon_unit_zero hz3, show View.ld x0 r0_0 = x0 from View.ld_unit_zero hz2 _ x0, show View.ld x1 r0_0 = x1 from View.ld_unit_zero hz2 _ x1, pay_apply]
  exact congrArg (· * _) (congrArg₂ (· + ·) (Finset.sum_congr rfl fun x _ => congrArg (_ * ·) (ld_lo x2 x n)) (Finset.sum_congr rfl fun x _ => congrArg (_ * ·) (ld_hi x2 x n)))

section
variable (m : (ℓ : Loc nD τ sig) → Buf (Elt Ideal) ℓ) (c : Dev nD)

/-- The block each window is on at a grid point. -/
theorem idx : ∀ t : Fin cfg0.N, win0_0.index t = ![(grid0.coords t 0).val, 0] ∧ win0_1.index t = ![(grid0.coords t 0).val, 0]
    ∧ win0_2.index t = ![(grid0.coords t 1).val, 0, 0] ∧ win0_3.index t = ![(grid0.coords t 1).val, (grid0.coords t 0).val, 0] :=
  (by decide +kernel : ∀ t : Fin grid0.N, win0_0.index t = ![(grid0.coords t 0).val, 0] ∧ win0_1.index t = ![(grid0.coords t 0).val, 0]
    ∧ win0_2.index t = ![(grid0.coords t 1).val, 0, 0] ∧ win0_3.index t = ![(grid0.coords t 1).val, (grid0.coords t 0).val, 0])

/-- The row a block's row is. -/
def row (j : Fin 8) (r : Fin 512) : Fin 4096 := ⟨j.val * 512 + r.val, by omega⟩

theorem iblk0 (t : Fin cfg0.N) (r : Fin 512) (x : Fin 4096) : iblk m c 0 t (ix2 r x) = Ideal.cos (an (row (grid0.coords t 0) r) x) := by
  have h2 : iblk m c 0 t (ix2 r x) = V m c main_v44 (ix2 (row (grid0.coords t 0) r) x) := by unfold row; blk_ext [iblk, idx t]
  exact h2.trans ((congrFun (tabc m c) _).trans (cosT_apply _ _))
theorem iblk1 (t : Fin cfg0.N) (r : Fin 512) (x : Fin 4096) : iblk m c 1 t (ix2 r x) = Ideal.sin (an (row (grid0.coords t 0) r) x) := by
  have h2 : iblk m c 1 t (ix2 r x) = V m c main_v53 (ix2 (row (grid0.coords t 0) r) x) := by unfold row; blk_ext [iblk, idx t]
  exact h2.trans ((congrFun (tabs m c) _).trans (sinT_apply _ _))
theorem iblk2 (t : Fin cfg0.N) (x : Fin 8192) (n : Fin 256) :
    iblk m c 2 t (ix3 0 x n) = m ((c : Thread nD τ).loc main_arg0) (ix3 (grid0.coords t 1 : Fin 8) x n) := by
  have h : (V m c main_v0 : S8x8192x256.Idx → EReal) = m ((c : Thread nD τ).loc main_arg0) := by
    unfold_abbrev_sides
    simp only [List.flatten_cons, List.flatten_nil, List.append_nil, List.cons_append, List.nil_append, TRef.binary, TRef.ternary, TRef.unary, TRef.reshape, TRef.toBuf, TRef.ofBuf, cast_eq, id]
    after_reads_simp
    rfl
  have h2 : iblk m c 2 t (ix3 0 x n) = V m c main_v0 (ix3 (grid0.coords t 1 : Fin 8) x n) := by blk_ext [iblk, idx t]
  exact h2.trans (congrFun h _)

/-- The result array after the run. -/
theorem arr_eq : (dats m 0 c).arrAt 3 cfg0.N = whole (m ((c : Thread nD τ).loc main_arg0)) := by
  refine (dats m 0 c).arrAt_eq_of_covers 3 _ (by decide +kernel) fun t hf y => ?_
  blk_simp
  rw [after0_3]
  have h0 : (y 0).val < 1 := (y 0).isLt
  have h1 : (y 1).val < 512 := (y 1).isLt
  have h2 : (y 2).val < 256 := (y 2).isLt
  have hy : (cfg0.win 3).xinj (cfg0.grid.coords t) y = ix3 0 ⟨(y 1).val, h1⟩ ⟨(y 2).val, h2⟩ := by
    funext a; apply Fin.ext; fin_cases a
    · show (y 0).val = 0; omega
    · rfl
    · rfl
  have he : ((cfg0.win 3).blk t).view.emb y
      = (ix3 (grid0.coords t 1 : Fin 8) (row (grid0.coords t 0) ⟨(y 1).val, h1⟩) (⟨(y 2).val, h2⟩ : Fin 256) : S8x4096x256.Idx) := by
    unfold row; blk_ext [idx t]
  rw [he]
  refine (congrArg (out0_3 (iblk m c 0 t) (iblk m c 1 t) (iblk m c 2 t)) hy).trans ((out_apply _ _ _ _ _).trans ?_)
  refine congrArg (· * _) (congrArg₂ (· + ·) (Finset.sum_congr rfl fun x _ => ?_) (Finset.sum_congr rfl fun x _ => ?_))
  · rw [iblk0, iblk2, mul_comm]; rfl
  · rw [iblk1, iblk2, mul_comm]; rfl
end

/-- Over the extended reals the position transform's kernel and its reference end with equal results. -/
theorem algebraic : @Cert.algebraic_Kernel8Ideal_Reference8Ideal Cert.Kernel8Ideal.Gen.facts Cert.Reference8Ideal.Gen.facts := by
  intro m g m' g' hp ha
  refine ⟨fun c => whole (m ((c.tc : Thread nD τ).loc main_arg0)), ?_, ?_⟩
  · refine (θ_run defs _ _).mono (fun r h c => ⟨(h c).1.trans ?_, (h c).2⟩) (Cert.Kernel8Ideal.Value.run_blocks m g)
    exact arr_eq m c
  · refine (θ_run Cert.Reference8Ideal.defs _ _).mono (fun r h c => ⟨(h c).1.trans ?_, (h c).2⟩) (Cert.Reference8Ideal.Value.run m' g')
    rw [Cert.Reference8Ideal.Read.val_main_v24_eq, ha c]
    exact ref_eq _

/-- The reference runs, keeps its arguments and ends with every counter at zero. -/
theorem frame_ref : @Cert.quiescent_Reference8Ideal Cert.Reference8Ideal.Gen.facts := fun m g _ =>
  (θ_run Cert.Reference8Ideal.defs _ _).mono (fun r h => ⟨fun c => (h c).2, sem_eq_zero_of_no_sems (by decide) r.2⟩) (Cert.Reference8Ideal.Value.run m g)

end Cert.NG
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Final
public import proofs.«01_k».proof.Proof.Proj
public import proofs.«01_k».proof.Proof.Front
public import proofs.«01_k».proof.Proof.MergeF
public import proofs.«01_k».proof.Proof.Ada
public import proofs.«01_k».proof.Proof.CtxF
public import proofs.«01_k».proof.Proof.Chan
public import proofs.«01_k».proof.Proof.Pos
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.NA.finite_facts,
    Cert.NX.finite_facts,
    fun m ρ _ => Cert.Kernel.Gen.frame m ρ,
    fun m ρ _ => Cert.KernelIdeal.Gen.frame m ρ,
    fun m ρ _ => Cert.KernelIdeal.Gen.frame m ρ,
    fun m ρ _ => Cert.NA.frame_ref m ρ,
    fun m ρ _ => Cert.NA.frame_ref m ρ,
    fun m ρ _ => Cert.Kernel2.Gen.frame m ρ,
    fun m ρ _ => Cert.Kernel2Ideal.Gen.frame m ρ,
    Cert.NP.frame_ref,
    fun m ρ _ => Cert.Kernel3.Gen.frame m ρ,
    fun m ρ _ => Cert.Kernel3Ideal.Gen.frame m ρ,
    Cert.NF.frame_ref,
    fun m ρ _ => Cert.Kernel4.Gen.frame m ρ,
    fun m ρ _ => Cert.Kernel4Ideal.Gen.frame m ρ,
    Cert.NM.frame_ref,
    fun m ρ _ => Cert.Kernel5.Gen.frame m ρ,
    fun m ρ _ => Cert.Kernel5Ideal.Gen.frame m ρ,
    Cert.NQ.frame_ref,
    fun m ρ _ => Cert.Kernel6.Gen.frame m ρ,
    fun m ρ _ => Cert.Kernel6Ideal.Gen.frame m ρ,
    fun m ρ _ => Cert.Kernel6Ideal.Gen.frame m ρ,
    Cert.NX.frame_ref,
    Cert.NX.frame_ref_fin,
    fun m ρ _ => Cert.Kernel7.Gen.frame m ρ,
    fun m ρ _ => Cert.Kernel7Ideal.Gen.frame m ρ,
    Cert.NC.frame_ref,
    fun m ρ _ => Cert.Kernel8.Gen.frame m ρ,
    fun m ρ _ => Cert.Kernel8Ideal.Gen.frame m ρ,
    Cert.NG.frame_ref,
    trivial,
    Cert.NA.algebraic,
    trivial,
    Cert.NP.algebraic,
    trivial,
    Cert.NF.algebraic,
    trivial,
    Cert.NM.algebraic,
    trivial,
    Cert.NQ.algebraic,
    trivial,
    Cert.NX.algebraic,
    trivial,
    Cert.NC.algebraic,
    trivial,
    Cert.NG.algebraic⟩

end Cert.Proof

end
